-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v185_0)) (v1 : (c : Dev Cert.Kernel4Ideal.nD) → Buf (Elt Ideal) ((c.tc : Thread Cert.Kernel4Ideal.nD Cert.Kernel4Ideal.τ).loc Cert.Kernel4Ideal.main_v185_1)) (v2 : (c : Dev Cert.Kernel4Ideal.nD) → Buf (Elt Ideal) ((c.tc : Thread Cert.Kernel4Ideal.nD Cert.Kernel4Ideal.τ).loc Cert.Kernel4Ideal.main_v185_2)) (v3 : (c : Dev Cert.Kernel4Ideal.nD) → Buf (Elt Ideal) ((c.tc : Thread Cert.Kernel4Ideal.nD Cert.Kernel4Ideal.τ).loc Cert.Kernel4Ideal.main_v185_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v185_0) = v0 c
          ∧ r.2.mem ((c.tc : Thread Cert.Kernel4Ideal.nD Cert.Kernel4Ideal.τ).loc Cert.Kernel4Ideal.main_v185_1) = v1 c
          ∧ r.2.mem ((c.tc : Thread Cert.Kernel4Ideal.nD Cert.Kernel4Ideal.τ).loc Cert.Kernel4Ideal.main_v185_2) = v2 c
          ∧ r.2.mem ((c.tc : Thread Cert.Kernel4Ideal.nD Cert.Kernel4Ideal.τ).loc Cert.Kernel4Ideal.main_v185_5) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v161) = v0 c
          ∧ r.2.mem ((c.tc : Thread Cert.Reference4Ideal.nD Cert.Reference4Ideal.τ).loc Cert.Reference4Ideal.main_v172) = v1 c
          ∧ r.2.mem ((c.tc : Thread Cert.Reference4Ideal.nD Cert.Reference4Ideal.τ).loc Cert.Reference4Ideal.main_v173) = v2 c
          ∧ r.2.mem ((c.tc : Thread Cert.Reference4Ideal.nD Cert.Reference4Ideal.τ).loc Cert.Reference4Ideal.main_v176) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S4x8192x8x96 : Shape := ⟨4, ![4, 8192, 8, 96]⟩
abbrev S4x8192x8x64 : Shape := ⟨4, ![4, 8192, 8, 64]⟩
abbrev S_ : Shape := ⟨0, ![]⟩

class Facts : Prop where
  bcast_S_S4x8192x8x96 : S_.BroadcastsInDim S4x8192x8x96 (![] : Fin 0 → Fin S4x8192x8x96.rank)
  reducesTo_S4x8192x8x96_S_d0_1_2_3 : S4x8192x8x96.ReducesTo [0, 1, 2, 3] S_
  h_S_ : 0 < S_.numel

variable [Facts]

def fn {F : FTy → Type} [FloatOps F] (main_arg0 : FVec F S4x8192x8x96 .f32) (main_arg1 : FVec F S4x8192x8x96 .f32) (main_arg2 : FVec F S4x8192x8x64 .f32) : IVec S_ 1 :=
  let main_v0 : FVec F S4x8192x8x96 .f32 := Host.absf main_arg0
  let main_cst : FVec F S_ .f32 := constant S_ .f32 0x7F800000#32
  let main_v1 : FVec F S4x8192x8x96 .f32 := broadcastInDim S4x8192x8x96 ![] bcast_S_S4x8192x8x96 main_cst
  let main_v2 : IVec S4x8192x8x96 1 := cmpf .olt main_v0 main_v1
  let main_c : IVec S_ 1 := constantI S_ 1 1#1
  let main_v3 : IVec S_ 1 := (fun x v => Host.reduce IntOp.andi x v reducesTo_S4x8192x8x96_S_d0_1_2_3 h_S_) main_v2 main_c
  let main_v4 : FVec F S4x8192x8x96 .f32 := Host.absf main_arg1
  let main_cst_0 : FVec F S_ .f32 := constant S_ .f32 0x7F800000#32
  let main_v5 : FVec F S4x8192x8x96 .f32 := broadcastInDim S4x8192x8x96 ![] bcast_S_S4x8192x8x96 main_cst_0
  let main_v6 : IVec S4x8192x8x96 1 := cmpf .olt main_v4 main_v5
  let main_c_1 : IVec S_ 1 := constantI S_ 1 1#1
  let main_v7 : IVec S_ 1 := (fun x v => Host.reduce IntOp.andi x v reducesTo_S4x8192x8x96_S_d0_1_2_3 h_S_) main_v6 main_c_1
  let main_v8 : IVec S_ 1 := andi main_v3 main_v7
  main_v8
-- ==== Kernel.lean ====
abbrev S4x8192x8x96 : Shape := ⟨4, ![4, 8192, 8, 96]⟩
abbrev S4x8192x8x64 : Shape := ⟨4, ![4, 8192, 8, 64]⟩
abbrev S96 : Shape := ⟨1, ![96]⟩
abbrev S_ : Shape := ⟨0, ![]⟩
abbrev S96x1 : Shape := ⟨2, ![96, 1]⟩
abbrev S4x8192x8x128 : Shape := ⟨4, ![4, 8192, 8, 128]⟩
abbrev S4x8192x1024 : Shape := ⟨3, ![4, 8192, 1024]⟩
abbrev S32768x512 : Shape := ⟨2, ![32768, 512]⟩
abbrev S512x32768 : Shape := ⟨2, ![512, 32768]⟩
abbrev S4x8192x512 : Shape := ⟨3, ![4, 8192, 512]⟩
abbrev S1x8192x256 : Shape := ⟨3, ![1, 8192, 256]⟩
abbrev S128x8192 : Shape := ⟨2, ![128, 8192]⟩
abbrev S1x8192x128 : Shape := ⟨3, ![1, 8192, 128]⟩
abbrev S16x2x512x256 : Shape := ⟨4, ![16, 2, 512, 256]⟩
abbrev S16x2x8x256 : Shape := ⟨4, ![16, 2, 8, 256]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S1x1x512x256 : Shape := ⟨4, ![1, 1, 512, 256]⟩
abbrev S64x8x256 : Shape := ⟨3, ![64, 8, 256]⟩
abbrev S8x256 : Shape := ⟨2, ![8, 256]⟩
abbrev S1x1x8x256 : Shape := ⟨4, ![1, 1, 8, 256]⟩
abbrev S1x256 : Shape := ⟨2, ![1, 256]⟩
abbrev S80x256 : Shape := ⟨2, ![80, 256]⟩
abbrev S256 : Shape := ⟨1, ![256]⟩
abbrev S64x512 : Shape := ⟨2, ![64, 512]⟩
abbrev S16x512 : Shape := ⟨2, ![16, 512]⟩
abbrev S80x512 : Shape := ⟨2, ![80, 512]⟩
abbrev S64x256 : Shape := ⟨2, ![64, 256]⟩
abbrev S128x256 : Shape := ⟨2, ![128, 256]⟩

abbrev nBuf : Space → Nat
  | .hbm => 38
  | .vmem => 10
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S96, .i32⟩
  | .hbm, ⟨4, _⟩ => ⟨S96, .i1⟩
  | .hbm, ⟨5, _⟩ => ⟨S96, .i1⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x8x96, .f32⟩
  | .hbm, ⟨11, _⟩ => ⟨S4x8192x8x96, .f32⟩
  | .hbm, ⟨12, _⟩ => ⟨S_, .i32⟩
  | .hbm, ⟨13, _⟩ => ⟨S96, .i32⟩
  | .hbm, ⟨14, _⟩ => ⟨S96, .i32⟩
  | .hbm, ⟨15, _⟩ => ⟨S96, .i32⟩
  | .hbm, ⟨16, _⟩ => ⟨S96x1, .i32⟩
  | .hbm, ⟨17, _⟩ => ⟨S4x8192x8x96, .f32⟩
  | .hbm, ⟨18, _⟩ => ⟨S_, .i32⟩
  | .hbm, ⟨19, _⟩ => ⟨S_, .f32⟩
  | .hbm, ⟨20, _⟩ => ⟨S4x8192x8x128, .f32⟩
  | .hbm, ⟨21, _⟩ => ⟨S4x8192x1024, .f32⟩
  | .hbm, ⟨22, _⟩ => ⟨S4x8192x1024, .bf16⟩
  | .hbm, ⟨23, _⟩ => ⟨S_, .i32⟩
  | .hbm, ⟨24, _⟩ => ⟨S96, .i32⟩
  | .hbm, ⟨25, _⟩ => ⟨S96, .i32⟩
  | .hbm, ⟨26, _⟩ => ⟨S96, .i32⟩
  | .hbm, ⟨27, _⟩ => ⟨S96x1, .i32⟩
  | .hbm, ⟨28, _⟩ => ⟨S4x8192x8x96, .f32⟩
  | .hbm, ⟨29, _⟩ => ⟨S_, .i32⟩
  | .hbm, ⟨30, _⟩ => ⟨S_, .f32⟩
  | .hbm, ⟨31, _⟩ => ⟨S4x8192x8x128, .f32⟩
  | .hbm, ⟨32, _⟩ => ⟨S4x8192x1024, .f32⟩
  | .hbm, ⟨33, _⟩ => ⟨S4x8192x1024, .bf16⟩
  | .hbm, ⟨34, _⟩ => ⟨S32768x512, .f32⟩
  | .hbm, ⟨35, _⟩ => ⟨S512x32768, .f32⟩
  | .hbm, ⟨36, _⟩ => ⟨S512x32768, .bf16⟩
  | .hbm, ⟨37, _⟩ => ⟨S4x8192x512, .f32⟩
  | .local _ .vmem, ⟨0, _⟩ => ⟨S1x8192x256, .bf16⟩
  | .local _ .vmem, ⟨1, _⟩ => ⟨S1x8192x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S128x8192, .bf16⟩
  | .local _ .vmem, ⟨5, _⟩ => ⟨S128x8192, .bf16⟩
  | .local _ .vmem, ⟨6, _⟩ => ⟨S1x8192x128, .f32⟩
  | .local _ .vmem, ⟨7, _⟩ => ⟨S1x8192x128, .f32⟩
  | .local _ .vmem, ⟨8, _⟩ => ⟨S16x2x512x256, .f32⟩
  | .local _ .vmem, ⟨9, _⟩ => ⟨S16x2x8x256, .f32⟩
  | _, _ => ⟨S4x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_cst : Ref sig .tc := ⟨.hbm, 6, rfl⟩
abbrev main_v0 : Ref sig .tc := ⟨.hbm, 7, rfl⟩
abbrev main_cst_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c8_i32 : BitVec 32 := 8#32
  let v52 : BitVec 32 := Scalar.addi c0_i32 c8_i32
  let c1_i32 : BitVec 32 := 1#32
  ⟨c0_i32, v52, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_64 : BitVec 32 := 0#32
  let v58 : BitVec 32 := Scalar.addi v53 c0_i32_64
  let c31_i32 : BitVec 32 := 31#32
  let v59 : BitVec 32 := Scalar.minsi v58 c31_i32
  let c256_i32 : BitVec 32 := 256#32
  let v60 : BitVec 32 := Scalar.muli v59 c256_i32
  v60
def k0_off1 (k0_t1 : Fin k0_t1_loop.trips) (c0_i32_64 : BitVec 32) : Fin 3 → Nat :=
  let c0_67 : Index := 0#32
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let v58 : BitVec 32 := Scalar.addi v53 c0_i32_64
  let c31_i32 : BitVec 32 := 31#32
  let v59 : BitVec 32 := Scalar.minsi v58 c31_i32
  let c256_i32 : BitVec 32 := 256#32
  let v60 : BitVec 32 := Scalar.muli v59 c256_i32
  let v61 : BitVec 32 := v60
  let v64 : Index := Scalar.indexCast v61
  let c0_68 : Index := 0#32
  ![0, v64.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_64 : BitVec 32 := 0#32
  let v58 : BitVec 32 := Scalar.addi v53 c0_i32_64
  let c31_i32 : BitVec 32 := 31#32
  let v59 : BitVec 32 := Scalar.minsi v58 c31_i32
  let c256_i32_91 : BitVec 32 := 256#32
  let v97 : BitVec 32 := Scalar.muli v59 c256_i32_91
  v97
def k0_off2 (k0_t1 : Fin k0_t1_loop.trips) (c0_i32_64 : BitVec 32) : Fin 3 → Nat :=
  let c0_95 : Index := 0#32
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let v58 : BitVec 32 := Scalar.addi v53 c0_i32_64
  let c31_i32 : BitVec 32 := 31#32
  let v59 : BitVec 32 := Scalar.minsi v58 c31_i32
  let c256_i32_91 : BitVec 32 := 256#32
  let v97 : BitVec 32 := Scalar.muli v59 c256_i32_91
  let v98 : BitVec 32 := v97
  let v101 : Index := Scalar.indexCast v98
  let c128_96 : Index := 128#32
  ![0, v101.toNat, 128]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_119 : BitVec 32 := 0#32
  let v134 : BitVec 32 := Scalar.addi v53 c0_i32_119
  let c31_i32_120 : BitVec 32 := 31#32
  let v135 : BitVec 32 := Scalar.minsi v134 c31_i32_120
  let c256_i32_121 : BitVec 32 := 256#32
  let v136 : BitVec 32 := Scalar.muli v135 c256_i32_121
  v136
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_119 : BitVec 32 := 0#32
  let v134 : BitVec 32 := Scalar.addi v53 c0_i32_119
  let c31_i32_120 : BitVec 32 := 31#32
  let v135 : BitVec 32 := Scalar.minsi v134 c31_i32_120
  let c256_i32_148 : BitVec 32 := 256#32
  let v173 : BitVec 32 := Scalar.muli v135 c256_i32_148
  v173
def k0_mult5 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_177 : BitVec 32 := 0#32
  let v210 : BitVec 32 := Scalar.addi v53 c0_i32_177
  let c31_i32_178 : BitVec 32 := 31#32
  let v211 : BitVec 32 := Scalar.minsi v210 c31_i32_178
  let c256_i32_179 : BitVec 32 := 256#32
  let v212 : BitVec 32 := Scalar.muli v211 c256_i32_179
  v212
def k0_mult6 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_177 : BitVec 32 := 0#32
  let v210 : BitVec 32 := Scalar.addi v53 c0_i32_177
  let c31_i32_178 : BitVec 32 := 31#32
  let v211 : BitVec 32 := Scalar.minsi v210 c31_i32_178
  let c256_i32_206 : BitVec 32 := 256#32
  let v249 : BitVec 32 := Scalar.muli v211 c256_i32_206
  v249
def k0_mult7 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_235 : BitVec 32 := 0#32
  let v286 : BitVec 32 := Scalar.addi v53 c0_i32_235
  let c31_i32_236 : BitVec 32 := 31#32
  let v287 : BitVec 32 := Scalar.minsi v286 c31_i32_236
  let c256_i32_237 : BitVec 32 := 256#32
  let v288 : BitVec 32 := Scalar.muli v287 c256_i32_237
  v288
def k0_mult8 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_235 : BitVec 32 := 0#32
  let v286 : BitVec 32 := Scalar.addi v53 c0_i32_235
  let c31_i32_236 : BitVec 32 := 31#32
  let v287 : BitVec 32 := Scalar.minsi v286 c31_i32_236
  let c256_i32_264 : BitVec 32 := 256#32
  let v325 : BitVec 32 := Scalar.muli v287 c256_i32_264
  v325
def k0_mult9 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_293 : BitVec 32 := 0#32
  let v362 : BitVec 32 := Scalar.addi v53 c0_i32_293
  let c31_i32_294 : BitVec 32 := 31#32
  let v363 : BitVec 32 := Scalar.minsi v362 c31_i32_294
  let c256_i32_295 : BitVec 32 := 256#32
  let v364 : BitVec 32 := Scalar.muli v363 c256_i32_295
  v364
def k0_mult10 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_293 : BitVec 32 := 0#32
  let v362 : BitVec 32 := Scalar.addi v53 c0_i32_293
  let c31_i32_294 : BitVec 32 := 31#32
  let v363 : BitVec 32 := Scalar.minsi v362 c31_i32_294
  let c256_i32_322 : BitVec 32 := 256#32
  let v401 : BitVec 32 := Scalar.muli v363 c256_i32_322
  v401
def k0_mult11 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_351 : BitVec 32 := 0#32
  let v438 : BitVec 32 := Scalar.addi v53 c0_i32_351
  let c31_i32_352 : BitVec 32 := 31#32
  let v439 : BitVec 32 := Scalar.minsi v438 c31_i32_352
  let c256_i32_353 : BitVec 32 := 256#32
  let v440 : BitVec 32 := Scalar.muli v439 c256_i32_353
  v440
def k0_mult12 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_351 : BitVec 32 := 0#32
  let v438 : BitVec 32 := Scalar.addi v53 c0_i32_351
  let c31_i32_352 : BitVec 32 := 31#32
  let v439 : BitVec 32 := Scalar.minsi v438 c31_i32_352
  let c256_i32_380 : BitVec 32 := 256#32
  let v477 : BitVec 32 := Scalar.muli v439 c256_i32_380
  v477
def k0_mult13 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_409 : BitVec 32 := 0#32
  let v514 : BitVec 32 := Scalar.addi v53 c0_i32_409
  let c31_i32_410 : BitVec 32 := 31#32
  let v515 : BitVec 32 := Scalar.minsi v514 c31_i32_410
  let c256_i32_411 : BitVec 32 := 256#32
  let v516 : BitVec 32 := Scalar.muli v515 c256_i32_411
  v516
def k0_mult14 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_409 : BitVec 32 := 0#32
  let v514 : BitVec 32 := Scalar.addi v53 c0_i32_409
  let c31_i32_410 : BitVec 32 := 31#32
  let v515 : BitVec 32 := Scalar.minsi v514 c31_i32_410
  let c256_i32_438 : BitVec 32 := 256#32
  let v553 : BitVec 32 := Scalar.muli v515 c256_i32_438
  v553
def k0_mult15 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_467 : BitVec 32 := 0#32
  let v590 : BitVec 32 := Scalar.addi v53 c0_i32_467
  let c31_i32_468 : BitVec 32 := 31#32
  let v591 : BitVec 32 := Scalar.minsi v590 c31_i32_468
  let c256_i32_469 : BitVec 32 := 256#32
  let v592 : BitVec 32 := Scalar.muli v591 c256_i32_469
  v592
def k0_mult16 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_467 : BitVec 32 := 0#32
  let v590 : BitVec 32 := Scalar.addi v53 c0_i32_467
  let c31_i32_468 : BitVec 32 := 31#32
  let v591 : BitVec 32 := Scalar.minsi v590 c31_i32_468
  let c256_i32_496 : BitVec 32 := 256#32
  let v629 : BitVec 32 := Scalar.muli v591 c256_i32_496
  v629
def k0_mult17 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_525 : BitVec 32 := 0#32
  let v666 : BitVec 32 := Scalar.addi v53 c0_i32_525
  let c31_i32_526 : BitVec 32 := 31#32
  let v667 : BitVec 32 := Scalar.minsi v666 c31_i32_526
  let c256_i32_527 : BitVec 32 := 256#32
  let v668 : BitVec 32 := Scalar.muli v667 c256_i32_527
  v668
def k0_mult18 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_525 : BitVec 32 := 0#32
  let v666 : BitVec 32 := Scalar.addi v53 c0_i32_525
  let c31_i32_526 : BitVec 32 := 31#32
  let v667 : BitVec 32 := Scalar.minsi v666 c31_i32_526
  let c256_i32_554 : BitVec 32 := 256#32
  let v705 : BitVec 32 := Scalar.muli v667 c256_i32_554
  v705
def k0_mult19 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_583 : BitVec 32 := 0#32
  let v742 : BitVec 32 := Scalar.addi v53 c0_i32_583
  let c31_i32_584 : BitVec 32 := 31#32
  let v743 : BitVec 32 := Scalar.minsi v742 c31_i32_584
  let c256_i32_585 : BitVec 32 := 256#32
  let v744 : BitVec 32 := Scalar.muli v743 c256_i32_585
  v744
def k0_mult20 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_583 : BitVec 32 := 0#32
  let v742 : BitVec 32 := Scalar.addi v53 c0_i32_583
  let c31_i32_584 : BitVec 32 := 31#32
  let v743 : BitVec 32 := Scalar.minsi v742 c31_i32_584
  let c256_i32_612 : BitVec 32 := 256#32
  let v781 : BitVec 32 := Scalar.muli v743 c256_i32_612
  v781
def k0_mult21 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_641 : BitVec 32 := 0#32
  let v818 : BitVec 32 := Scalar.addi v53 c0_i32_641
  let c31_i32_642 : BitVec 32 := 31#32
  let v819 : BitVec 32 := Scalar.minsi v818 c31_i32_642
  let c256_i32_643 : BitVec 32 := 256#32
  let v820 : BitVec 32 := Scalar.muli v819 c256_i32_643
  v820
def k0_mult22 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_641 : BitVec 32 := 0#32
  let v818 : BitVec 32 := Scalar.addi v53 c0_i32_641
  let c31_i32_642 : BitVec 32 := 31#32
  let v819 : BitVec 32 := Scalar.minsi v818 c31_i32_642
  let c256_i32_670 : BitVec 32 := 256#32
  let v857 : BitVec 32 := Scalar.muli v819 c256_i32_670
  v857
def k0_mult23 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_699 : BitVec 32 := 0#32
  let v894 : BitVec 32 := Scalar.addi v53 c0_i32_699
  let c31_i32_700 : BitVec 32 := 31#32
  let v895 : BitVec 32 := Scalar.minsi v894 c31_i32_700
  let c256_i32_701 : BitVec 32 := 256#32
  let v896 : BitVec 32 := Scalar.muli v895 c256_i32_701
  v896
def k0_mult24 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_699 : BitVec 32 := 0#32
  let v894 : BitVec 32 := Scalar.addi v53 c0_i32_699
  let c31_i32_700 : BitVec 32 := 31#32
  let v895 : BitVec 32 := Scalar.minsi v894 c31_i32_700
  let c256_i32_728 : BitVec 32 := 256#32
  let v933 : BitVec 32 := Scalar.muli v895 c256_i32_728
  v933
def k0_mult25 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_757 : BitVec 32 := 0#32
  let v970 : BitVec 32 := Scalar.addi v53 c0_i32_757
  let c31_i32_758 : BitVec 32 := 31#32
  let v971 : BitVec 32 := Scalar.minsi v970 c31_i32_758
  let c256_i32_759 : BitVec 32 := 256#32
  let v972 : BitVec 32 := Scalar.muli v971 c256_i32_759
  v972
def k0_mult26 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_757 : BitVec 32 := 0#32
  let v970 : BitVec 32 := Scalar.addi v53 c0_i32_757
  let c31_i32_758 : BitVec 32 := 31#32
  let v971 : BitVec 32 := Scalar.minsi v970 c31_i32_758
  let c256_i32_786 : BitVec 32 := 256#32
  let v1009 : BitVec 32 := Scalar.muli v971 c256_i32_786
  v1009
def k0_mult27 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_815 : BitVec 32 := 0#32
  let v1046 : BitVec 32 := Scalar.addi v53 c0_i32_815
  let c31_i32_816 : BitVec 32 := 31#32
  let v1047 : BitVec 32 := Scalar.minsi v1046 c31_i32_816
  let c256_i32_817 : BitVec 32 := 256#32
  let v1048 : BitVec 32 := Scalar.muli v1047 c256_i32_817
  v1048
def k0_mult28 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_815 : BitVec 32 := 0#32
  let v1046 : BitVec 32 := Scalar.addi v53 c0_i32_815
  let c31_i32_816 : BitVec 32 := 31#32
  let v1047 : BitVec 32 := Scalar.minsi v1046 c31_i32_816
  let c256_i32_844 : BitVec 32 := 256#32
  let v1085 : BitVec 32 := Scalar.muli v1047 c256_i32_844
  v1085
def k0_mult29 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_873 : BitVec 32 := 1#32
  let v1122 : BitVec 32 := Scalar.addi v53 c1_i32_873
  let c31_i32_874 : BitVec 32 := 31#32
  let v1123 : BitVec 32 := Scalar.minsi v1122 c31_i32_874
  let c256_i32_875 : BitVec 32 := 256#32
  let v1124 : BitVec 32 := Scalar.muli v1123 c256_i32_875
  v1124
def k0_mult30 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_873 : BitVec 32 := 1#32
  let v1122 : BitVec 32 := Scalar.addi v53 c1_i32_873
  let c31_i32_874 : BitVec 32 := 31#32
  let v1123 : BitVec 32 := Scalar.minsi v1122 c31_i32_874
  let c256_i32_904 : BitVec 32 := 256#32
  let v1161 : BitVec 32 := Scalar.muli v1123 c256_i32_904
  v1161
def k0_mult31 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_934 : BitVec 32 := 1#32
  let v1199 : BitVec 32 := Scalar.addi v53 c1_i32_934
  let c31_i32_935 : BitVec 32 := 31#32
  let v1200 : BitVec 32 := Scalar.minsi v1199 c31_i32_935
  let c256_i32_936 : BitVec 32 := 256#32
  let v1201 : BitVec 32 := Scalar.muli v1200 c256_i32_936
  v1201
def k0_mult32 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_934 : BitVec 32 := 1#32
  let v1199 : BitVec 32 := Scalar.addi v53 c1_i32_934
  let c31_i32_935 : BitVec 32 := 31#32
  let v1200 : BitVec 32 := Scalar.minsi v1199 c31_i32_935
  let c256_i32_965 : BitVec 32 := 256#32
  let v1238 : BitVec 32 := Scalar.muli v1200 c256_i32_965
  v1238
def k0_mult33 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c0_i32_933 : BitVec 32 := 0#32
  let v1198 : BitVec 32 := Scalar.addi v53 c0_i32_933
  let c256_i32_994 : BitVec 32 := 256#32
  let v1285 : BitVec 32 := Scalar.muli v1198 c256_i32_994
  v1285
def k0_off3 (k0_t1 : Fin k0_t1_loop.trips) (c0_i32_933 : BitVec 32) : Fin 3 → Nat :=
  let c0_995 : Index := 0#32
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let v1198 : BitVec 32 := Scalar.addi v53 c0_i32_933
  let c256_i32_994 : BitVec 32 := 256#32
  let v1285 : BitVec 32 := Scalar.muli v1198 c256_i32_994
  let v1286 : BitVec 32 := v1285
  let v1287 : Index := Scalar.indexCast v1286
  let c0_996 : Index := 0#32
  ![0, v1287.toNat, 0]
def k0_mult34 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1001 : BitVec 32 := 1#32
  let v1295 : BitVec 32 := Scalar.addi v53 c1_i32_1001
  let c31_i32_1002 : BitVec 32 := 31#32
  let v1296 : BitVec 32 := Scalar.minsi v1295 c31_i32_1002
  let c256_i32_1003 : BitVec 32 := 256#32
  let v1297 : BitVec 32 := Scalar.muli v1296 c256_i32_1003
  v1297
def k0_mult35 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1001 : BitVec 32 := 1#32
  let v1295 : BitVec 32 := Scalar.addi v53 c1_i32_1001
  let c31_i32_1002 : BitVec 32 := 31#32
  let v1296 : BitVec 32 := Scalar.minsi v1295 c31_i32_1002
  let c256_i32_1032 : BitVec 32 := 256#32
  let v1334 : BitVec 32 := Scalar.muli v1296 c256_i32_1032
  v1334
def k0_mult36 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1061 : BitVec 32 := 1#32
  let v1371 : BitVec 32 := Scalar.addi v53 c1_i32_1061
  let c31_i32_1062 : BitVec 32 := 31#32
  let v1372 : BitVec 32 := Scalar.minsi v1371 c31_i32_1062
  let c256_i32_1063 : BitVec 32 := 256#32
  let v1373 : BitVec 32 := Scalar.muli v1372 c256_i32_1063
  v1373
def k0_mult37 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1061 : BitVec 32 := 1#32
  let v1371 : BitVec 32 := Scalar.addi v53 c1_i32_1061
  let c31_i32_1062 : BitVec 32 := 31#32
  let v1372 : BitVec 32 := Scalar.minsi v1371 c31_i32_1062
  let c256_i32_1092 : BitVec 32 := 256#32
  let v1410 : BitVec 32 := Scalar.muli v1372 c256_i32_1092
  v1410
def k0_mult38 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1121 : BitVec 32 := 1#32
  let v1447 : BitVec 32 := Scalar.addi v53 c1_i32_1121
  let c31_i32_1122 : BitVec 32 := 31#32
  let v1448 : BitVec 32 := Scalar.minsi v1447 c31_i32_1122
  let c256_i32_1123 : BitVec 32 := 256#32
  let v1449 : BitVec 32 := Scalar.muli v1448 c256_i32_1123
  v1449
def k0_mult39 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1121 : BitVec 32 := 1#32
  let v1447 : BitVec 32 := Scalar.addi v53 c1_i32_1121
  let c31_i32_1122 : BitVec 32 := 31#32
  let v1448 : BitVec 32 := Scalar.minsi v1447 c31_i32_1122
  let c256_i32_1152 : BitVec 32 := 256#32
  let v1486 : BitVec 32 := Scalar.muli v1448 c256_i32_1152
  v1486
def k0_mult40 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1181 : BitVec 32 := 1#32
  let v1523 : BitVec 32 := Scalar.addi v53 c1_i32_1181
  let c31_i32_1182 : BitVec 32 := 31#32
  let v1524 : BitVec 32 := Scalar.minsi v1523 c31_i32_1182
  let c256_i32_1183 : BitVec 32 := 256#32
  let v1525 : BitVec 32 := Scalar.muli v1524 c256_i32_1183
  v1525
def k0_mult41 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1181 : BitVec 32 := 1#32
  let v1523 : BitVec 32 := Scalar.addi v53 c1_i32_1181
  let c31_i32_1182 : BitVec 32 := 31#32
  let v1524 : BitVec 32 := Scalar.minsi v1523 c31_i32_1182
  let c256_i32_1212 : BitVec 32 := 256#32
  let v1562 : BitVec 32 := Scalar.muli v1524 c256_i32_1212
  v1562
def k0_mult42 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1241 : BitVec 32 := 1#32
  let v1599 : BitVec 32 := Scalar.addi v53 c1_i32_1241
  let c31_i32_1242 : BitVec 32 := 31#32
  let v1600 : BitVec 32 := Scalar.minsi v1599 c31_i32_1242
  let c256_i32_1243 : BitVec 32 := 256#32
  let v1601 : BitVec 32 := Scalar.muli v1600 c256_i32_1243
  v1601
def k0_mult43 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1241 : BitVec 32 := 1#32
  let v1599 : BitVec 32 := Scalar.addi v53 c1_i32_1241
  let c31_i32_1242 : BitVec 32 := 31#32
  let v1600 : BitVec 32 := Scalar.minsi v1599 c31_i32_1242
  let c256_i32_1272 : BitVec 32 := 256#32
  let v1638 : BitVec 32 := Scalar.muli v1600 c256_i32_1272
  v1638
def k0_mult44 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1301 : BitVec 32 := 1#32
  let v1675 : BitVec 32 := Scalar.addi v53 c1_i32_1301
  let c31_i32_1302 : BitVec 32 := 31#32
  let v1676 : BitVec 32 := Scalar.minsi v1675 c31_i32_1302
  let c256_i32_1303 : BitVec 32 := 256#32
  let v1677 : BitVec 32 := Scalar.muli v1676 c256_i32_1303
  v1677
def k0_mult45 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1301 : BitVec 32 := 1#32
  let v1675 : BitVec 32 := Scalar.addi v53 c1_i32_1301
  let c31_i32_1302 : BitVec 32 := 31#32
  let v1676 : BitVec 32 := Scalar.minsi v1675 c31_i32_1302
  let c256_i32_1332 : BitVec 32 := 256#32
  let v1714 : BitVec 32 := Scalar.muli v1676 c256_i32_1332
  v1714
def k0_mult46 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1361 : BitVec 32 := 1#32
  let v1751 : BitVec 32 := Scalar.addi v53 c1_i32_1361
  let c31_i32_1362 : BitVec 32 := 31#32
  let v1752 : BitVec 32 := Scalar.minsi v1751 c31_i32_1362
  let c256_i32_1363 : BitVec 32 := 256#32
  let v1753 : BitVec 32 := Scalar.muli v1752 c256_i32_1363
  v1753
def k0_mult47 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1361 : BitVec 32 := 1#32
  let v1751 : BitVec 32 := Scalar.addi v53 c1_i32_1361
  let c31_i32_1362 : BitVec 32 := 31#32
  let v1752 : BitVec 32 := Scalar.minsi v1751 c31_i32_1362
  let c256_i32_1392 : BitVec 32 := 256#32
  let v1790 : BitVec 32 := Scalar.muli v1752 c256_i32_1392
  v1790
def k0_mult48 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1421 : BitVec 32 := 1#32
  let v1827 : BitVec 32 := Scalar.addi v53 c1_i32_1421
  let c31_i32_1422 : BitVec 32 := 31#32
  let v1828 : BitVec 32 := Scalar.minsi v1827 c31_i32_1422
  let c256_i32_1423 : BitVec 32 := 256#32
  let v1829 : BitVec 32 := Scalar.muli v1828 c256_i32_1423
  v1829
def k0_mult49 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1421 : BitVec 32 := 1#32
  let v1827 : BitVec 32 := Scalar.addi v53 c1_i32_1421
  let c31_i32_1422 : BitVec 32 := 31#32
  let v1828 : BitVec 32 := Scalar.minsi v1827 c31_i32_1422
  let c256_i32_1452 : BitVec 32 := 256#32
  let v1866 : BitVec 32 := Scalar.muli v1828 c256_i32_1452
  v1866
def k0_mult50 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1481 : BitVec 32 := 1#32
  let v1903 : BitVec 32 := Scalar.addi v53 c1_i32_1481
  let c31_i32_1482 : BitVec 32 := 31#32
  let v1904 : BitVec 32 := Scalar.minsi v1903 c31_i32_1482
  let c256_i32_1483 : BitVec 32 := 256#32
  let v1905 : BitVec 32 := Scalar.muli v1904 c256_i32_1483
  v1905
def k0_mult51 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1481 : BitVec 32 := 1#32
  let v1903 : BitVec 32 := Scalar.addi v53 c1_i32_1481
  let c31_i32_1482 : BitVec 32 := 31#32
  let v1904 : BitVec 32 := Scalar.minsi v1903 c31_i32_1482
  let c256_i32_1512 : BitVec 32 := 256#32
  let v1942 : BitVec 32 := Scalar.muli v1904 c256_i32_1512
  v1942
def k0_mult52 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1541 : BitVec 32 := 1#32
  let v1979 : BitVec 32 := Scalar.addi v53 c1_i32_1541
  let c31_i32_1542 : BitVec 32 := 31#32
  let v1980 : BitVec 32 := Scalar.minsi v1979 c31_i32_1542
  let c256_i32_1543 : BitVec 32 := 256#32
  let v1981 : BitVec 32 := Scalar.muli v1980 c256_i32_1543
  v1981
def k0_mult53 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1541 : BitVec 32 := 1#32
  let v1979 : BitVec 32 := Scalar.addi v53 c1_i32_1541
  let c31_i32_1542 : BitVec 32 := 31#32
  let v1980 : BitVec 32 := Scalar.minsi v1979 c31_i32_1542
  let c256_i32_1572 : BitVec 32 := 256#32
  let v2018 : BitVec 32 := Scalar.muli v1980 c256_i32_1572
  v2018
def k0_mult54 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1601 : BitVec 32 := 1#32
  let v2055 : BitVec 32 := Scalar.addi v53 c1_i32_1601
  let c31_i32_1602 : BitVec 32 := 31#32
  let v2056 : BitVec 32 := Scalar.minsi v2055 c31_i32_1602
  let c256_i32_1603 : BitVec 32 := 256#32
  let v2057 : BitVec 32 := Scalar.muli v2056 c256_i32_1603
  v2057
def k0_mult55 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1601 : BitVec 32 := 1#32
  let v2055 : BitVec 32 := Scalar.addi v53 c1_i32_1601
  let c31_i32_1602 : BitVec 32 := 31#32
  let v2056 : BitVec 32 := Scalar.minsi v2055 c31_i32_1602
  let c256_i32_1632 : BitVec 32 := 256#32
  let v2094 : BitVec 32 := Scalar.muli v2056 c256_i32_1632
  v2094
def k0_mult56 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1661 : BitVec 32 := 1#32
  let v2131 : BitVec 32 := Scalar.addi v53 c1_i32_1661
  let c31_i32_1662 : BitVec 32 := 31#32
  let v2132 : BitVec 32 := Scalar.minsi v2131 c31_i32_1662
  let c256_i32_1663 : BitVec 32 := 256#32
  let v2133 : BitVec 32 := Scalar.muli v2132 c256_i32_1663
  v2133
def k0_mult57 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1661 : BitVec 32 := 1#32
  let v2131 : BitVec 32 := Scalar.addi v53 c1_i32_1661
  let c31_i32_1662 : BitVec 32 := 31#32
  let v2132 : BitVec 32 := Scalar.minsi v2131 c31_i32_1662
  let c256_i32_1692 : BitVec 32 := 256#32
  let v2170 : BitVec 32 := Scalar.muli v2132 c256_i32_1692
  v2170
def k0_mult58 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1721 : BitVec 32 := 1#32
  let v2207 : BitVec 32 := Scalar.addi v53 c1_i32_1721
  let c31_i32_1722 : BitVec 32 := 31#32
  let v2208 : BitVec 32 := Scalar.minsi v2207 c31_i32_1722
  let c256_i32_1723 : BitVec 32 := 256#32
  let v2209 : BitVec 32 := Scalar.muli v2208 c256_i32_1723
  v2209
def k0_mult59 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1721 : BitVec 32 := 1#32
  let v2207 : BitVec 32 := Scalar.addi v53 c1_i32_1721
  let c31_i32_1722 : BitVec 32 := 31#32
  let v2208 : BitVec 32 := Scalar.minsi v2207 c31_i32_1722
  let c256_i32_1752 : BitVec 32 := 256#32
  let v2246 : BitVec 32 := Scalar.muli v2208 c256_i32_1752
  v2246
def k0_mult60 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1781 : BitVec 32 := 1#32
  let v2283 : BitVec 32 := Scalar.addi v53 c1_i32_1781
  let c31_i32_1782 : BitVec 32 := 31#32
  let v2284 : BitVec 32 := Scalar.minsi v2283 c31_i32_1782
  let c256_i32_1783 : BitVec 32 := 256#32
  let v2285 : BitVec 32 := Scalar.muli v2284 c256_i32_1783
  v2285
def k0_mult61 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1781 : BitVec 32 := 1#32
  let v2283 : BitVec 32 := Scalar.addi v53 c1_i32_1781
  let c31_i32_1782 : BitVec 32 := 31#32
  let v2284 : BitVec 32 := Scalar.minsi v2283 c31_i32_1782
  let c256_i32_1812 : BitVec 32 := 256#32
  let v2322 : BitVec 32 := Scalar.muli v2284 c256_i32_1812
  v2322
def k0_mult62 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32 : BitVec 32 := 2#32
  let v2359 : BitVec 32 := Scalar.addi v53 c2_i32
  let c31_i32_1841 : BitVec 32 := 31#32
  let v2360 : BitVec 32 := Scalar.minsi v2359 c31_i32_1841
  let c256_i32_1842 : BitVec 32 := 256#32
  let v2361 : BitVec 32 := Scalar.muli v2360 c256_i32_1842
  v2361
def k0_mult63 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32 : BitVec 32 := 2#32
  let v2359 : BitVec 32 := Scalar.addi v53 c2_i32
  let c31_i32_1841 : BitVec 32 := 31#32
  let v2360 : BitVec 32 := Scalar.minsi v2359 c31_i32_1841
  let c256_i32_1871 : BitVec 32 := 256#32
  let v2398 : BitVec 32 := Scalar.muli v2360 c256_i32_1871
  v2398
def k0_mult64 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_1901 : BitVec 32 := 2#32
  let v2436 : BitVec 32 := Scalar.addi v53 c2_i32_1901
  let c31_i32_1902 : BitVec 32 := 31#32
  let v2437 : BitVec 32 := Scalar.minsi v2436 c31_i32_1902
  let c256_i32_1903 : BitVec 32 := 256#32
  let v2438 : BitVec 32 := Scalar.muli v2437 c256_i32_1903
  v2438
def k0_mult65 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_1901 : BitVec 32 := 2#32
  let v2436 : BitVec 32 := Scalar.addi v53 c2_i32_1901
  let c31_i32_1902 : BitVec 32 := 31#32
  let v2437 : BitVec 32 := Scalar.minsi v2436 c31_i32_1902
  let c256_i32_1932 : BitVec 32 := 256#32
  let v2475 : BitVec 32 := Scalar.muli v2437 c256_i32_1932
  v2475
def k0_mult66 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c1_i32_1900 : BitVec 32 := 1#32
  let v2435 : BitVec 32 := Scalar.addi v53 c1_i32_1900
  let c256_i32_1961 : BitVec 32 := 256#32
  let v2522 : BitVec 32 := Scalar.muli v2435 c256_i32_1961
  v2522
def k0_mult67 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_1968 : BitVec 32 := 2#32
  let v2532 : BitVec 32 := Scalar.addi v53 c2_i32_1968
  let c31_i32_1969 : BitVec 32 := 31#32
  let v2533 : BitVec 32 := Scalar.minsi v2532 c31_i32_1969
  let c256_i32_1970 : BitVec 32 := 256#32
  let v2534 : BitVec 32 := Scalar.muli v2533 c256_i32_1970
  v2534
def k0_mult68 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_1968 : BitVec 32 := 2#32
  let v2532 : BitVec 32 := Scalar.addi v53 c2_i32_1968
  let c31_i32_1969 : BitVec 32 := 31#32
  let v2533 : BitVec 32 := Scalar.minsi v2532 c31_i32_1969
  let c256_i32_1999 : BitVec 32 := 256#32
  let v2571 : BitVec 32 := Scalar.muli v2533 c256_i32_1999
  v2571
def k0_mult69 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2028 : BitVec 32 := 2#32
  let v2608 : BitVec 32 := Scalar.addi v53 c2_i32_2028
  let c31_i32_2029 : BitVec 32 := 31#32
  let v2609 : BitVec 32 := Scalar.minsi v2608 c31_i32_2029
  let c256_i32_2030 : BitVec 32 := 256#32
  let v2610 : BitVec 32 := Scalar.muli v2609 c256_i32_2030
  v2610
def k0_mult70 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2028 : BitVec 32 := 2#32
  let v2608 : BitVec 32 := Scalar.addi v53 c2_i32_2028
  let c31_i32_2029 : BitVec 32 := 31#32
  let v2609 : BitVec 32 := Scalar.minsi v2608 c31_i32_2029
  let c256_i32_2059 : BitVec 32 := 256#32
  let v2647 : BitVec 32 := Scalar.muli v2609 c256_i32_2059
  v2647
def k0_mult71 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2088 : BitVec 32 := 2#32
  let v2684 : BitVec 32 := Scalar.addi v53 c2_i32_2088
  let c31_i32_2089 : BitVec 32 := 31#32
  let v2685 : BitVec 32 := Scalar.minsi v2684 c31_i32_2089
  let c256_i32_2090 : BitVec 32 := 256#32
  let v2686 : BitVec 32 := Scalar.muli v2685 c256_i32_2090
  v2686
def k0_mult72 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2088 : BitVec 32 := 2#32
  let v2684 : BitVec 32 := Scalar.addi v53 c2_i32_2088
  let c31_i32_2089 : BitVec 32 := 31#32
  let v2685 : BitVec 32 := Scalar.minsi v2684 c31_i32_2089
  let c256_i32_2119 : BitVec 32 := 256#32
  let v2723 : BitVec 32 := Scalar.muli v2685 c256_i32_2119
  v2723
def k0_mult73 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2148 : BitVec 32 := 2#32
  let v2760 : BitVec 32 := Scalar.addi v53 c2_i32_2148
  let c31_i32_2149 : BitVec 32 := 31#32
  let v2761 : BitVec 32 := Scalar.minsi v2760 c31_i32_2149
  let c256_i32_2150 : BitVec 32 := 256#32
  let v2762 : BitVec 32 := Scalar.muli v2761 c256_i32_2150
  v2762
def k0_mult74 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2148 : BitVec 32 := 2#32
  let v2760 : BitVec 32 := Scalar.addi v53 c2_i32_2148
  let c31_i32_2149 : BitVec 32 := 31#32
  let v2761 : BitVec 32 := Scalar.minsi v2760 c31_i32_2149
  let c256_i32_2179 : BitVec 32 := 256#32
  let v2799 : BitVec 32 := Scalar.muli v2761 c256_i32_2179
  v2799
def k0_mult75 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2208 : BitVec 32 := 2#32
  let v2836 : BitVec 32 := Scalar.addi v53 c2_i32_2208
  let c31_i32_2209 : BitVec 32 := 31#32
  let v2837 : BitVec 32 := Scalar.minsi v2836 c31_i32_2209
  let c256_i32_2210 : BitVec 32 := 256#32
  let v2838 : BitVec 32 := Scalar.muli v2837 c256_i32_2210
  v2838
def k0_mult76 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2208 : BitVec 32 := 2#32
  let v2836 : BitVec 32 := Scalar.addi v53 c2_i32_2208
  let c31_i32_2209 : BitVec 32 := 31#32
  let v2837 : BitVec 32 := Scalar.minsi v2836 c31_i32_2209
  let c256_i32_2239 : BitVec 32 := 256#32
  let v2875 : BitVec 32 := Scalar.muli v2837 c256_i32_2239
  v2875
def k0_mult77 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2268 : BitVec 32 := 2#32
  let v2912 : BitVec 32 := Scalar.addi v53 c2_i32_2268
  let c31_i32_2269 : BitVec 32 := 31#32
  let v2913 : BitVec 32 := Scalar.minsi v2912 c31_i32_2269
  let c256_i32_2270 : BitVec 32 := 256#32
  let v2914 : BitVec 32 := Scalar.muli v2913 c256_i32_2270
  v2914
def k0_mult78 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2268 : BitVec 32 := 2#32
  let v2912 : BitVec 32 := Scalar.addi v53 c2_i32_2268
  let c31_i32_2269 : BitVec 32 := 31#32
  let v2913 : BitVec 32 := Scalar.minsi v2912 c31_i32_2269
  let c256_i32_2299 : BitVec 32 := 256#32
  let v2951 : BitVec 32 := Scalar.muli v2913 c256_i32_2299
  v2951
def k0_mult79 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2328 : BitVec 32 := 2#32
  let v2988 : BitVec 32 := Scalar.addi v53 c2_i32_2328
  let c31_i32_2329 : BitVec 32 := 31#32
  let v2989 : BitVec 32 := Scalar.minsi v2988 c31_i32_2329
  let c256_i32_2330 : BitVec 32 := 256#32
  let v2990 : BitVec 32 := Scalar.muli v2989 c256_i32_2330
  v2990
def k0_mult80 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2328 : BitVec 32 := 2#32
  let v2988 : BitVec 32 := Scalar.addi v53 c2_i32_2328
  let c31_i32_2329 : BitVec 32 := 31#32
  let v2989 : BitVec 32 := Scalar.minsi v2988 c31_i32_2329
  let c256_i32_2359 : BitVec 32 := 256#32
  let v3027 : BitVec 32 := Scalar.muli v2989 c256_i32_2359
  v3027
def k0_mult81 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2388 : BitVec 32 := 2#32
  let v3064 : BitVec 32 := Scalar.addi v53 c2_i32_2388
  let c31_i32_2389 : BitVec 32 := 31#32
  let v3065 : BitVec 32 := Scalar.minsi v3064 c31_i32_2389
  let c256_i32_2390 : BitVec 32 := 256#32
  let v3066 : BitVec 32 := Scalar.muli v3065 c256_i32_2390
  v3066
def k0_mult82 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2388 : BitVec 32 := 2#32
  let v3064 : BitVec 32 := Scalar.addi v53 c2_i32_2388
  let c31_i32_2389 : BitVec 32 := 31#32
  let v3065 : BitVec 32 := Scalar.minsi v3064 c31_i32_2389
  let c256_i32_2419 : BitVec 32 := 256#32
  let v3103 : BitVec 32 := Scalar.muli v3065 c256_i32_2419
  v3103
def k0_mult83 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2448 : BitVec 32 := 2#32
  let v3140 : BitVec 32 := Scalar.addi v53 c2_i32_2448
  let c31_i32_2449 : BitVec 32 := 31#32
  let v3141 : BitVec 32 := Scalar.minsi v3140 c31_i32_2449
  let c256_i32_2450 : BitVec 32 := 256#32
  let v3142 : BitVec 32 := Scalar.muli v3141 c256_i32_2450
  v3142
def k0_mult84 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2448 : BitVec 32 := 2#32
  let v3140 : BitVec 32 := Scalar.addi v53 c2_i32_2448
  let c31_i32_2449 : BitVec 32 := 31#32
  let v3141 : BitVec 32 := Scalar.minsi v3140 c31_i32_2449
  let c256_i32_2479 : BitVec 32 := 256#32
  let v3179 : BitVec 32 := Scalar.muli v3141 c256_i32_2479
  v3179
def k0_mult85 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2508 : BitVec 32 := 2#32
  let v3216 : BitVec 32 := Scalar.addi v53 c2_i32_2508
  let c31_i32_2509 : BitVec 32 := 31#32
  let v3217 : BitVec 32 := Scalar.minsi v3216 c31_i32_2509
  let c256_i32_2510 : BitVec 32 := 256#32
  let v3218 : BitVec 32 := Scalar.muli v3217 c256_i32_2510
  v3218
def k0_mult86 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2508 : BitVec 32 := 2#32
  let v3216 : BitVec 32 := Scalar.addi v53 c2_i32_2508
  let c31_i32_2509 : BitVec 32 := 31#32
  let v3217 : BitVec 32 := Scalar.minsi v3216 c31_i32_2509
  let c256_i32_2539 : BitVec 32 := 256#32
  let v3255 : BitVec 32 := Scalar.muli v3217 c256_i32_2539
  v3255
def k0_mult87 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2568 : BitVec 32 := 2#32
  let v3292 : BitVec 32 := Scalar.addi v53 c2_i32_2568
  let c31_i32_2569 : BitVec 32 := 31#32
  let v3293 : BitVec 32 := Scalar.minsi v3292 c31_i32_2569
  let c256_i32_2570 : BitVec 32 := 256#32
  let v3294 : BitVec 32 := Scalar.muli v3293 c256_i32_2570
  v3294
def k0_mult88 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2568 : BitVec 32 := 2#32
  let v3292 : BitVec 32 := Scalar.addi v53 c2_i32_2568
  let c31_i32_2569 : BitVec 32 := 31#32
  let v3293 : BitVec 32 := Scalar.minsi v3292 c31_i32_2569
  let c256_i32_2599 : BitVec 32 := 256#32
  let v3331 : BitVec 32 := Scalar.muli v3293 c256_i32_2599
  v3331
def k0_mult89 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2628 : BitVec 32 := 2#32
  let v3368 : BitVec 32 := Scalar.addi v53 c2_i32_2628
  let c31_i32_2629 : BitVec 32 := 31#32
  let v3369 : BitVec 32 := Scalar.minsi v3368 c31_i32_2629
  let c256_i32_2630 : BitVec 32 := 256#32
  let v3370 : BitVec 32 := Scalar.muli v3369 c256_i32_2630
  v3370
def k0_mult90 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2628 : BitVec 32 := 2#32
  let v3368 : BitVec 32 := Scalar.addi v53 c2_i32_2628
  let c31_i32_2629 : BitVec 32 := 31#32
  let v3369 : BitVec 32 := Scalar.minsi v3368 c31_i32_2629
  let c256_i32_2659 : BitVec 32 := 256#32
  let v3407 : BitVec 32 := Scalar.muli v3369 c256_i32_2659
  v3407
def k0_mult91 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2688 : BitVec 32 := 2#32
  let v3444 : BitVec 32 := Scalar.addi v53 c2_i32_2688
  let c31_i32_2689 : BitVec 32 := 31#32
  let v3445 : BitVec 32 := Scalar.minsi v3444 c31_i32_2689
  let c256_i32_2690 : BitVec 32 := 256#32
  let v3446 : BitVec 32 := Scalar.muli v3445 c256_i32_2690
  v3446
def k0_mult92 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2688 : BitVec 32 := 2#32
  let v3444 : BitVec 32 := Scalar.addi v53 c2_i32_2688
  let c31_i32_2689 : BitVec 32 := 31#32
  let v3445 : BitVec 32 := Scalar.minsi v3444 c31_i32_2689
  let c256_i32_2719 : BitVec 32 := 256#32
  let v3483 : BitVec 32 := Scalar.muli v3445 c256_i32_2719
  v3483
def k0_mult93 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2748 : BitVec 32 := 2#32
  let v3520 : BitVec 32 := Scalar.addi v53 c2_i32_2748
  let c31_i32_2749 : BitVec 32 := 31#32
  let v3521 : BitVec 32 := Scalar.minsi v3520 c31_i32_2749
  let c256_i32_2750 : BitVec 32 := 256#32
  let v3522 : BitVec 32 := Scalar.muli v3521 c256_i32_2750
  v3522
def k0_mult94 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2748 : BitVec 32 := 2#32
  let v3520 : BitVec 32 := Scalar.addi v53 c2_i32_2748
  let c31_i32_2749 : BitVec 32 := 31#32
  let v3521 : BitVec 32 := Scalar.minsi v3520 c31_i32_2749
  let c256_i32_2779 : BitVec 32 := 256#32
  let v3559 : BitVec 32 := Scalar.muli v3521 c256_i32_2779
  v3559
def k0_mult95 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32 : BitVec 32 := 3#32
  let v3596 : BitVec 32 := Scalar.addi v53 c3_i32
  let c31_i32_2808 : BitVec 32 := 31#32
  let v3597 : BitVec 32 := Scalar.minsi v3596 c31_i32_2808
  let c256_i32_2809 : BitVec 32 := 256#32
  let v3598 : BitVec 32 := Scalar.muli v3597 c256_i32_2809
  v3598
def k0_mult96 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32 : BitVec 32 := 3#32
  let v3596 : BitVec 32 := Scalar.addi v53 c3_i32
  let c31_i32_2808 : BitVec 32 := 31#32
  let v3597 : BitVec 32 := Scalar.minsi v3596 c31_i32_2808
  let c256_i32_2838 : BitVec 32 := 256#32
  let v3635 : BitVec 32 := Scalar.muli v3597 c256_i32_2838
  v3635
def k0_mult97 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_2868 : BitVec 32 := 3#32
  let v3673 : BitVec 32 := Scalar.addi v53 c3_i32_2868
  let c31_i32_2869 : BitVec 32 := 31#32
  let v3674 : BitVec 32 := Scalar.minsi v3673 c31_i32_2869
  let c256_i32_2870 : BitVec 32 := 256#32
  let v3675 : BitVec 32 := Scalar.muli v3674 c256_i32_2870
  v3675
def k0_mult98 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_2868 : BitVec 32 := 3#32
  let v3673 : BitVec 32 := Scalar.addi v53 c3_i32_2868
  let c31_i32_2869 : BitVec 32 := 31#32
  let v3674 : BitVec 32 := Scalar.minsi v3673 c31_i32_2869
  let c256_i32_2899 : BitVec 32 := 256#32
  let v3712 : BitVec 32 := Scalar.muli v3674 c256_i32_2899
  v3712
def k0_mult99 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c2_i32_2867 : BitVec 32 := 2#32
  let v3672 : BitVec 32 := Scalar.addi v53 c2_i32_2867
  let c256_i32_2928 : BitVec 32 := 256#32
  let v3759 : BitVec 32 := Scalar.muli v3672 c256_i32_2928
  v3759
def k0_mult100 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_2935 : BitVec 32 := 3#32
  let v3769 : BitVec 32 := Scalar.addi v53 c3_i32_2935
  let c31_i32_2936 : BitVec 32 := 31#32
  let v3770 : BitVec 32 := Scalar.minsi v3769 c31_i32_2936
  let c256_i32_2937 : BitVec 32 := 256#32
  let v3771 : BitVec 32 := Scalar.muli v3770 c256_i32_2937
  v3771
def k0_mult101 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_2935 : BitVec 32 := 3#32
  let v3769 : BitVec 32 := Scalar.addi v53 c3_i32_2935
  let c31_i32_2936 : BitVec 32 := 31#32
  let v3770 : BitVec 32 := Scalar.minsi v3769 c31_i32_2936
  let c256_i32_2966 : BitVec 32 := 256#32
  let v3808 : BitVec 32 := Scalar.muli v3770 c256_i32_2966
  v3808
def k0_mult102 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_2995 : BitVec 32 := 3#32
  let v3845 : BitVec 32 := Scalar.addi v53 c3_i32_2995
  let c31_i32_2996 : BitVec 32 := 31#32
  let v3846 : BitVec 32 := Scalar.minsi v3845 c31_i32_2996
  let c256_i32_2997 : BitVec 32 := 256#32
  let v3847 : BitVec 32 := Scalar.muli v3846 c256_i32_2997
  v3847
def k0_mult103 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_2995 : BitVec 32 := 3#32
  let v3845 : BitVec 32 := Scalar.addi v53 c3_i32_2995
  let c31_i32_2996 : BitVec 32 := 31#32
  let v3846 : BitVec 32 := Scalar.minsi v3845 c31_i32_2996
  let c256_i32_3026 : BitVec 32 := 256#32
  let v3884 : BitVec 32 := Scalar.muli v3846 c256_i32_3026
  v3884
def k0_mult104 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3055 : BitVec 32 := 3#32
  let v3921 : BitVec 32 := Scalar.addi v53 c3_i32_3055
  let c31_i32_3056 : BitVec 32 := 31#32
  let v3922 : BitVec 32 := Scalar.minsi v3921 c31_i32_3056
  let c256_i32_3057 : BitVec 32 := 256#32
  let v3923 : BitVec 32 := Scalar.muli v3922 c256_i32_3057
  v3923
def k0_mult105 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3055 : BitVec 32 := 3#32
  let v3921 : BitVec 32 := Scalar.addi v53 c3_i32_3055
  let c31_i32_3056 : BitVec 32 := 31#32
  let v3922 : BitVec 32 := Scalar.minsi v3921 c31_i32_3056
  let c256_i32_3086 : BitVec 32 := 256#32
  let v3960 : BitVec 32 := Scalar.muli v3922 c256_i32_3086
  v3960
def k0_mult106 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3115 : BitVec 32 := 3#32
  let v3997 : BitVec 32 := Scalar.addi v53 c3_i32_3115
  let c31_i32_3116 : BitVec 32 := 31#32
  let v3998 : BitVec 32 := Scalar.minsi v3997 c31_i32_3116
  let c256_i32_3117 : BitVec 32 := 256#32
  let v3999 : BitVec 32 := Scalar.muli v3998 c256_i32_3117
  v3999
def k0_mult107 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3115 : BitVec 32 := 3#32
  let v3997 : BitVec 32 := Scalar.addi v53 c3_i32_3115
  let c31_i32_3116 : BitVec 32 := 31#32
  let v3998 : BitVec 32 := Scalar.minsi v3997 c31_i32_3116
  let c256_i32_3146 : BitVec 32 := 256#32
  let v4036 : BitVec 32 := Scalar.muli v3998 c256_i32_3146
  v4036
def k0_mult108 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3175 : BitVec 32 := 3#32
  let v4073 : BitVec 32 := Scalar.addi v53 c3_i32_3175
  let c31_i32_3176 : BitVec 32 := 31#32
  let v4074 : BitVec 32 := Scalar.minsi v4073 c31_i32_3176
  let c256_i32_3177 : BitVec 32 := 256#32
  let v4075 : BitVec 32 := Scalar.muli v4074 c256_i32_3177
  v4075
def k0_mult109 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3175 : BitVec 32 := 3#32
  let v4073 : BitVec 32 := Scalar.addi v53 c3_i32_3175
  let c31_i32_3176 : BitVec 32 := 31#32
  let v4074 : BitVec 32 := Scalar.minsi v4073 c31_i32_3176
  let c256_i32_3206 : BitVec 32 := 256#32
  let v4112 : BitVec 32 := Scalar.muli v4074 c256_i32_3206
  v4112
def k0_mult110 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3235 : BitVec 32 := 3#32
  let v4149 : BitVec 32 := Scalar.addi v53 c3_i32_3235
  let c31_i32_3236 : BitVec 32 := 31#32
  let v4150 : BitVec 32 := Scalar.minsi v4149 c31_i32_3236
  let c256_i32_3237 : BitVec 32 := 256#32
  let v4151 : BitVec 32 := Scalar.muli v4150 c256_i32_3237
  v4151
def k0_mult111 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3235 : BitVec 32 := 3#32
  let v4149 : BitVec 32 := Scalar.addi v53 c3_i32_3235
  let c31_i32_3236 : BitVec 32 := 31#32
  let v4150 : BitVec 32 := Scalar.minsi v4149 c31_i32_3236
  let c256_i32_3266 : BitVec 32 := 256#32
  let v4188 : BitVec 32 := Scalar.muli v4150 c256_i32_3266
  v4188
def k0_mult112 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3295 : BitVec 32 := 3#32
  let v4225 : BitVec 32 := Scalar.addi v53 c3_i32_3295
  let c31_i32_3296 : BitVec 32 := 31#32
  let v4226 : BitVec 32 := Scalar.minsi v4225 c31_i32_3296
  let c256_i32_3297 : BitVec 32 := 256#32
  let v4227 : BitVec 32 := Scalar.muli v4226 c256_i32_3297
  v4227
def k0_mult113 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3295 : BitVec 32 := 3#32
  let v4225 : BitVec 32 := Scalar.addi v53 c3_i32_3295
  let c31_i32_3296 : BitVec 32 := 31#32
  let v4226 : BitVec 32 := Scalar.minsi v4225 c31_i32_3296
  let c256_i32_3326 : BitVec 32 := 256#32
  let v4264 : BitVec 32 := Scalar.muli v4226 c256_i32_3326
  v4264
def k0_mult114 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3355 : BitVec 32 := 3#32
  let v4301 : BitVec 32 := Scalar.addi v53 c3_i32_3355
  let c31_i32_3356 : BitVec 32 := 31#32
  let v4302 : BitVec 32 := Scalar.minsi v4301 c31_i32_3356
  let c256_i32_3357 : BitVec 32 := 256#32
  let v4303 : BitVec 32 := Scalar.muli v4302 c256_i32_3357
  v4303
def k0_mult115 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3355 : BitVec 32 := 3#32
  let v4301 : BitVec 32 := Scalar.addi v53 c3_i32_3355
  let c31_i32_3356 : BitVec 32 := 31#32
  let v4302 : BitVec 32 := Scalar.minsi v4301 c31_i32_3356
  let c256_i32_3386 : BitVec 32 := 256#32
  let v4340 : BitVec 32 := Scalar.muli v4302 c256_i32_3386
  v4340
def k0_mult116 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3415 : BitVec 32 := 3#32
  let v4377 : BitVec 32 := Scalar.addi v53 c3_i32_3415
  let c31_i32_3416 : BitVec 32 := 31#32
  let v4378 : BitVec 32 := Scalar.minsi v4377 c31_i32_3416
  let c256_i32_3417 : BitVec 32 := 256#32
  let v4379 : BitVec 32 := Scalar.muli v4378 c256_i32_3417
  v4379
def k0_mult117 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3415 : BitVec 32 := 3#32
  let v4377 : BitVec 32 := Scalar.addi v53 c3_i32_3415
  let c31_i32_3416 : BitVec 32 := 31#32
  let v4378 : BitVec 32 := Scalar.minsi v4377 c31_i32_3416
  let c256_i32_3446 : BitVec 32 := 256#32
  let v4416 : BitVec 32 := Scalar.muli v4378 c256_i32_3446
  v4416
def k0_mult118 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3475 : BitVec 32 := 3#32
  let v4453 : BitVec 32 := Scalar.addi v53 c3_i32_3475
  let c31_i32_3476 : BitVec 32 := 31#32
  let v4454 : BitVec 32 := Scalar.minsi v4453 c31_i32_3476
  let c256_i32_3477 : BitVec 32 := 256#32
  let v4455 : BitVec 32 := Scalar.muli v4454 c256_i32_3477
  v4455
def k0_mult119 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3475 : BitVec 32 := 3#32
  let v4453 : BitVec 32 := Scalar.addi v53 c3_i32_3475
  let c31_i32_3476 : BitVec 32 := 31#32
  let v4454 : BitVec 32 := Scalar.minsi v4453 c31_i32_3476
  let c256_i32_3506 : BitVec 32 := 256#32
  let v4492 : BitVec 32 := Scalar.muli v4454 c256_i32_3506
  v4492
def k0_mult120 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3535 : BitVec 32 := 3#32
  let v4529 : BitVec 32 := Scalar.addi v53 c3_i32_3535
  let c31_i32_3536 : BitVec 32 := 31#32
  let v4530 : BitVec 32 := Scalar.minsi v4529 c31_i32_3536
  let c256_i32_3537 : BitVec 32 := 256#32
  let v4531 : BitVec 32 := Scalar.muli v4530 c256_i32_3537
  v4531
def k0_mult121 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3535 : BitVec 32 := 3#32
  let v4529 : BitVec 32 := Scalar.addi v53 c3_i32_3535
  let c31_i32_3536 : BitVec 32 := 31#32
  let v4530 : BitVec 32 := Scalar.minsi v4529 c31_i32_3536
  let c256_i32_3566 : BitVec 32 := 256#32
  let v4568 : BitVec 32 := Scalar.muli v4530 c256_i32_3566
  v4568
def k0_mult122 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3595 : BitVec 32 := 3#32
  let v4605 : BitVec 32 := Scalar.addi v53 c3_i32_3595
  let c31_i32_3596 : BitVec 32 := 31#32
  let v4606 : BitVec 32 := Scalar.minsi v4605 c31_i32_3596
  let c256_i32_3597 : BitVec 32 := 256#32
  let v4607 : BitVec 32 := Scalar.muli v4606 c256_i32_3597
  v4607
def k0_mult123 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3595 : BitVec 32 := 3#32
  let v4605 : BitVec 32 := Scalar.addi v53 c3_i32_3595
  let c31_i32_3596 : BitVec 32 := 31#32
  let v4606 : BitVec 32 := Scalar.minsi v4605 c31_i32_3596
  let c256_i32_3626 : BitVec 32 := 256#32
  let v4644 : BitVec 32 := Scalar.muli v4606 c256_i32_3626
  v4644
def k0_mult124 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3655 : BitVec 32 := 3#32
  let v4681 : BitVec 32 := Scalar.addi v53 c3_i32_3655
  let c31_i32_3656 : BitVec 32 := 31#32
  let v4682 : BitVec 32 := Scalar.minsi v4681 c31_i32_3656
  let c256_i32_3657 : BitVec 32 := 256#32
  let v4683 : BitVec 32 := Scalar.muli v4682 c256_i32_3657
  v4683
def k0_mult125 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3655 : BitVec 32 := 3#32
  let v4681 : BitVec 32 := Scalar.addi v53 c3_i32_3655
  let c31_i32_3656 : BitVec 32 := 31#32
  let v4682 : BitVec 32 := Scalar.minsi v4681 c31_i32_3656
  let c256_i32_3686 : BitVec 32 := 256#32
  let v4720 : BitVec 32 := Scalar.muli v4682 c256_i32_3686
  v4720
def k0_mult126 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3715 : BitVec 32 := 3#32
  let v4757 : BitVec 32 := Scalar.addi v53 c3_i32_3715
  let c31_i32_3716 : BitVec 32 := 31#32
  let v4758 : BitVec 32 := Scalar.minsi v4757 c31_i32_3716
  let c256_i32_3717 : BitVec 32 := 256#32
  let v4759 : BitVec 32 := Scalar.muli v4758 c256_i32_3717
  v4759
def k0_mult127 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3715 : BitVec 32 := 3#32
  let v4757 : BitVec 32 := Scalar.addi v53 c3_i32_3715
  let c31_i32_3716 : BitVec 32 := 31#32
  let v4758 : BitVec 32 := Scalar.minsi v4757 c31_i32_3716
  let c256_i32_3746 : BitVec 32 := 256#32
  let v4796 : BitVec 32 := Scalar.muli v4758 c256_i32_3746
  v4796
def k0_mult128 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c4_i32_3775 : BitVec 32 := 4#32
  let v4833 : BitVec 32 := Scalar.addi v53 c4_i32_3775
  let c31_i32_3776 : BitVec 32 := 31#32
  let v4834 : BitVec 32 := Scalar.minsi v4833 c31_i32_3776
  let c256_i32_3777 : BitVec 32 := 256#32
  let v4835 : BitVec 32 := Scalar.muli v4834 c256_i32_3777
  v4835
def k0_mult129 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c4_i32_3775 : BitVec 32 := 4#32
  let v4833 : BitVec 32 := Scalar.addi v53 c4_i32_3775
  let c31_i32_3776 : BitVec 32 := 31#32
  let v4834 : BitVec 32 := Scalar.minsi v4833 c31_i32_3776
  let c256_i32_3806 : BitVec 32 := 256#32
  let v4872 : BitVec 32 := Scalar.muli v4834 c256_i32_3806
  v4872
def k0_mult130 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c4_i32_3836 : BitVec 32 := 4#32
  let v4910 : BitVec 32 := Scalar.addi v53 c4_i32_3836
  let c31_i32_3837 : BitVec 32 := 31#32
  let v4911 : BitVec 32 := Scalar.minsi v4910 c31_i32_3837
  let c256_i32_3838 : BitVec 32 := 256#32
  let v4912 : BitVec 32 := Scalar.muli v4911 c256_i32_3838
  v4912
def k0_mult131 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c4_i32_3836 : BitVec 32 := 4#32
  let v4910 : BitVec 32 := Scalar.addi v53 c4_i32_3836
  let c31_i32_3837 : BitVec 32 := 31#32
  let v4911 : BitVec 32 := Scalar.minsi v4910 c31_i32_3837
  let c256_i32_3867 : BitVec 32 := 256#32
  let v4949 : BitVec 32 := Scalar.muli v4911 c256_i32_3867
  v4949
def k0_mult132 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v53 : BitVec 32 := Scalar.muli arg8 c4_i32
  let c3_i32_3835 : BitVec 32 := 3#32
  let v4909 : BitVec 32 := Scalar.addi v53 c3_i32_3835
  let c256_i32_3896 : BitVec 32 := 256#32
  let v4996 : BitVec 32 := Scalar.muli v4909 c256_i32_3896
  v4996
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x8192x8x96 : Shape := ⟨4, ![4, 8192, 8, 96]⟩
abbrev S4x8192x8x64 : Shape := ⟨4, ![4, 8192, 8, 64]⟩
abbrev S4x8x8192x8192 : Shape := ⟨4, ![4, 8, 8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x8192x512 : Shape := ⟨3, ![4, 8192, 512]⟩

abbrev nBuf : Space → Nat
  | .hbm => 21
  | .vmem => 0
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S4x8x8192x8192, .f32⟩
  | .hbm, ⟨4, _⟩ => ⟨S_, .f32⟩
  | .hbm, ⟨5, _⟩ => ⟨S4x8x8192, .f32⟩
  | .hbm, ⟨6, _⟩ => ⟨S_, .f32⟩
  | .hbm, ⟨7, _⟩ => ⟨S4x8x8192, .f32⟩
  | .hbm, ⟨8, _⟩ => ⟨S4x8x8192, .f32⟩
  | .hbm, ⟨9, _⟩ => ⟨S4x8x8192x1, .f32⟩
  | .hbm, ⟨10, _⟩ => ⟨S4x8x8192x8192, .f32⟩
  | .hbm, ⟨11, _⟩ => ⟨S4x8x8192x8192, .f32⟩
  | .hbm, ⟨12, _⟩ => ⟨S4x8x8192x8192, .f32⟩
  | .hbm, ⟨13, _⟩ => ⟨S_, .f32⟩
  | .hbm, ⟨14, _⟩ => ⟨S4x8x8192, .f32⟩
  | .hbm, ⟨15, _⟩ => ⟨S4x8x8192x1, .f32⟩
  | .hbm, ⟨16, _⟩ => ⟨S4x8x8192x8192, .f32⟩
  | .hbm, ⟨17, _⟩ => ⟨S4x8x8192x8192, .f32⟩
  | .hbm, ⟨18, _⟩ => ⟨S4x8x64x8192, .f32⟩
  | .hbm, ⟨19, _⟩ => ⟨S4x8192x8x64, .f32⟩
  | .hbm, ⟨20, _⟩ => ⟨S4x8192x512, .f32⟩
  | _, _ => ⟨S4x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S4x256x4x128 : Shape := ⟨4, ![4, 256, 4, 128]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S512x1024 : Shape := ⟨2, ![512, 1024]⟩
abbrev S1024x4096 : Shape := ⟨2, ![1024, 4096]⟩
abbrev S4096x1024 : Shape := ⟨2, ![4096, 1024]⟩
abbrev S1x512 : Shape := ⟨2, ![1, 512]⟩
abbrev S1x1024 : Shape := ⟨2, ![1, 1024]⟩
abbrev S_ : Shape := ⟨0, ![]⟩
abbrev S1x128 : Shape := ⟨2, ![1, 128]⟩
abbrev S4x256x512 : Shape := ⟨3, ![4, 256, 512]⟩
abbrev S1x512x1024 : Shape := ⟨3, ![1, 512, 1024]⟩
abbrev S1x512x512 : Shape := ⟨3, ![1, 512, 512]⟩
abbrev S1x256x512 : Shape := ⟨3, ![1, 256, 512]⟩
abbrev S512x512 : Shape := ⟨2, ![512, 512]⟩
abbrev S512x1 : Shape := ⟨2, ![512, 1]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 36
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x256x4x128, .f32⟩
  | .hbm, ⟨4, _⟩ => ⟨S4x256x4x128, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x512, .f32⟩
  | .hbm, ⟨10, _⟩ => ⟨S128, .f32⟩
  | .hbm, ⟨11, _⟩ => ⟨S512x1024, .f32⟩
  | .hbm, ⟨12, _⟩ => ⟨S1024, .f32⟩
  | .hbm, ⟨13, _⟩ => ⟨S1024x4096, .f32⟩
  | .hbm, ⟨14, _⟩ => ⟨S4096x1024, .f32⟩
  | .hbm, ⟨15, _⟩ => ⟨S1x512, .f32⟩
  | .hbm, ⟨16, _⟩ => ⟨S1x512, .f32⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1x1024, .f32⟩
  | .hbm, ⟨22, _⟩ => ⟨S1024x512, .bf16⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S512x1024, .bf16⟩
  | .hbm, ⟨28, _⟩ => ⟨S1x1024, .f32⟩
  | .hbm, ⟨29, _⟩ => ⟨S1024x4096, .bf16⟩
  | .hbm, ⟨30, _⟩ => ⟨S4096x1024, .bf16⟩
  | .hbm, ⟨31, _⟩ => ⟨S4x256x512, .f32⟩
  | .hbm, ⟨32, _⟩ => ⟨S4x256x512, .bf16⟩
  | .hbm, ⟨33, _⟩ => ⟨S4x256x512, .f32⟩
  | .hbm, ⟨34, _⟩ => ⟨S4x256x512, .bf16⟩
  | .hbm, ⟨35, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x512, .bf16⟩
  | .local _ .vmem, ⟨12, _⟩ => ⟨S1x128, .f32⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S512x1024, .bf16⟩
  | .local _ .vmem, ⟨18, _⟩ => ⟨S1x1024, .f32⟩
  | .local _ .vmem, ⟨19, _⟩ => ⟨S1024x4096, .bf16⟩
  | .local _ .vmem, ⟨20, _⟩ => ⟨S4096x1024, .bf16⟩
  | .local _ .vmem, ⟨21, _⟩ => ⟨S1x512x1024, .f32⟩
  | .local _ .vmem, ⟨22, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S4x8192x1024 : Shape := ⟨3, ![4, 8192, 1024]⟩
abbrev S4x8192x512 : Shape := ⟨3, ![4, 8192, 512]⟩
abbrev S4x256x4x128 : Shape := ⟨4, ![4, 256, 4, 128]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x512 : Shape := ⟨3, ![1, 1, 512]⟩
abbrev S1x1x1024 : Shape := ⟨3, ![1, 1, 1024]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S4x8192x4096 : Shape := ⟨3, ![4, 8192, 4096]⟩

abbrev nBuf : Space → Nat
  | .hbm => 130
  | .vmem => 0
  | .smem => 0
  | _ => 0

abbrev hbmTy0_0 (i : Nat) : BufTy := match i % 128 with
  | 0 => ⟨S4x8192x1024, .f32⟩
  | 1 => ⟨S4x8192x512, .f32⟩
  | 2 => ⟨S4x8192x512, .f32⟩
  | 3 => ⟨S4x256x4x128, .f32⟩
  | 4 => ⟨S4x256x4x128, .f32⟩
  | 5 => ⟨S512, .f32⟩
  | 6 => ⟨S512, .f32⟩
  | 7 => ⟨S1024x1024, .f32⟩
  | 8 => ⟨S1024, .f32⟩
  | 9 => ⟨S1024x512, .f32⟩
  | 10 => ⟨S128, .f32⟩
  | 11 => ⟨S512x1024, .f32⟩
  | 12 => ⟨S1024, .f32⟩
  | 13 => ⟨S1024x4096, .f32⟩
  | 14 => ⟨S4096x1024, .f32⟩
  | 15 => ⟨S4x8192x512, .f32⟩
  | 16 => ⟨S_, .f32⟩
  | 17 => ⟨S4x8192, .f32⟩
  | 18 => ⟨S4x8192x1, .f32⟩
  | 19 => ⟨S_, .f32⟩
  | 20 => ⟨S4x8192x1, .f32⟩
  | 21 => ⟨S4x8192x1, .f32⟩
  | 22 => ⟨S_, .f32⟩
  | 23 => ⟨S4x8192x1, .f32⟩
  | 24 => ⟨S4x8192x1, .f32⟩
  | 25 => ⟨S4x8192x1, .f32⟩
  | 26 => ⟨S4x8192x512, .f32⟩
  | 27 => ⟨S4x8192x512, .f32⟩
  | 28 => ⟨S1x1x512, .f32⟩
  | 29 => ⟨S4x8192x512, .f32⟩
  | 30 => ⟨S4x8192x512, .f32⟩
  | 31 => ⟨S4x8192x512, .f32⟩
  | 32 => ⟨S_, .f32⟩
  | 33 => ⟨S4x8192, .f32⟩
  | 34 => ⟨S4x8192x1, .f32⟩
  | 35 => ⟨S_, .f32⟩
  | 36 => ⟨S4x8192x1, .f32⟩
  | 37 => ⟨S4x8192x1, .f32⟩
  | 38 => ⟨S_, .f32⟩
  | 39 => ⟨S4x8192x1, .f32⟩
  | 40 => ⟨S4x8192x1, .f32⟩
  | 41 => ⟨S4x8192x1, .f32⟩
  | 42 => ⟨S4x8192x512, .f32⟩
  | 43 => ⟨S4x8192x512, .f32⟩
  | 44 => ⟨S1x1x512, .f32⟩
  | 45 => ⟨S4x8192x512, .f32⟩
  | 46 => ⟨S4x8192x512, .f32⟩
  | 47 => ⟨S4x8192x1024, .f32⟩
  | 48 => ⟨S4x8192x1024, .f32⟩
  | 49 => ⟨S4x8192x1024, .f32⟩
  | 50 => ⟨S4x8192x1024, .f32⟩
  | 51 => ⟨S_, .f32⟩
  | 52 => ⟨S4x8192, .f32⟩
  | 53 => ⟨S4x8192x1, .f32⟩
  | 54 => ⟨S_, .f32⟩
  | 55 => ⟨S4x8192x1, .f32⟩
  | 56 => ⟨S4x8192x1, .f32⟩
  | 57 => ⟨S_, .f32⟩
  | 58 => ⟨S4x8192x1, .f32⟩
  | 59 => ⟨S4x8192x1, .f32⟩
  | 60 => ⟨S4x8192x1, .f32⟩
  | 61 => ⟨S4x8192x1024, .f32⟩
  | 62 => ⟨S4x8192x1024, .f32⟩
  | 63 => ⟨S1x1x1024, .f32⟩
  | 64 => ⟨S4x8192x1024, .f32⟩
  | 65 => ⟨S4x8192x1024, .f32⟩
  | 66 => ⟨S4x8192x512, .f32⟩
  | 67 => ⟨S4x8192x4x128, .f32⟩
  | 68 => ⟨S4x8192x4x128, .f32⟩
  | 69 => ⟨S_, .f32⟩
  | 70 => ⟨S4x8192x4, .f32⟩
  | 71 => ⟨S4x8192x4x1, .f32⟩
  | 72 => ⟨S_, .f32⟩
  | 73 => ⟨S4x8192x4x1, .f32⟩
  | 74 => ⟨S4x8192x4x1, .f32⟩
  | 75 => ⟨S_, .f32⟩
  | 76 => ⟨S4x8192x4x1, .f32⟩
  | 77 => ⟨S4x8192x4x1, .f32⟩
  | 78 => ⟨S4x8192x4x1, .f32⟩
  | 79 => ⟨S4x8192x4x128, .f32⟩
  | 80 => ⟨S4x8192x4x128, .f32⟩
  | 81 => ⟨S1x1x1x128, .f32⟩
  | 82 => ⟨S4x8192x4x128, .f32⟩
  | 83 => ⟨S4x8192x4x128, .f32⟩
  | 84 => ⟨S_, .f32⟩
  | 85 => ⟨S4x8192x4x128, .f32⟩
  | 86 => ⟨S4x8192x4x128, .f32⟩
  | 87 => ⟨S4x4x8192x256, .f32⟩
  | 88 => ⟨S_, .f32⟩
  | 89 => ⟨S4x4x8192, .f32⟩
  | 90 => ⟨S_, .f32⟩
  | 91 => ⟨S4x4x8192, .f32⟩
  | 92 => ⟨S4x4x8192, .f32⟩
  | 93 => ⟨S4x4x8192x1, .f32⟩
  | 94 => ⟨S4x4x8192x256, .f32⟩
  | 95 => ⟨S4x4x8192x256, .f32⟩
  | 96 => ⟨S4x4x8192x256, .f32⟩
  | 97 => ⟨S_, .f32⟩
  | 98 => ⟨S4x4x8192, .f32⟩
  | 99 => ⟨S4x4x8192x1, .f32⟩
  | 100 => ⟨S4x4x8192x256, .f32⟩
  | 101 => ⟨S4x4x8192x256, .f32⟩
  | 102 => ⟨S4x4x128x8192, .f32⟩
  | 103 => ⟨S4x8192x4x128, .f32⟩
  | 104 => ⟨S4x8192x512, .f32⟩
  | 105 => ⟨S4x8192x1024, .f32⟩
  | 106 => ⟨S4x8192x1024, .f32⟩
  | 107 => ⟨S4x8192x1024, .f32⟩
  | 108 => ⟨S_, .f32⟩
  | 109 => ⟨S4x8192, .f32⟩
  | 110 => ⟨S4x8192x1, .f32⟩
  | 111 => ⟨S_, .f32⟩
  | 112 => ⟨S4x8192x1, .f32⟩
  | 113 => ⟨S4x8192x1, .f32⟩
  | 114 => ⟨S_, .f32⟩
  | 115 => ⟨S4x8192x1, .f32⟩
  | 116 => ⟨S4x8192x1, .f32⟩
  | 117 => ⟨S4x8192x1, .f32⟩
  | 118 => ⟨S4x8192x1024, .f32⟩
  | 119 => ⟨S4x8192x1024, .f32⟩
  | 120 => ⟨S1x1x1024, .f32⟩
  | 121 => ⟨S4x8192x1024, .f32⟩
  | 122 => ⟨S4x8192x1024, .f32⟩
  | 123 => ⟨S4x8192x4096, .f32⟩
  | 124 => ⟨S_, .f32⟩
  | 125 => ⟨S4x8192x4096, .f32⟩
  | 126 => ⟨S4x8192x4096, .f32⟩
  | 127 => ⟨S4x8192x4096, .f32⟩
  | _ => ⟨S4x8192x1024, .f32⟩

abbrev hbmTy0_1 (i : Nat) : BufTy := match i % 128 with
  | 0 => ⟨S4x8192x1024, .f32⟩
  | 1 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_15 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_cst_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call0_cst : Ref sig .tc := ⟨.hbm, 124, rfl⟩
abbrev main_call0_v0 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩

abbrev nD : Nat := 1
abbrev τ : Topo := Topo.v7x

variable {F : FTy → Type} [FloatOps F]
-- ==== Kernel3.lean ====
abbrev S4x256x1024 : Shape := ⟨3, ![4, 256, 1024]⟩
abbrev S1024 : Shape := ⟨1, ![1024]⟩
abbrev S1024x1024 : Shape := ⟨2, ![1024, 1024]⟩
abbrev S128 : Shape := ⟨1, ![128]⟩
abbrev S1x1024 : Shape := ⟨2, ![1, 1024]⟩
abbrev S1x128 : Shape := ⟨2, ![1, 128]⟩
abbrev S4x256x512 : Shape := ⟨3, ![4, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1x1024, .f32⟩
  | .hbm, ⟨5, _⟩ => ⟨S1024x1024, .bf16⟩
  | .hbm, ⟨6, _⟩ => ⟨S1x128, .f32⟩
  | .hbm, ⟨7, _⟩ => ⟨S4x256x512, .bf16⟩
  | .hbm, ⟨8, _⟩ => ⟨S4x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x256x1024 : Shape := ⟨3, ![4, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S1x1x1x128 : Shape := ⟨4, ![1, 1, 1, 128]⟩
abbrev S4x256x512 : Shape := ⟨3, ![4, 256, 512]⟩

abbrev nBuf : Space → Nat
  | .hbm => 46
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S4x256x2x4x128, .f32⟩
  | .hbm, ⟨22, _⟩ => ⟨S4x256x1x4x128, .f32⟩
  | .hbm, ⟨23, _⟩ => ⟨S4x256x4x128, .f32⟩
  | .hbm, ⟨24, _⟩ => ⟨S4x256x1x4x128, .f32⟩
  | .hbm, ⟨25, _⟩ => ⟨S4x256x4x128, .f32⟩
  | .hbm, ⟨26, _⟩ => ⟨S4x256x4x128, .f32⟩
  | .hbm, ⟨27, _⟩ => ⟨S_, .f32⟩
  | .hbm, ⟨28, _⟩ => ⟨S4x256x4, .f32⟩
  | .hbm, ⟨29, _⟩ => ⟨S4x256x4x1, .f32⟩
  | .hbm, ⟨30, _⟩ => ⟨S_, .f32⟩
  | .hbm, ⟨31, _⟩ => ⟨S4x256x4x1, .f32⟩
  | .hbm, ⟨32, _⟩ => ⟨S4x256x4x1, .f32⟩
  | .hbm, ⟨33, _⟩ => ⟨S_, .f32⟩
  | .hbm, ⟨34, _⟩ => ⟨S4x256x4x1, .f32⟩
  | .hbm, ⟨35, _⟩ => ⟨S4x256x4x1, .f32⟩
  | .hbm, ⟨36, _⟩ => ⟨S4x256x4x1, .f32⟩
  | .hbm, ⟨37, _⟩ => ⟨S4x256x4x128, .f32⟩
  | .hbm, ⟨38, _⟩ => ⟨S4x256x4x128, .f32⟩
  | .hbm, ⟨39, _⟩ => ⟨S1x1x1x128, .f32⟩
  | .hbm, ⟨40, _⟩ => ⟨S4x256x4x128, .f32⟩
  | .hbm, ⟨41, _⟩ => ⟨S4x256x4x128, .f32⟩
  | .hbm, ⟨42, _⟩ => ⟨S4x256x512, .f32⟩
  | .hbm, ⟨43, _⟩ => ⟨S4x256x512, .bf16⟩
  | .hbm, ⟨44, _⟩ => ⟨S4x256x512, .f32⟩
  | .hbm, ⟨45, _⟩ => ⟨S4x256x512, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024 : Shape := ⟨1, ![1024]⟩
abbrev S1024x1952 : Shape := ⟨2, ![1024, 1952]⟩
abbrev S64 : Shape := ⟨1, ![64]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S96 : Shape := ⟨1, ![96]⟩
abbrev S512 : Shape := ⟨1, ![512]⟩
abbrev S_ : Shape := ⟨0, ![]⟩
abbrev S1024x32 : Shape := ⟨2, ![1024, 32]⟩
abbrev S1024x512 : Shape := ⟨2, ![1024, 512]⟩
abbrev S512x1 : Shape := ⟨2, ![512, 1]⟩
abbrev S1024x896 : Shape := ⟨2, ![1024, 896]⟩
abbrev S1024x16 : Shape := ⟨2, ![1024, 16]⟩
abbrev S1024x48 : Shape := ⟨2, ![1024, 48]⟩
abbrev S1024x2048 : Shape := ⟨2, ![1024, 2048]⟩
abbrev S256x8x96 : Shape := ⟨3, ![256, 8, 96]⟩
abbrev S128x8x128 : Shape := ⟨3, ![128, 8, 128]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1x64 : Shape := ⟨2, ![1, 64]⟩
abbrev S8x64 : Shape := ⟨2, ![8, 64]⟩
abbrev S1x512 : Shape := ⟨2, ![1, 512]⟩
abbrev S1x128 : Shape := ⟨2, ![1, 128]⟩
abbrev S96x1 : Shape := ⟨2, ![96, 1]⟩
abbrev S256x8x128 : Shape := ⟨3, ![256, 8, 128]⟩
abbrev S256x1024 : Shape := ⟨2, ![256, 1024]⟩
abbrev S128x8x64 : Shape := ⟨3, ![128, 8, 64]⟩
abbrev S128x8x16 : Shape := ⟨3, ![128, 8, 16]⟩
abbrev S128x8x48 : Shape := ⟨3, ![128, 8, 48]⟩
abbrev S128x8x96 : Shape := ⟨3, ![128, 8, 96]⟩
abbrev S128x512 : Shape := ⟨2, ![128, 512]⟩
abbrev S8x128 : Shape := ⟨2, ![8, 128]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S128x1 : Shape := ⟨2, ![128, 1]⟩
abbrev S8192x128 : Shape := ⟨2, ![8192, 128]⟩
abbrev S1x8192x128 : Shape := ⟨3, ![1, 8192, 128]⟩
abbrev S2x8192x128 : Shape := ⟨3, ![2, 8192, 128]⟩
abbrev S16 : Shape := ⟨1, ![16]⟩
abbrev S1x16 : Shape := ⟨2, ![1, 16]⟩
abbrev S8192x16 : Shape := ⟨2, ![8192, 16]⟩
abbrev S32768x1024 : Shape := ⟨2, ![32768, 1024]⟩
abbrev S32768x512 : Shape := ⟨2, ![32768, 512]⟩
abbrev S512x32768 : Shape := ⟨2, ![512, 32768]⟩
abbrev S1024x1024 : Shape := ⟨2, ![1024, 1024]⟩
abbrev S2x1024x128 : Shape := ⟨3, ![2, 1024, 128]⟩
abbrev S512x1024 : Shape := ⟨2, ![512, 1024]⟩
abbrev S1024x1 : Shape := ⟨2, ![1024, 1]⟩
abbrev S1x1024x128 : Shape := ⟨3, ![1, 1024, 128]⟩
abbrev S1024x128 : Shape := ⟨2, ![1024, 128]⟩
abbrev S1024x256 : Shape := ⟨2, ![1024, 256]⟩

abbrev nBuf : Space → Nat
  | .hbm => 281
  | .vmem => 31
  | .smem => 0
  | _ => 0

abbrev hbmTy0_0 (i : Nat) : BufTy := match i % 128 with
  | 0 => ⟨S4x8192x1024, .f32⟩
  | 1 => ⟨S1024, .f32⟩
  | 2 => ⟨S1024x1952, .f32⟩
  | 3 => ⟨S64, .f32⟩
  | 4 => ⟨S64, .f32⟩
  | 5 => ⟨S256, .f32⟩
  | 6 => ⟨S128, .f32⟩
  | 7 => ⟨S256x768, .f32⟩
  | 8 => ⟨S128x1024, .f32⟩
  | 9 => ⟨S96, .f32⟩
  | 10 => ⟨S96, .f32⟩
  | 11 => ⟨S512, .i32⟩
  | 12 => ⟨S512, .i1⟩
  | 13 => ⟨S512, .i1⟩
  | 14 => ⟨S256, .i32⟩
  | 15 => ⟨S256, .i32⟩
  | 16 => ⟨S512, .i1⟩
  | 17 => ⟨S512, .i1⟩
  | 18 => ⟨S96, .i32⟩
  | 19 => ⟨S96, .i1⟩
  | 20 => ⟨S96, .i1⟩
  | 21 => ⟨S96, .i1⟩
  | 22 => ⟨S128, .i32⟩
  | 23 => ⟨S128, .i1⟩
  | 24 => ⟨S128, .i1⟩
  | 25 => ⟨S128, .i1⟩
  | 26 => ⟨S128, .i1⟩
  | 27 => ⟨S128, .i1⟩
  | 28 => ⟨S128, .i1⟩
  | 29 => ⟨S128, .i32⟩
  | 30 => ⟨S128, .i1⟩
  | 31 => ⟨S128, .i1⟩
  | 32 => ⟨S128, .i1⟩
  | 33 => ⟨S128, .i1⟩
  | 34 => ⟨S128, .i1⟩
  | 35 => ⟨S128, .i1⟩
  | 36 => ⟨S_, .f32⟩
  | 37 => ⟨S_, .f32⟩
  | 38 => ⟨S_, .f32⟩
  | 39 => ⟨S_, .f32⟩
  | 40 => ⟨S1024x32, .f32⟩
  | 41 => ⟨S1024x512, .f32⟩
  | 42 => ⟨S_, .i32⟩
  | 43 => ⟨S512, .i32⟩
  | 44 => ⟨S512, .i32⟩
  | 45 => ⟨S512, .i32⟩
  | 46 => ⟨S512x1, .i32⟩
  | 47 => ⟨S1024x512, .f32⟩
  | 48 => ⟨S1024x512, .f32⟩
  | 49 => ⟨S_, .i32⟩
  | 50 => ⟨S512, .i32⟩
  | 51 => ⟨S512, .i32⟩
  | 52 => ⟨S512, .i32⟩
  | 53 => ⟨S512x1, .i32⟩
  | 54 => ⟨S1024x512, .f32⟩
  | 55 => ⟨S1024x896, .f32⟩
  | 56 => ⟨S1024x16, .f32⟩
  | 57 => ⟨S_, .f32⟩
  | 58 => ⟨S1024x48, .f32⟩
  | 59 => ⟨S1024x16, .f32⟩
  | 60 => ⟨S_, .f32⟩
  | 61 => ⟨S1024x48, .f32⟩
  | 62 => ⟨S1024x2048, .f32⟩
  | 63 => ⟨S256x8x96, .f32⟩
  | 64 => ⟨S128x8x128, .f32⟩
  | 65 => ⟨S256x1, .i32⟩
  | 66 => ⟨S1x256, .i32⟩
  | 67 => ⟨S256x256, .i32⟩
  | 68 => ⟨S256x256, .i32⟩
  | 69 => ⟨S256x256, .i1⟩
  | 70 => ⟨S256x256, .bf16⟩
  | 71 => ⟨S256x1, .i32⟩
  | 72 => ⟨S1x256, .i32⟩
  | 73 => ⟨S256x256, .i32⟩
  | 74 => ⟨S256x256, .i32⟩
  | 75 => ⟨S256x256, .i1⟩
  | 76 => ⟨S256x256, .bf16⟩
  | 77 => ⟨S1x1024, .f32⟩
  | 78 => ⟨S1024x2048, .bf16⟩
  | 79 => ⟨S1x64, .f32⟩
  | 80 => ⟨S8x64, .f32⟩
  | 81 => ⟨S512, .f32⟩
  | 82 => ⟨S_, .i32⟩
  | 83 => ⟨S512, .i32⟩
  | 84 => ⟨S512, .i32⟩
  | 85 => ⟨S512, .i32⟩
  | 86 => ⟨S512x1, .i32⟩
  | 87 => ⟨S512, .f32⟩
  | 88 => ⟨S_, .f32⟩
  | 89 => ⟨S512, .f32⟩
  | 90 => ⟨S512, .f32⟩
  | 91 => ⟨S512, .f32⟩
  | 92 => ⟨S512, .f32⟩
  | 93 => ⟨S1x512, .f32⟩
  | 94 => ⟨S1x64, .f32⟩
  | 95 => ⟨S8x64, .f32⟩
  | 96 => ⟨S512, .f32⟩
  | 97 => ⟨S_, .i32⟩
  | 98 => ⟨S512, .i32⟩
  | 99 => ⟨S512, .i32⟩
  | 100 => ⟨S512, .i32⟩
  | 101 => ⟨S512x1, .i32⟩
  | 102 => ⟨S512, .f32⟩
  | 103 => ⟨S1x512, .f32⟩
  | 104 => ⟨S1x256, .f32⟩
  | 105 => ⟨S1x128, .f32⟩
  | 106 => ⟨S_, .i32⟩
  | 107 => ⟨S96, .i32⟩
  | 108 => ⟨S96, .i32⟩
  | 109 => ⟨S96, .i32⟩
  | 110 => ⟨S96x1, .i32⟩
  | 111 => ⟨S256x8x96, .f32⟩
  | 112 => ⟨S_, .i32⟩
  | 113 => ⟨S_, .f32⟩
  | 114 => ⟨S256x8x128, .f32⟩
  | 115 => ⟨S256x1024, .f32⟩
  | 116 => ⟨S256x1024, .bf16⟩
  | 117 => ⟨S128x8x64, .f32⟩
  | 118 => ⟨S_, .f32⟩
  | 119 => ⟨S128x8x16, .f32⟩
  | 120 => ⟨S128x8x48, .f32⟩
  | 121 => ⟨S128x8x16, .f32⟩
  | 122 => ⟨S128x8x96, .f32⟩
  | 123 => ⟨S_, .i32⟩
  | 124 => ⟨S_, .f32⟩
  | 125 => ⟨S128x8x128, .f32⟩
  | 126 => ⟨S128x1024, .f32⟩
  | 127 => ⟨S128x1024, .bf16⟩
  | _ => ⟨S4x8192x1024, .f32⟩

abbrev hbmTy0_1 (i : Nat) : BufTy := match i % 128 with
  | 0 => ⟨S128x8x64, .f32⟩
  | 1 => ⟨S128x512, .f32⟩
  | 2 => ⟨S128x512, .bf16⟩
  | 3 => ⟨S_, .i32⟩
  | 4 => ⟨S96, .i32⟩
  | 5 => ⟨S96, .i32⟩
  | 6 => ⟨S96, .i32⟩
  | 7 => ⟨S96x1, .i32⟩
  | 8 => ⟨S96, .f32⟩
  | 9 => ⟨S_, .i32⟩
  | 10 => ⟨S_, .f32⟩
  | 11 => ⟨S128, .f32⟩
  | 12 => ⟨S1x128, .f32⟩
  | 13 => ⟨S8x128, .f32⟩
  | 14 => ⟨S1024, .f32⟩
  | 15 => ⟨S_, .f32⟩
  | 16 => ⟨S1024, .f32⟩
  | 17 => ⟨S1024, .f32⟩
  | 18 => ⟨S1024, .f32⟩
  | 19 => ⟨S1024, .f32⟩
  | 20 => ⟨S1x1024, .f32⟩
  | 21 => ⟨S_, .i32⟩
  | 22 => ⟨S96, .i32⟩
  | 23 => ⟨S96, .i32⟩
  | 24 => ⟨S96, .i32⟩
  | 25 => ⟨S96x1, .i32⟩
  | 26 => ⟨S96, .f32⟩
  | 27 => ⟨S_, .i32⟩
  | 28 => ⟨S_, .f32⟩
  | 29 => ⟨S128, .f32⟩
  | 30 => ⟨S1x128, .f32⟩
  | 31 => ⟨S8x128, .f32⟩
  | 32 => ⟨S1024, .f32⟩
  | 33 => ⟨S1x1024, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S8192, .f32⟩
  | 49 => ⟨S8192x1, .f32⟩
  | 50 => ⟨S1x8, .f32⟩
  | 51 => ⟨S8192x8, .f32⟩
  | 52 => ⟨S8192x8, .f32⟩
  | 53 => ⟨S8192x8, .f32⟩
  | 54 => ⟨S8192x8, .f32⟩
  | 55 => ⟨S8192x8, .f32⟩
  | 56 => ⟨S_, .i32⟩
  | 57 => ⟨S128, .i32⟩
  | 58 => ⟨S128, .i32⟩
  | 59 => ⟨S128, .i32⟩
  | 60 => ⟨S128x1, .i32⟩
  | 61 => ⟨S8192x128, .f32⟩
  | 62 => ⟨S_, .f32⟩
  | 63 => ⟨S_, .f32⟩
  | 64 => ⟨S8192x128, .i1⟩
  | 65 => ⟨S8192x128, .f32⟩
  | 66 => ⟨S8192x128, .f32⟩
  | 67 => ⟨S_, .i32⟩
  | 68 => ⟨S128, .i32⟩
  | 69 => ⟨S128, .i32⟩
  | 70 => ⟨S128, .i32⟩
  | 71 => ⟨S128x1, .i32⟩
  | 72 => ⟨S8192x128, .f32⟩
  | 73 => ⟨S8192x128, .f32⟩
  | 74 => ⟨S_, .i32⟩
  | 75 => ⟨S128, .i32⟩
  | 76 => ⟨S128, .i32⟩
  | 77 => ⟨S128, .i32⟩
  | 78 => ⟨S128x1, .i32⟩
  | 79 => ⟨S8192x128, .f32⟩
  | 80 => ⟨S_, .f32⟩
  | 81 => ⟨S_, .f32⟩
  | 82 => ⟨S8192x128, .i1⟩
  | 83 => ⟨S8192x128, .f32⟩
  | 84 => ⟨S8192x128, .f32⟩
  | 85 => ⟨S8192x128, .i1⟩
  | 86 => ⟨S8192x128, .f32⟩
  | 87 => ⟨S1x8192x128, .f32⟩
  | 88 => ⟨S1x8192x128, .f32⟩
  | 89 => ⟨S2x8192x128, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S8192, .f32⟩
  | 105 => ⟨S8192x1, .f32⟩
  | 106 => ⟨S1x16, .f32⟩
  | 107 => ⟨S8192x16, .f32⟩
  | 108 => ⟨S8192x16, .f32⟩
  | 109 => ⟨S8192x16, .f32⟩
  | 110 => ⟨S8192x16, .f32⟩
  | 111 => ⟨S8192x16, .f32⟩
  | 112 => ⟨S_, .i32⟩
  | 113 => ⟨S128, .i32⟩
  | 114 => ⟨S128, .i32⟩
  | 115 => ⟨S128, .i32⟩
  | 116 => ⟨S128x1, .i32⟩
  | 117 => ⟨S8192x128, .f32⟩
  | 118 => ⟨S_, .f32⟩
  | 119 => ⟨S_, .f32⟩
  | 120 => ⟨S8192x128, .i1⟩
  | 121 => ⟨S8192x128, .f32⟩
  | 122 => ⟨S8192x128, .f32⟩
  | 123 => ⟨S_, .i32⟩
  | 124 => ⟨S128, .i32⟩
  | 125 => ⟨S128, .i32⟩
  | 126 => ⟨S128, .i32⟩
  | 127 => ⟨S128x1, .i32⟩
  | _ => ⟨S4x8192x1024, .f32⟩

abbrev hbmTy0_2 (i : Nat) : BufTy := match i % 128 with
  | 0 => ⟨S8192x128, .f32⟩
  | 1 => ⟨S8192x128, .f32⟩
  | 2 => ⟨S_, .i32⟩
  | 3 => ⟨S128, .i32⟩
  | 4 => ⟨S128, .i32⟩
  | 5 => ⟨S128, .i32⟩
  | 6 => ⟨S128x1, .i32⟩
  | 7 => ⟨S8192x128, .f32⟩
  | 8 => ⟨S_, .f32⟩
  | 9 => ⟨S_, .f32⟩
  | 10 => ⟨S8192x128, .i1⟩
  | 11 => ⟨S8192x128, .f32⟩
  | 12 => ⟨S8192x128, .f32⟩
  | 13 => ⟨S8192x128, .i1⟩
  | 14 => ⟨S8192x128, .f32⟩
  | 15 => ⟨S1x8192x128, .f32⟩
  | 16 => ⟨S1x8192x128, .f32⟩
  | 17 => ⟨S2x8192x128, .f32⟩
  | 18 => ⟨S32768x1024, .f32⟩
  | 19 => ⟨S32768x512, .f32⟩
  | 20 => ⟨S32768x512, .f32⟩
  | 21 => ⟨S32768x512, .f32⟩
  | 22 => ⟨S32768x1024, .bf16⟩
  | 23 => ⟨S32768x1024, .bf16⟩
  | 24 => ⟨S512x32768, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x512, .f32⟩
  | .local _ .vmem, ⟨5, _⟩ => ⟨S1x512, .f32⟩
  | .local _ .vmem, ⟨6, _⟩ => ⟨S1x256, .f32⟩
  | .local _ .vmem, ⟨7, _⟩ => ⟨S1x128, .f32⟩
  | .local _ .vmem, ⟨8, _⟩ => ⟨S256x1024, .bf16⟩
  | .local _ .vmem, ⟨9, _⟩ => ⟨S128x1024, .bf16⟩
  | .local _ .vmem, ⟨10, _⟩ => ⟨S128x512, .bf16⟩
  | .local _ .vmem, ⟨11, _⟩ => ⟨S1x1024, .f32⟩
  | .local _ .vmem, ⟨12, _⟩ => ⟨S1x1024, .f32⟩
  | .local _ .vmem, ⟨13, _⟩ => ⟨S256x256, .bf16⟩
  | .local _ .vmem, ⟨14, _⟩ => ⟨S256x256, .bf16⟩
  | .local _ .vmem, ⟨15, _⟩ => ⟨S2x1024x128, .f32⟩
  | .local _ .vmem, ⟨16, _⟩ => ⟨S2x1024x128, .f32⟩
  | .local _ .vmem, ⟨17, _⟩ => ⟨S2x1024x128, .f32⟩
  | .local _ .vmem, ⟨18, _⟩ => ⟨S2x1024x128, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S512x1024, .bf16⟩
  | .local _ .vmem, ⟨30, _⟩ => ⟨S512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_c_4 : Ref sig .tc := ⟨.hbm, 16, rfl⟩
abbrev main_c_5 : Ref sig .tc := ⟨.hbm, 17, rfl⟩
abbrev main_c_6 : Ref sig .tc := ⟨.hbm, 18, rfl⟩
abbrev main_c_7 : Ref sig .tc := ⟨.hbm, 19, rfl⟩
abbrev main_c_8 : Ref sig .tc := ⟨.hbm, 20, rfl⟩
abbrev main_c_9 : Ref sig .tc := ⟨.hbm, 21, rfl⟩
abbrev main_c_10 : Ref sig .tc := ⟨.hbm, 22, rfl⟩
abbrev main_c_11 : Ref sig .tc := ⟨.hbm, 23, rfl⟩
abbrev main_c_12 : Ref sig .tc := ⟨.hbm, 24, rfl⟩
abbrev main_c_13 : Ref sig .tc := ⟨.hbm, 25, rfl⟩
abbrev main_c_14 : Ref sig .tc := ⟨.hbm, 26, rfl⟩
abbrev main_c_15 : Ref sig .tc := ⟨.hbm, 27, rfl⟩
abbrev main_c_16 : Ref sig .tc := ⟨.hbm, 28, rfl⟩
abbrev main_c_17 : Ref sig .tc := ⟨.hbm, 29, rfl⟩
abbrev main_c_18 : Ref sig .tc := ⟨.hbm, 30, rfl⟩
abbrev main_c_19 : Ref sig .tc := ⟨.hbm, 31, rfl⟩
abbrev main_c_20 : Ref sig .tc := ⟨.hbm, 32, rfl⟩
abbrev main_c_21 : Ref sig .tc := ⟨.hbm, 33, rfl⟩
abbrev main_c_22 : Ref sig .tc := ⟨.hbm, 34, rfl⟩
abbrev main_c_23 : Ref sig .tc := ⟨.hbm, 35, rfl⟩
abbrev main_cst : Ref sig .tc := ⟨.hbm, 36, rfl⟩
abbrev main_v0 : Ref sig .tc := ⟨.hbm, 37, rfl⟩
abbrev main_cst_24 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_c_25 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_c_26 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_27 : Ref sig .tc := ⟨.hbm, 57, rfl⟩
abbrev main_v17 : Ref sig .tc := ⟨.hbm, 58, rfl⟩
abbrev main_v18 : Ref sig .tc := ⟨.hbm, 59, rfl⟩
abbrev main_cst_28 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_29 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_30 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_c_31 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_c_32 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_c_33 : Ref sig .tc := ⟨.hbm, 112, rfl⟩
abbrev main_call0_v0 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_34 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_c_35 : Ref sig .tc := ⟨.hbm, 123, rfl⟩
abbrev main_call1_v0 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_c_36 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_c_37 : Ref sig .tc := ⟨.hbm, 137, rfl⟩
abbrev main_call2_v0 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_38 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_c_39 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_c_40 : Ref sig .tc := ⟨.hbm, 155, rfl⟩
abbrev main_call3_v0 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_41 : Ref sig .tc := ⟨.hbm, 163, rfl⟩
abbrev main_v105 : Ref sig .tc := ⟨.hbm, 164, rfl⟩
abbrev main_v106 : Ref sig .tc := ⟨.hbm, 165, rfl⟩
abbrev main_cst_42 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_43 : Ref sig .tc := ⟨.hbm, 170, rfl⟩
abbrev main_v110 : Ref sig .tc := ⟨.hbm, 171, rfl⟩
abbrev main_v111 : Ref sig .tc := ⟨.hbm, 172, rfl⟩
abbrev main_cst_44 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_c_45 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_46 : Ref sig .tc := ⟨.hbm, 190, rfl⟩
abbrev main_call4_v0 : Ref sig .tc := ⟨.hbm, 191, rfl⟩
abbrev main_call4_v1 : Ref sig .tc := ⟨.hbm, 192, rfl⟩
abbrev main_call4_v2 : Ref sig .tc := ⟨.hbm, 193, rfl⟩
abbrev main_v127 : Ref sig .tc := ⟨.hbm, 194, rfl⟩
abbrev main_c_47 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_c_48 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_cst_49 : Ref sig .tc := ⟨.hbm, 208, rfl⟩
abbrev main_call5_v0 : Ref sig .tc := ⟨.hbm, 209, rfl⟩
abbrev main_call5_v1 : Ref sig .tc := ⟨.hbm, 210, rfl⟩
abbrev main_call5_v2 : Ref sig .tc := ⟨.hbm, 211, rfl⟩
abbrev main_v139 : Ref sig .tc := ⟨.hbm, 212, rfl⟩
abbrev main_call6_v0 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_cst_50 : Ref sig .tc := ⟨.hbm, 219, rfl⟩
abbrev main_v145 : Ref sig .tc := ⟨.hbm, 220, rfl⟩
abbrev main_v146 : Ref sig .tc := ⟨.hbm, 221, rfl⟩
abbrev main_cst_51 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_cst_52 : Ref sig .tc := ⟨.hbm, 226, rfl⟩
abbrev main_v150 : Ref sig .tc := ⟨.hbm, 227, rfl⟩
abbrev main_v151 : Ref sig .tc := ⟨.hbm, 228, rfl⟩
abbrev main_cst_53 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_c_54 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_cst_55 : Ref sig .tc := ⟨.hbm, 246, rfl⟩
abbrev main_call7_v0 : Ref sig .tc := ⟨.hbm, 247, rfl⟩
abbrev main_call7_v1 : Ref sig .tc := ⟨.hbm, 248, rfl⟩
abbrev main_call7_v2 : Ref sig .tc := ⟨.hbm, 249, rfl⟩
abbrev main_v167 : Ref sig .tc := ⟨.hbm, 250, rfl⟩
abbrev main_c_56 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_c_57 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_cst_58 : Ref sig .tc := ⟨.hbm, 264, rfl⟩
abbrev main_call8_v0 : Ref sig .tc := ⟨.hbm, 265, rfl⟩
abbrev main_call8_v1 : Ref sig .tc := ⟨.hbm, 266, rfl⟩
abbrev main_call8_v2 : Ref sig .tc := ⟨.hbm, 267, rfl⟩
abbrev main_v179 : Ref sig .tc := ⟨.hbm, 268, rfl⟩
abbrev main_call9_v0 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185_0 : Ref sig .tc := ⟨.hbm, 275, rfl⟩
abbrev main_v185_1 : Ref sig .tc := ⟨.hbm, 276, rfl⟩
abbrev main_v185_2 : Ref sig .tc := ⟨.hbm, 277, rfl⟩
abbrev main_v185_3 : Ref sig .tc := ⟨.hbm, 278, rfl⟩
abbrev main_v185_4 : Ref sig .tc := ⟨.hbm, 279, rfl⟩
abbrev main_v185_5 : Ref sig .tc := ⟨.hbm, 280, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_15 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference4Ideal.lean ====
abbrev S4x8192x1024 : Shape := ⟨3, ![4, 8192, 1024]⟩
abbrev S1024 : Shape := ⟨1, ![1024]⟩
abbrev S1024x1952 : Shape := ⟨2, ![1024, 1952]⟩
abbrev S64 : Shape := ⟨1, ![64]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S96 : Shape := ⟨1, ![96]⟩
abbrev S8192 : Shape := ⟨1, ![8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1952 : Shape := ⟨3, ![4, 8192, 1952]⟩
abbrev S4x8192x512 : Shape := ⟨3, ![4, 8192, 512]⟩
abbrev S4x8192x256 : Shape := ⟨3, ![4, 8192, 256]⟩
abbrev S4x8192x128 : Shape := ⟨3, ![4, 8192, 128]⟩
abbrev S4x8192x32 : Shape := ⟨3, ![4, 8192, 32]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x8x16 : Shape := ⟨4, ![4, 8192, 8, 16]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S4x8192x8x8 : Shape := ⟨4, ![4, 8192, 8, 8]⟩
abbrev S1x8192x1x8 : Shape := ⟨4, ![1, 8192, 1, 8]⟩
abbrev S4x8192x8x48 : Shape := ⟨4, ![4, 8192, 8, 48]⟩
abbrev S1x1x128 : Shape := ⟨3, ![1, 1, 128]⟩
abbrev S4x8192x8x128 : Shape := ⟨4, ![4, 8192, 8, 128]⟩
abbrev S32768x4x2x64 : Shape := ⟨4, ![32768, 4, 2, 64]⟩
abbrev S32768x4x2x8 : Shape := ⟨4, ![32768, 4, 2, 8]⟩
abbrev S32768x4x2x24 : Shape := ⟨4, ![32768, 4, 2, 24]⟩
abbrev S32768x4x16 : Shape := ⟨3, ![32768, 4, 16]⟩
abbrev S32768x4x48 : Shape := ⟨3, ![32768, 4, 48]⟩
abbrev S32768x4x128 : Shape := ⟨3, ![32768, 4, 128]⟩
abbrev S32768x512 : Shape := ⟨2, ![32768, 512]⟩
abbrev S512x32768 : Shape := ⟨2, ![512, 32768]⟩

abbrev nBuf : Space → Nat
  | .hbm => 211
  | .vmem => 0
  | .smem => 0
  | _ => 0

abbrev hbmTy0_0 (i : Nat) : BufTy := match i % 128 with
  | 0 => ⟨S4x8192x1024, .f32⟩
  | 1 => ⟨S1024, .f32⟩
  | 2 => ⟨S1024x1952, .f32⟩
  | 3 => ⟨S64, .f32⟩
  | 4 => ⟨S64, .f32⟩
  | 5 => ⟨S256, .f32⟩
  | 6 => ⟨S128, .f32⟩
  | 7 => ⟨S256x768, .f32⟩
  | 8 => ⟨S128x1024, .f32⟩
  | 9 => ⟨S96, .f32⟩
  | 10 => ⟨S96, .f32⟩
  | 11 => ⟨S8192, .i32⟩
  | 12 => ⟨S4x8192x1024, .f32⟩
  | 13 => ⟨S_, .f32⟩
  | 14 => ⟨S4x8192, .f32⟩
  | 15 => ⟨S4x8192x1, .f32⟩
  | 16 => ⟨S_, .f32⟩
  | 17 => ⟨S4x8192x1, .f32⟩
  | 18 => ⟨S4x8192x1, .f32⟩
  | 19 => ⟨S_, .f32⟩
  | 20 => ⟨S4x8192x1, .f32⟩
  | 21 => ⟨S4x8192x1, .f32⟩
  | 22 => ⟨S4x8192x1, .f32⟩
  | 23 => ⟨S4x8192x1024, .f32⟩
  | 24 => ⟨S4x8192x1024, .f32⟩
  | 25 => ⟨S1x1x1024, .f32⟩
  | 26 => ⟨S4x8192x1024, .f32⟩
  | 27 => ⟨S4x8192x1024, .f32⟩
  | 28 => ⟨S4x8192x1952, .f32⟩
  | 29 => ⟨S4x8192x512, .f32⟩
  | 30 => ⟨S4x8192x512, .f32⟩
  | 31 => ⟨S4x8192x512, .f32⟩
  | 32 => ⟨S4x8192x256, .f32⟩
  | 33 => ⟨S4x8192x128, .f32⟩
  | 34 => ⟨S4x8192x32, .f32⟩
  | 35 => ⟨S4x8192x8x64, .f32⟩
  | 36 => ⟨S4x8192x8x64, .f32⟩
  | 37 => ⟨S4x8192x8x64, .f32⟩
  | 38 => ⟨S_, .f32⟩
  | 39 => ⟨S4x8192x8, .f32⟩
  | 40 => ⟨S4x8192x8x1, .f32⟩
  | 41 => ⟨S_, .f32⟩
  | 42 => ⟨S4x8192x8x1, .f32⟩
  | 43 => ⟨S4x8192x8x1, .f32⟩
  | 44 => ⟨S_, .f32⟩
  | 45 => ⟨S4x8192x8x1, .f32⟩
  | 46 => ⟨S4x8192x8x1, .f32⟩
  | 47 => ⟨S4x8192x8x1, .f32⟩
  | 48 => ⟨S4x8192x8x64, .f32⟩
  | 49 => ⟨S4x8192x8x64, .f32⟩
  | 50 => ⟨S1x1x1x64, .f32⟩
  | 51 => ⟨S4x8192x8x64, .f32⟩
  | 52 => ⟨S4x8192x8x64, .f32⟩
  | 53 => ⟨S4x8192x8x16, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S8192, .f32⟩
  | 69 => ⟨S8192x1, .f32⟩
  | 70 => ⟨S1x8, .f32⟩
  | 71 => ⟨S8192x8, .f32⟩
  | 72 => ⟨S8192x8, .f32⟩
  | 73 => ⟨S8192x8, .f32⟩
  | 74 => ⟨S8192x8, .f32⟩
  | 75 => ⟨S8192x1x8, .f32⟩
  | 76 => ⟨S8192x8, .f32⟩
  | 77 => ⟨S8192x1x8, .f32⟩
  | 78 => ⟨S4x8192x8x8, .f32⟩
  | 79 => ⟨S4x8192x8x8, .f32⟩
  | 80 => ⟨S1x8192x1x8, .f32⟩
  | 81 => ⟨S4x8192x8x8, .f32⟩
  | 82 => ⟨S4x8192x8x8, .f32⟩
  | 83 => ⟨S1x8192x1x8, .f32⟩
  | 84 => ⟨S4x8192x8x8, .f32⟩
  | 85 => ⟨S4x8192x8x8, .f32⟩
  | 86 => ⟨S4x8192x8x8, .f32⟩
  | 87 => ⟨S1x8192x1x8, .f32⟩
  | 88 => ⟨S4x8192x8x8, .f32⟩
  | 89 => ⟨S4x8192x8x8, .f32⟩
  | 90 => ⟨S1x8192x1x8, .f32⟩
  | 91 => ⟨S4x8192x8x8, .f32⟩
  | 92 => ⟨S4x8192x8x8, .f32⟩
  | 93 => ⟨S4x8192x8x8, .f32⟩
  | 94 => ⟨S4x8192x8x16, .f32⟩
  | 95 => ⟨S4x8192x8x48, .f32⟩
  | 96 => ⟨S4x8192x8x64, .f32⟩
  | 97 => ⟨S_, .f32⟩
  | 98 => ⟨S4x8192x8x64, .f32⟩
  | 99 => ⟨S4x8192x8x64, .f32⟩
  | 100 => ⟨S4x8192x8x64, .f32⟩
  | 101 => ⟨S_, .f32⟩
  | 102 => ⟨S4x8192x8, .f32⟩
  | 103 => ⟨S4x8192x8x1, .f32⟩
  | 104 => ⟨S_, .f32⟩
  | 105 => ⟨S4x8192x8x1, .f32⟩
  | 106 => ⟨S4x8192x8x1, .f32⟩
  | 107 => ⟨S_, .f32⟩
  | 108 => ⟨S4x8192x8x1, .f32⟩
  | 109 => ⟨S4x8192x8x1, .f32⟩
  | 110 => ⟨S4x8192x8x1, .f32⟩
  | 111 => ⟨S4x8192x8x64, .f32⟩
  | 112 => ⟨S4x8192x8x64, .f32⟩
  | 113 => ⟨S1x1x1x64, .f32⟩
  | 114 => ⟨S4x8192x8x64, .f32⟩
  | 115 => ⟨S4x8192x8x64, .f32⟩
  | 116 => ⟨S4x8192x8x16, .f32⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S8, .f32⟩
  | 125 => ⟨S_, .f32⟩
  | 126 => ⟨S8, .f32⟩
  | 127 => ⟨S8, .f32⟩
  | _ => ⟨S4x8192x1024, .f32⟩

abbrev hbmTy0_1 (i : Nat) : BufTy := match i % 128 with
  | 0 => ⟨S_, .f32⟩
  | 1 => ⟨S8, .f32⟩
  | 2 => ⟨S8, .f32⟩
  | 3 => ⟨S8192, .f32⟩
  | 4 => ⟨S8192x1, .f32⟩
  | 5 => ⟨S1x8, .f32⟩
  | 6 => ⟨S8192x8, .f32⟩
  | 7 => ⟨S8192x8, .f32⟩
  | 8 => ⟨S8192x8, .f32⟩
  | 9 => ⟨S8192x8, .f32⟩
  | 10 => ⟨S8192x1x8, .f32⟩
  | 11 => ⟨S8192x8, .f32⟩
  | 12 => ⟨S8192x1x8, .f32⟩
  | 13 => ⟨S4x8192x8x8, .f32⟩
  | 14 => ⟨S4x8192x8x8, .f32⟩
  | 15 => ⟨S1x8192x1x8, .f32⟩
  | 16 => ⟨S4x8192x8x8, .f32⟩
  | 17 => ⟨S4x8192x8x8, .f32⟩
  | 18 => ⟨S1x8192x1x8, .f32⟩
  | 19 => ⟨S4x8192x8x8, .f32⟩
  | 20 => ⟨S4x8192x8x8, .f32⟩
  | 21 => ⟨S4x8192x8x8, .f32⟩
  | 22 => ⟨S1x8192x1x8, .f32⟩
  | 23 => ⟨S4x8192x8x8, .f32⟩
  | 24 => ⟨S4x8192x8x8, .f32⟩
  | 25 => ⟨S1x8192x1x8, .f32⟩
  | 26 => ⟨S4x8192x8x8, .f32⟩
  | 27 => ⟨S4x8192x8x8, .f32⟩
  | 28 => ⟨S4x8192x8x8, .f32⟩
  | 29 => ⟨S4x8192x8x16, .f32⟩
  | 30 => ⟨S4x8192x8x48, .f32⟩
  | 31 => ⟨S4x8192x8x64, .f32⟩
  | 32 => ⟨S4x8192x128, .f32⟩
  | 33 => ⟨S_, .f32⟩
  | 34 => ⟨S4x8192, .f32⟩
  | 35 => ⟨S4x8192x1, .f32⟩
  | 36 => ⟨S_, .f32⟩
  | 37 => ⟨S4x8192x1, .f32⟩
  | 38 => ⟨S4x8192x1, .f32⟩
  | 39 => ⟨S_, .f32⟩
  | 40 => ⟨S4x8192x1, .f32⟩
  | 41 => ⟨S4x8192x1, .f32⟩
  | 42 => ⟨S4x8192x1, .f32⟩
  | 43 => ⟨S4x8192x128, .f32⟩
  | 44 => ⟨S4x8192x128, .f32⟩
  | 45 => ⟨S1x1x128, .f32⟩
  | 46 => ⟨S4x8192x128, .f32⟩
  | 47 => ⟨S4x8192x128, .f32⟩
  | 48 => ⟨S4x8192x1024, .f32⟩
  | 49 => ⟨S4x8192x8x128, .f32⟩
  | 50 => ⟨S4x8192x8x64, .f32⟩
  | 51 => ⟨S_, .f32⟩
  | 52 => ⟨S_, .f32⟩
  | 53 => ⟨S_, .f32⟩
  | 54 => ⟨S_, .f32⟩
  | 55 => ⟨S4x8192x8x64, .f32⟩
  | 56 => ⟨S4x8192x8x64, .f32⟩
  | 57 => ⟨S32768x4x2x64, .f32⟩
  | 58 => ⟨S32768x4x2x8, .f32⟩
  | 59 => ⟨S32768x4x2x24, .f32⟩
  | 60 => ⟨S32768x4x2x8, .f32⟩
  | 61 => ⟨S32768x4x2x24, .f32⟩
  | 62 => ⟨S32768x4x16, .f32⟩
  | 63 => ⟨S32768x4x48, .f32⟩
  | 64 => ⟨S32768x4x16, .f32⟩
  | 65 => ⟨S32768x4x48, .f32⟩
  | 66 => ⟨S32768x4x128, .f32⟩
  | 67 => ⟨S32768x512, .f32⟩
  | 68 => ⟨S32768x4x2x64, .f32⟩
  | 69 => ⟨S32768x4x2x8, .f32⟩
  | 70 => ⟨S32768x4x2x24, .f32⟩
  | 71 => ⟨S32768x4x2x8, .f32⟩
  | 72 => ⟨S32768x4x2x24, .f32⟩
  | 73 => ⟨S32768x4x16, .f32⟩
  | 74 => ⟨S32768x4x48, .f32⟩
  | 75 => ⟨S32768x4x16, .f32⟩
  | 76 => ⟨S32768x4x48, .f32⟩
  | 77 => ⟨S32768x4x128, .f32⟩
  | 78 => ⟨S32768x512, .f32⟩
  | 79 => ⟨S32768x512, .f32⟩
  | 80 => ⟨S32768x512, .f32⟩
  | 81 => ⟨S512x32768, .f32⟩
  | 82 => ⟨S512x32768, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_9 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_10 : Ref sig .tc := ⟨.hbm, 101, rfl⟩
abbrev main_v79 : Ref sig .tc := ⟨.hbm, 102, rfl⟩
abbrev main_v80 : Ref sig .tc := ⟨.hbm, 103, rfl⟩
abbrev main_cst_11 : Ref sig .tc := ⟨.hbm, 104, rfl⟩
abbrev main_v81 : Ref sig .tc := ⟨.hbm, 105, rfl⟩
abbrev main_v82 : Ref sig .tc := ⟨.hbm, 106, rfl⟩
abbrev main_cst_12 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_13 : Ref sig .tc := ⟨.hbm, 118, rfl⟩
abbrev main_v93 : Ref sig .tc := ⟨.hbm, 119, rfl⟩
abbrev main_v94 : Ref sig .tc := ⟨.hbm, 120, rfl⟩
abbrev main_cst_14 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_15 : Ref sig .tc := ⟨.hbm, 125, rfl⟩
abbrev main_v98 : Ref sig .tc := ⟨.hbm, 126, rfl⟩
abbrev main_v99 : Ref sig .tc := ⟨.hbm, 127, rfl⟩
abbrev main_cst_16 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_17 : Ref sig .tc := ⟨.hbm, 161, rfl⟩
abbrev main_v132 : Ref sig .tc := ⟨.hbm, 162, rfl⟩
abbrev main_v133 : Ref sig .tc := ⟨.hbm, 163, rfl⟩
abbrev main_cst_18 : Ref sig .tc := ⟨.hbm, 164, rfl⟩
abbrev main_v134 : Ref sig .tc := ⟨.hbm, 165, rfl⟩
abbrev main_v135 : Ref sig .tc := ⟨.hbm, 166, rfl⟩
abbrev main_cst_19 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_20 : Ref sig .tc := ⟨.hbm, 179, rfl⟩
abbrev main_v147 : Ref sig .tc := ⟨.hbm, 180, rfl⟩
abbrev main_cst_21 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩

abbrev nD : Nat := 1
abbrev τ : Topo := Topo.v7x

variable {F : FTy → Type} [FloatOps F]
-- ==== Proof.MlaTrip.lean ====
/- What one trip of the attention kernel's loop leaves, in closed form: four tiles of the output, each the online
   softmax of its two heads over the sixteen key blocks, and the scores the next trip starts from. -/
module

public import proofs.«01_k».proof.Proof.Gen.KernelIdeal.Loops
public import Idealize.ShloMosaic.Lib.Pipeline.FrameBody

@[expose] public section

noncomputable section

namespace Cert.Mla

open Idealize.ShloMosaic Idealize.SL.Sem
open Cert.KernelIdeal Cert.KernelIdeal.Gen

variable {F : FTy → Type} [FloatOps F]

/-- Where key block `b` of head `h` lies in the window of the keys. -/
def kOff (b h : Nat) : Fin 3 → Nat := ![0, b % 16 * 512, h % 2 * 128]
theorem kOff_inb (b h : Nat) : ∀ a, kOff b h a + S1x512x128.size a ≤ S1x8192x256.size a := by
  intro a
  have h1 : b % 16 < 16 := Nat.mod_lt _ (by decide)
  have h2 : h % 2 < 2 := Nat.mod_lt _ (by decide)
  fin_cases a <;> simp [kOff, S1x512x128, S1x8192x256] <;> omega

/-- Where value block `b` of head `h` lies in the window of the transposed values. -/
def vOff (b h : Nat) : Fin 2 → Nat := ![h % 2 * 64, b % 16 * 512]
theorem vOff_inb (b h : Nat) : ∀ a, vOff b h a + S64x512.size a ≤ S128x8192.size a := by
  intro a
  have h1 : b % 16 < 16 := Nat.mod_lt _ (by decide)
  have h2 : h % 2 < 2 := Nat.mod_lt _ (by decide)
  fin_cases a <;> simp [vOff, S64x512, S128x8192] <;> omega

/-- The slot of block `b` and head `h` in a scratch of rank 4. -/
def sOff (b h : Nat) : Fin 4 → Nat := ![b % 16, h % 2, 0, 0]
theorem sOff_inb6 (b h : Nat) : ∀ a, sOff b h a + S1x1x512x256.size a ≤ S16x2x512x256.size a := by
  intro a
  have h1 : b % 16 < 16 := Nat.mod_lt _ (by decide)
  have h2 : h % 2 < 2 := Nat.mod_lt _ (by decide)
  fin_cases a <;> simp [sOff, S1x1x512x256, S16x2x512x256] <;> omega
theorem sOff_inb7 (b h : Nat) : ∀ a, sOff b h a + S1x1x8x256.size a ≤ S16x2x8x256.size a := by
  intro a
  have h1 : b % 16 < 16 := Nat.mod_lt _ (by decide)
  have h2 : h % 2 < 2 := Nat.mod_lt _ (by decide)
  fin_cases a <;> simp [sOff, S1x1x8x256, S16x2x8x256] <;> omega

/-- Where the query tile `w` tiles after trip `t`'s first lies, for head `h`. -/
def qOff (t : Fin k0_t1_loop.trips) (w h : Nat) : Fin 3 → Nat :=
  match h with
  | 0 => k0_off1 t (BitVec.ofNat 32 (w % 5))
  | _ + 1 => k0_off2 t (BitVec.ofNat 32 (w % 5))
theorem qOff_inb (t : Fin k0_t1_loop.trips) (w h : Nat) :
    ∀ a, qOff t w h a + S1x256x128.size a ≤ S1x8192x256.size a := by
  cases h with
  | zero => exact k0_off1_inb t ⟨w % 5, Nat.mod_lt _ (by decide)⟩
  | succ n => exact k0_off2_inb t ⟨w % 5, Nat.mod_lt _ (by decide)⟩

/-- A head's running maximum and its weighted sums (the last rows the sums of the weights). -/
abbrev Run (F : FTy → Type) : Type := FVec F S1x256 .f32 × FVec F S80x256 .f32

/-- A head's state before its first block. -/
def fresh : Run F := (k0_pay3, k0_pay4)

/-- A tile's rows of the output, from its two heads' sums. -/
def outTile (a0 a1 : FVec F S80x256 .f32) : FVec F S1x256x128 .f32 :=
  shapeCast S1x256x128 (transpose S256x128 [1, 0]
    (concatenate S128x256 0
      [⟨S64x256, divf (extractStridedSlice S64x256 ![0, 0] a0 slices_S80x256_o0_0_S64x256)
          (broadcastTo S64x256 (extractStridedSlice S1x256 ![64, 0] a0 slices_S80x256_o64_0_S1x256) broadcasts_S1x256_S64x256)⟩,
       ⟨S64x256, divf (extractStridedSlice S64x256 ![0, 0] a1 slices_S80x256_o0_0_S64x256)
          (broadcastTo S64x256 (extractStridedSlice S1x256 ![64, 0] a1 slices_S80x256_o64_0_S1x256) broadcasts_S1x256_S64x256)⟩]
      concatenates_S64x256_S64x256_S128x256_d0)
    transposes_S128x256_p1_0_S256x128) shapeCasts_S256x128_S1x256x128

/-- A head's state after its first `n` blocks, over each block's column maxima, scores and values. -/
def fold (mx : Nat → Vec F S1x1x8x256 .f32) (sc : Nat → Vec F S1x1x512x256 .f32) (v : Nat → Vec F S64x512 .bf16) :
    Nat → Run F
  | 0 => fresh
  | n + 1 => (k0_pay16 (fold mx sc v n).1 (mx n), k0_pay17 (fold mx sc v n).1 (fold mx sc v n).2 (mx n) (sc n) (v n))

section
variable (arg2 : Memref sig .tc .vmem S1x8192x256 .bf16) (arg3 : Memref sig .tc .vmem S1x8192x256 .bf16)
  (arg4 : Memref sig .tc .vmem S128x8192 .bf16) (arg6 : Memref sig .tc .vmem S16x2x512x256 .f32)
  (arg7 : Memref sig .tc .vmem S16x2x8x256 .f32)
  (X2 : BufTy.Contents (Elt F) arg2.view.ty) (X3 : BufTy.Contents (Elt F) arg3.view.ty)
  (X4 : BufTy.Contents (Elt F) arg4.view.ty) (f6 : BufTy.Contents (Elt F) arg6.view.ty)
  (f7 : BufTy.Contents (Elt F) arg7.view.ty) (k : Fin k0_t1_loop.trips)

/-- Key block `b` of head `h`. -/
def kBlk (b h : Nat) : Vec F S1x512x128 .bf16 :=
  View.readAt (Elt F) arg3.view (Rect.unit (s := S1x8192x256) (kOff b h) S1x512x128.size (kOff_inb b h)).toLoadRect X3
/-- Value block `b` of head `h`, transposed. -/
def vBlk (b h : Nat) : Vec F S64x512 .bf16 :=
  View.readAt (Elt F) arg4.view (Rect.unit (s := S128x8192) (vOff b h) S64x512.size (vOff_inb b h)).toLoadRect X4
/-- Query tile `w` of trip `k`, of head `h`. -/
def qBlk (w h : Nat) : Vec F S1x256x128 .bf16 :=
  View.readAt (Elt F) arg2.view (Rect.unit (s := S1x8192x256) (qOff k w h) S1x256x128.size (qOff_inb k w h)).toLoadRect X2
/-- The scores found in slot `b` of head `h`. -/
def slotS (b h : Nat) : Vec F S1x1x512x256 .f32 :=
  View.readAt (Elt F) arg6.view (Rect.unit (s := S16x2x512x256) (sOff b h) S1x1x512x256.size (sOff_inb6 b h)).toLoadRect f6
/-- The column maxima found in slot `b` of head `h`. -/
def slotM (b h : Nat) : Vec F S1x1x8x256 .f32 :=
  View.readAt (Elt F) arg7.view (Rect.unit (s := S16x2x8x256) (sOff b h) S1x1x8x256.size (sOff_inb7 b h)).toLoadRect f7

/-- The scores of block `b` against tile `w`: the first tile's first two were stored before the trip. -/
def scoreOf (w h b : Nat) : Vec F S1x1x512x256 .f32 :=
  match w, b with
  | 0, 0 => slotS arg6 f6 0 h
  | 0, 1 => slotS arg6 f6 1 h
  | _, _ => k0_pay8 (kBlk arg3 X3 b h) (qBlk arg2 X2 k w h)
/-- Their column maxima. -/
def maxOf (w h b : Nat) : Vec F S1x1x8x256 .f32 :=
  match w, b with
  | 0, 0 => slotM arg7 f7 0 h
  | 0, 1 => slotM arg7 f7 1 h
  | _, _ => k0_pay9 (kBlk arg3 X3 b h) (qBlk arg2 X2 k w h)

/-- Head `h`'s weighted sums for tile `w`, over all sixteen blocks. -/
def sums (w h : Nat) : FVec F S80x256 .f32 :=
  (fold (maxOf arg2 arg3 arg7 X2 X3 f7 k w h) (scoreOf arg2 arg3 arg6 X2 X3 f6 k w h) (fun b => vBlk arg4 X4 b h) 16).2

/-- Tile `w`'s store into the output. -/
def outPiece (w : Nat) : View.Piece (Elt F) S1x8192x128 .f32 :=
  ⟨Rect.unit (s := S1x8192x128) (k0_off3 k (BitVec.ofNat 32 (w % 4))) S1x256x128.size
      (k0_off3_inb k ⟨w % 4, Nat.mod_lt _ (by decide)⟩),
    outTile (sums arg2 arg3 arg4 arg6 arg7 X2 X3 X4 f6 f7 k w 0) (sums arg2 arg3 arg4 arg6 arg7 X2 X3 X4 f6 f7 k w 1)⟩

/-- The store of the scores of block `b` against the next trip's first tile. -/
def nextS (b h : Nat) : View.Piece (Elt F) S16x2x512x256 .f32 :=
  ⟨Rect.unit (s := S16x2x512x256) (sOff b h) S1x1x512x256.size (sOff_inb6 b h),
    k0_pay8 (kBlk arg3 X3 b h) (qBlk arg2 X2 k 4 h)⟩
/-- The store of their column maxima. -/
def nextM (b h : Nat) : View.Piece (Elt F) S16x2x8x256 .f32 :=
  ⟨Rect.unit (s := S16x2x8x256) (sOff b h) S1x1x8x256.size (sOff_inb7 b h),
    k0_pay9 (kBlk arg3 X3 b h) (qBlk arg2 X2 k 4 h)⟩
end

section
variable {m : FVec F S1x256 .f32} {a : FVec F S80x256 .f32} {n : Nat}
  {mx : Nat → Vec F S1x1x8x256 .f32} {sc : Nat → Vec F S1x1x512x256 .f32} {v : Nat → Vec F S64x512 .bf16}
  {mx' : Vec F S1x1x8x256 .f32} {sc' : Vec F S1x1x512x256 .f32} {v' : Vec F S64x512 .bf16}

/-- One more block. -/
theorem step_congr (h : (m, a) = fold mx sc v n) (h1 : mx' = mx n) (h2 : sc' = sc n) (h3 : v' = v n) :
    (k0_pay16 m mx', k0_pay17 m a mx' sc' v') = fold mx sc v (n + 1) := by
  subst h1 h2 h3; simp only [fold, ← h]
/-- One more block, the sums alone. -/
theorem sums_congr (h : (m, a) = fold mx sc v n) (h1 : mx' = mx n) (h2 : sc' = sc n) (h3 : v' = v n) :
    k0_pay17 m a mx' sc' v' = (fold mx sc v (n + 1)).2 := by
  subst h1 h2 h3; simp only [fold, ← h]
end

/-- The step's sums where the program names the new maximum, the scores and the maximum at every key on the way. -/
theorem last_split (a : FVec F S80x256 .f32) (m : FVec F S1x256 .f32) (mx : Vec F S1x1x8x256 .f32) (sc : Vec F S1x1x512x256 .f32)
    (v : Vec F S64x512 .bf16) :
    k0_pay392 a (k0_pay389 m mx) (k0_pay390 sc) (k0_pay391 m mx) v = k0_pay17 m a mx sc v := rfl

/-- A slot read after a store elsewhere. -/
theorem read_skip {Val : EltTy → Type} [∀ e, Nonempty (Val e)] {sig : RefSig} {κ : Kind} {sp : Space} {S : Shape}
    {e : EltTy} (v : View sig κ sp S e) {o o1 sz : Fin S.rank → Nat} {i : ∀ a, o a + sz a ≤ S.size a}
    {i1 : ∀ a, o1 a + sz a ≤ S.size a} {w1 : (Rect.unit o1 sz i1).shape.Idx → Val e} {L : List (View.Piece Val S e)}
    (h : ∃ a, o1 a + sz a ≤ o a ∨ o a + sz a ≤ o1 a) :
    v.readCov ((⟨Rect.unit o1 sz i1, w1⟩ : View.Piece Val S e) :: L) (Rect.unit o sz i).toLoadRect
      = v.readCov L (Rect.unit o sz i).toLoadRect := by
  refine View.readCov_cons_of_disjoint _ _ _ _ (Finset.disjoint_left.mpr fun y hy hy' => ?_)
  obtain ⟨a, ha⟩ := h
  have h1 := (Rect.mem_set_unit (inb := i1).mp hy) a
  have h2 := (Rect.mem_set_unit (inb := i).mp hy') a
  omega

/-- Equal sums, equal tiles. -/
theorem out_congr {a0 a1 b0 b1 : FVec F S80x256 .f32} (h0 : a0 = b0) (h1 : a1 = b1) :
    outTile a0 a1 = outTile b0 b1 := by rw [h0, h1]

section
variable (𝒱 : Variants) (c : Dev nD) (bd : Option 𝒱.V) (i : grid0.Coords) (arg2 : Memref sig .tc .vmem S1x8192x256 .bf16) (harg2 : arg2.IsWhole) (arg3 : Memref sig .tc .vmem S1x8192x256 .bf16) (harg3 : arg3.IsWhole) (arg4 : Memref sig .tc .vmem S128x8192 .bf16) (harg4 : arg4.IsWhole) (arg5 : Memref sig .tc .vmem S1x8192x128 .f32) (harg5 : arg5.IsWhole) (arg6 : Memref sig .tc .vmem S16x2x512x256 .f32) (harg6 : arg6.IsWhole) (arg7 : Memref sig .tc .vmem S16x2x8x256 .f32) (harg7 : arg7.IsWhole) (X2 : BufTy.Contents (Elt F) arg2.view.ty) (X3 : BufTy.Contents (Elt F) arg3.view.ty) (X4 : BufTy.Contents (Elt F) arg4.view.ty) (k : Fin k0_t1_loop.trips)
  (f5 : BufTy.Contents (Elt F) arg5.view.ty) (f6 : BufTy.Contents (Elt F) arg6.view.ty)
  (f7 : BufTy.Contents (Elt F) arg7.view.ty)

set_option maxRecDepth 20000 in
set_option maxHeartbeats 1000000 in
/-- The trip's stores into the output. -/
theorem trip_out :
    (trip_k0_t1 (F := F) 𝒱 c bd i arg2 harg2 arg3 harg3 arg4 harg4 arg5 harg5 arg6 harg6 arg7 harg7 X2 X3 X4 k).1 f5 f6 f7
      = [outPiece arg2 arg3 arg4 arg6 arg7 X2 X3 X4 f6 f7 k 3, outPiece arg2 arg3 arg4 arg6 arg7 X2 X3 X4 f6 f7 k 2,
         outPiece arg2 arg3 arg4 arg6 arg7 X2 X3 X4 f6 f7 k 1, outPiece arg2 arg3 arg4 arg6 arg7 X2 X3 X4 f6 f7 k 0] := by
  unfold trip_k0_t1
  refine congrArg₂ List.cons (congrArg (Sigma.mk _) (out_congr ?_ ?_)) (congrArg₂ List.cons (congrArg (Sigma.mk _) (out_congr ?_ ?_))
    (congrArg₂ List.cons (congrArg (Sigma.mk _) (out_congr ?_ ?_)) (congrArg₂ List.cons (congrArg (Sigma.mk _) (out_congr ?_ ?_)) rfl)))
  all_goals
    first
      | refine sums_congr (F := F) ?_ ?_ ?_ (by rfl)
      | refine (last_split (F := F) _ _ _ _ _).trans (sums_congr (F := F) ?_ ?_ ?_ (by rfl))
    iterate 15
      rotate_left
      iterate 2
        · first
            | (repeat refine (read_skip _ (by decide)).trans ?_
               exact View.readCov_cons_toLoadRect _ _ _ _)
            | rfl
      refine step_congr (F := F) ?_ ?_ ?_ (by rfl)
    rotate_left
    iterate 2
      · first
          | (repeat refine (read_skip _ (by decide)).trans ?_
             exact View.readCov_cons_toLoadRect _ _ _ _)
          | rfl
    rfl

set_option maxRecDepth 20000 in
/-- The trip's last four stores into the scores. -/
theorem trip_scores :
    ∃ L, (trip_k0_t1 (F := F) 𝒱 c bd i arg2 harg2 arg3 harg3 arg4 harg4 arg5 harg5 arg6 harg6 arg7 harg7 X2 X3 X4 k).2.1 f5 f6 f7
      = nextS arg2 arg3 X2 X3 k 1 1 :: nextS arg2 arg3 X2 X3 k 1 0 :: nextS arg2 arg3 X2 X3 k 0 1 :: nextS arg2 arg3 X2 X3 k 0 0 :: L := by
  unfold trip_k0_t1
  exact ⟨_, rfl⟩

set_option maxRecDepth 20000 in
/-- The trip's last four stores into the column maxima. -/
theorem trip_maxima :
    ∃ L, (trip_k0_t1 (F := F) 𝒱 c bd i arg2 harg2 arg3 harg3 arg4 harg4 arg5 harg5 arg6 harg6 arg7 harg7 X2 X3 X4 k).2.2.1 f5 f6 f7
      = nextM arg2 arg3 X2 X3 k 1 1 :: nextM arg2 arg3 X2 X3 k 1 0 :: nextM arg2 arg3 X2 X3 k 0 1 :: nextM arg2 arg3 X2 X3 k 0 0 :: L := by
  unfold trip_k0_t1
  exact ⟨_, rfl⟩
end

end Cert.Mla
-- ==== Proof.MlaLoop.lean ====
/- The attention kernel's loop as a whole: before each trip the scratch holds the scores the trip starts from, so after
   the last trip every row of the output block is its tile's, a function of the three input blocks alone. -/
module

public import proofs.«01_k».proof.Proof.MlaTrip
public import Idealize.ShloMosaic.Lib.WritesUnit

@[expose] public section

noncomputable section

namespace Cert.Mla

open Idealize.ShloMosaic Idealize.SL.Sem
open Cert.KernelIdeal Cert.KernelIdeal.Gen

variable {F : FTy → Type} [FloatOps F]

/-! ## Reads of one rectangle over listed stores -/

section
variable {Val : EltTy → Type} {sig' : RefSig} {κ : Kind} {sp : Space} {S : Shape} {e : EltTy} (v : View sig' κ sp S e)
  (f : v.ty.Contents Val)

/-- The newest store, read back whole. -/
theorem readAt_hit {o sz : Fin S.rank → Nat} {i i' : ∀ a, o a + sz a ≤ S.size a} (w : (Rect.unit o sz i).shape.Idx → Val e)
    (L : List (View.Piece Val S e)) :
    v.readAt Val (Rect.unit o sz i').toLoadRect (v.writes Val f ((⟨Rect.unit o sz i, w⟩ : View.Piece Val S e) :: L)) = w :=
  funext fun x => View.read_writes_cons_unit_of_mem v f i w L _ x rfl fun a => by
    show o a + 1 * (x a).val = _; rw [Nat.one_mul]

/-- A store elsewhere is not seen. -/
theorem readAt_miss {o o1 sz sz1 : Fin S.rank → Nat} {i' : ∀ a, o a + sz a ≤ S.size a} {i1 : ∀ a, o1 a + sz1 a ≤ S.size a}
    (w : (Rect.unit o1 sz1 i1).shape.Idx → Val e) (L : List (View.Piece Val S e))
    (h : ∃ a, o1 a + sz1 a ≤ o a ∨ o a + sz a ≤ o1 a) :
    v.readAt Val (Rect.unit o sz i').toLoadRect (v.writes Val f ((⟨Rect.unit o1 sz1 i1, w⟩ : View.Piece Val S e) :: L))
      = v.readAt Val (Rect.unit o sz i').toLoadRect (v.writes Val f L) :=
  funext fun x => by
    obtain ⟨a, ha⟩ := h
    refine View.read_writes_cons_unit_of_not_mem v f i1 w L _ rfl a ?_
    have hx : (x a).val < sz a := (x a).isLt
    show o a + 1 * (x a).val < _ ∨ _ ≤ o a + 1 * (x a).val
    omega
end

/-! ## The blocks, as functions of the windows -/

/-- Key block `b` of head `h`, off the keys' window. -/
def kB (K : Vec F S1x8192x256 .bf16) (b h : Nat) : Vec F S1x512x128 .bf16 :=
  View.ld K (Rect.unit (s := S1x8192x256) (kOff b h) S1x512x128.size (kOff_inb b h))
/-- Value block `b` of head `h`, off the transposed values' window. -/
def vB (V : Vec F S128x8192 .bf16) (b h : Nat) : Vec F S64x512 .bf16 :=
  View.ld V (Rect.unit (s := S128x8192) (vOff b h) S64x512.size (vOff_inb b h))

/-- Where query tile `j` of head `h` lies. -/
def tOff (j h : Nat) : Fin 3 → Nat := ![0, 256 * (j % 32), h % 2 * 128]
theorem tOff_inb (j h : Nat) : ∀ a, tOff j h a + S1x256x128.size a ≤ S1x8192x256.size a := by
  intro a
  have h1 : j % 32 < 32 := Nat.mod_lt _ (by decide)
  have h2 : h % 2 < 2 := Nat.mod_lt _ (by decide)
  fin_cases a <;> simp [tOff, S1x256x128, S1x8192x256] <;> omega
/-- Where tile `j` of the output lies. -/
def rOff (j : Nat) : Fin 3 → Nat := ![0, 256 * (j % 32), 0]
theorem rOff_inb (j : Nat) : ∀ a, rOff j a + S1x256x128.size a ≤ S1x8192x128.size a := by
  intro a
  have h1 : j % 32 < 32 := Nat.mod_lt _ (by decide)
  fin_cases a <;> simp [rOff, S1x256x128, S1x8192x128] <;> omega

/-- Query tile `j` of head `h`, off the queries' window. -/
def qT (Q : Vec F S1x8192x256 .bf16) (j h : Nat) : Vec F S1x256x128 .bf16 :=
  View.ld Q (Rect.unit (s := S1x8192x256) (tOff j h) S1x256x128.size (tOff_inb j h))

/-- Head `h`'s weighted sums for query tile `j`. -/
def tileSums (Q K : Vec F S1x8192x256 .bf16) (V : Vec F S128x8192 .bf16) (j h : Nat) : FVec F S80x256 .f32 :=
  (fold (fun b => k0_pay9 (kB K b h) (qT Q j h)) (fun b => k0_pay8 (kB K b h) (qT Q j h)) (fun b => vB V b h) 16).2

/-- Tile `j` of the output. -/
def tile (Q K : Vec F S1x8192x256 .bf16) (V : Vec F S128x8192 .bf16) (j : Nat) : FVec F S1x256x128 .f32 :=
  outTile (tileSums Q K V j 0) (tileSums Q K V j 1)

/-- The tile's store. -/
def tilePiece (Q K : Vec F S1x8192x256 .bf16) (V : Vec F S128x8192 .bf16) (j : Nat) : View.Piece (Elt F) S1x8192x128 .f32 :=
  ⟨Rect.unit (s := S1x8192x128) (rOff j) S1x256x128.size (rOff_inb j), tile Q K V j⟩

/-- The stores of the first `n` trips. -/
def tiles (Q K : Vec F S1x8192x256 .bf16) (V : Vec F S128x8192 .bf16) : Nat → List (View.Piece (Elt F) S1x8192x128 .f32)
  | 0 => []
  | n + 1 => tilePiece Q K V (4 * n + 3) :: tilePiece Q K V (4 * n + 2) :: tilePiece Q K V (4 * n + 1) :: tilePiece Q K V (4 * n) :: tiles Q K V n

/-- Row `r` within its tile, at column `d`. -/
def inTile (y : S1x8192x128.Idx) : S1x256x128.Idx :=
  fun a => match a with
  | ⟨0, _⟩ => ⟨0, Nat.one_pos⟩
  | ⟨1, _⟩ => ⟨(y 1).val % 256, Nat.mod_lt _ (by decide)⟩
  | ⟨2, _⟩ => ⟨(y 2).val, (y 2).isLt⟩

/-- The whole output block. -/
def outAll (Q K : Vec F S1x8192x256 .bf16) (V : Vec F S128x8192 .bf16) : Vec F S1x8192x128 .f32 :=
  fun y => tile Q K V ((y 1).val / 256) (inTile y)

theorem mem_tiles (Q K : Vec F S1x8192x256 .bf16) (V : Vec F S128x8192 .bf16) (p) :
    ∀ n, p ∈ tiles Q K V n ↔ ∃ j < 4 * n, p = tilePiece Q K V j
  | 0 => by simp [tiles]
  | n + 1 => by
    simp only [tiles, List.mem_cons, mem_tiles Q K V p n]
    constructor
    · rintro (h | h | h | h | ⟨j, hj, h⟩)
      · exact ⟨_, by omega, h⟩
      · exact ⟨_, by omega, h⟩
      · exact ⟨_, by omega, h⟩
      · exact ⟨_, by omega, h⟩
      · exact ⟨j, by omega, h⟩
    · rintro ⟨j, hj, h⟩
      rcases (by omega : j = 4 * n + 3 ∨ j = 4 * n + 2 ∨ j = 4 * n + 1 ∨ j = 4 * n ∨ j < 4 * n) with rfl | rfl | rfl | rfl | hj'
      · exact .inl h
      · exact .inr (.inl h)
      · exact .inr (.inr (.inl h))
      · exact .inr (.inr (.inr (.inl h)))
      · exact .inr (.inr (.inr (.inr ⟨j, hj', h⟩)))

/-- The eight trips' stores leave the whole output block, whatever was there. -/
theorem read_tiles (Q K : Vec F S1x8192x256 .bf16) (V : Vec F S128x8192 .bf16) (arg5 : Memref sig .tc .vmem S1x8192x128 .f32)
    (G : BufTy.Contents (Elt F) arg5.view.ty) :
    arg5.view.read (Elt F) (arg5.view.writes (Elt F) G (tiles Q K V 8)) = outAll Q K V := by
  funext y
  refine View.read_writes_apply_of_pieces _ _ (outAll Q K V) _ ?_ y ?_
  · intro p hp x
    obtain ⟨j, hj, rfl⟩ := (mem_tiles Q K V p 8).mp hp
    have hx0 : (x 0).val < 1 := (x 0).isLt
    have hx1 : (x 1).val < 256 := (x 1).isLt
    have e1 : (((tilePiece Q K V j).1.emb x) 1).val = 256 * (j % 32) + 1 * (x 1).val := rfl
    have e2 : (((tilePiece Q K V j).1.emb x) 2).val = 0 + 1 * (x 2).val := rfl
    show tile Q K V j x = tile Q K V ((((tilePiece Q K V j).1.emb x) 1).val / 256) (inTile ((tilePiece Q K V j).1.emb x))
    have hj' : (((tilePiece Q K V j).1.emb x) 1).val / 256 = j := by rw [e1]; omega
    rw [hj']
    refine congrArg _ (funext fun a => ?_)
    match a with
    | ⟨0, _⟩ => exact Fin.ext (show (x 0).val = 0 from Nat.lt_one_iff.mp hx0)
    | ⟨1, _⟩ => exact Fin.ext (by show (x 1).val = (((tilePiece Q K V j).1.emb x) 1).val % 256; rw [e1]; omega)
    | ⟨2, _⟩ => exact Fin.ext (by show (x 2).val = (((tilePiece Q K V j).1.emb x) 2).val; rw [e2]; omega)
  · have h1 : (y 1).val < 8192 := (y 1).isLt
    have h0 : (y 0).val < 1 := (y 0).isLt
    have h2 : (y 2).val < 128 := (y 2).isLt
    refine ⟨tilePiece Q K V ((y 1).val / 256), (mem_tiles Q K V _ 8).mpr ⟨_, by omega, rfl⟩, ?_⟩
    refine (Rect.mem_set_unit (inb := rOff_inb ((y 1).val / 256))).mpr fun a => ?_
    match a with
    | ⟨0, _⟩ => exact ⟨Nat.zero_le _, by show (y 0).val < 0 + 1; omega⟩
    | ⟨1, _⟩ => exact ⟨by show 256 * ((y 1).val / 256 % 32) ≤ (y 1).val; omega, by show (y 1).val < 256 * ((y 1).val / 256 % 32) + 256; omega⟩
    | ⟨2, _⟩ => exact ⟨Nat.zero_le _, by show (y 2).val < 0 + 128; omega⟩

/-! ## The trips in turn -/

section
variable (arg2 : Memref sig .tc .vmem S1x8192x256 .bf16) (arg3 : Memref sig .tc .vmem S1x8192x256 .bf16)
  (arg4 : Memref sig .tc .vmem S128x8192 .bf16) (arg6 : Memref sig .tc .vmem S16x2x512x256 .f32)
  (arg7 : Memref sig .tc .vmem S16x2x8x256 .f32)
  (X2 : BufTy.Contents (Elt F) arg2.view.ty) (X3 : BufTy.Contents (Elt F) arg3.view.ty)
  (X4 : BufTy.Contents (Elt F) arg4.view.ty) (k : Fin k0_t1_loop.trips)

/-- A trip's query tile, off the window. -/
theorem qBlk_eq (w h : Nat) (hw : w ≤ 4) (hh : h ≤ 1) :
    qBlk arg2 X2 k w h = qT (arg2.view.read (Elt F) X2) (min (4 * k.val + w) 31) h := by
  have hk : k.val < 8 := Nat.lt_of_lt_of_le k.isLt k0_t1_abs.2.1
  have ho : qOff k w h = tOff (min (4 * k.val + w) 31) h := by
    have hm : min (4 * k.val + w) 31 % 32 = min (4 * k.val + w) 31 := Nat.mod_eq_of_lt (by omega)
    have hw5 : w % 5 = w := Nat.mod_eq_of_lt (by omega)
    rcases (by omega : h = 0 ∨ h = 1) with rfl | rfl
    · show k0_off1 k (BitVec.ofNat 32 (w % 5)) = _
      rw [k0_off1_eq k ⟨w % 5, Nat.mod_lt _ (by decide)⟩]; simp only [tOff, hm, hw5]
    · show k0_off2 k (BitVec.ofNat 32 (w % 5)) = _
      rw [k0_off2_eq k ⟨w % 5, Nat.mod_lt _ (by decide)⟩]; simp only [tOff, hm, hw5]
  unfold qBlk qT
  funext x
  show arg2.view.read (Elt F) X2 _ = arg2.view.read (Elt F) X2 _
  refine congrArg _ (funext fun a => Fin.ext ?_)
  exact congrArg (· + 1 * (x a).val) (congrFun ho a)

/-- What the scratch holds before the trip whose first tile is `j`. -/
def Ready (f6 : BufTy.Contents (Elt F) arg6.view.ty) (f7 : BufTy.Contents (Elt F) arg7.view.ty) (j : Nat) : Prop :=
  ∀ b h, b ≤ 1 → h ≤ 1 →
    slotS arg6 f6 b h = k0_pay8 (kB (arg3.view.read (Elt F) X3) b h) (qT (arg2.view.read (Elt F) X2) j h)
      ∧ slotM arg7 f7 b h = k0_pay9 (kB (arg3.view.read (Elt F) X3) b h) (qT (arg2.view.read (Elt F) X2) j h)

/-- Equal blocks, equal states. -/
theorem fold_congr {mx mx' : Nat → Vec F S1x1x8x256 .f32} {sc sc' : Nat → Vec F S1x1x512x256 .f32} {v v' : Nat → Vec F S64x512 .bf16} :
    ∀ n, (∀ b < n, mx b = mx' b) → (∀ b < n, sc b = sc' b) → (∀ b < n, v b = v' b) → fold mx sc v n = fold mx' sc' v' n
  | 0, _, _, _ => rfl
  | n + 1, h1, h2, h3 => by
    have ih := fold_congr n (fun b hb => h1 b (by omega)) (fun b hb => h2 b (by omega)) (fun b hb => h3 b (by omega))
    simp only [fold, ih, h1 n (by omega), h2 n (by omega), h3 n (by omega)]

variable {arg2 arg3 arg6 arg7 X2 X3}

/-- A trip from a ready scratch: each tile's sums are the tile's. -/
theorem sums_eq {f6 : BufTy.Contents (Elt F) arg6.view.ty} {f7 : BufTy.Contents (Elt F) arg7.view.ty}
    (hr : Ready arg2 arg3 arg6 arg7 X2 X3 f6 f7 (min (4 * k.val) 31)) (w h : Nat) (hw : w ≤ 3) (hh : h ≤ 1) :
    sums arg2 arg3 arg4 arg6 arg7 X2 X3 X4 f6 f7 k w h
      = tileSums (arg2.view.read (Elt F) X2) (arg3.view.read (Elt F) X3) (arg4.view.read (Elt F) X4) (4 * k.val + w) h := by
  have hk : k.val < 8 := Nat.lt_of_lt_of_le k.isLt k0_t1_abs.2.1
  have hq := qBlk_eq arg2 X2 k w h (by omega) hh
  have hm : min (4 * k.val + w) 31 = 4 * k.val + w := by omega
  rw [hm] at hq
  unfold sums tileSums
  refine congrArg Prod.snd (fold_congr 16 (fun b hb => ?_) (fun b hb => ?_) (fun b _ => rfl))
  · unfold maxOf
    split
    · have := (hr 0 h (by omega) hh).2; rw [this]; congr 2
    · have := (hr 1 h (by omega) hh).2; rw [this]; congr 2
    · rw [hq]; rfl
  · unfold scoreOf
    split
    · have := (hr 0 h (by omega) hh).1; rw [this]; congr 2
    · have := (hr 1 h (by omega) hh).1; rw [this]; congr 2
    · rw [hq]; rfl

theorem outPiece_eq {f6 : BufTy.Contents (Elt F) arg6.view.ty} {f7 : BufTy.Contents (Elt F) arg7.view.ty}
    (hr : Ready arg2 arg3 arg6 arg7 X2 X3 f6 f7 (min (4 * k.val) 31)) (w : Nat) (hw : w ≤ 3) :
    outPiece arg2 arg3 arg4 arg6 arg7 X2 X3 X4 f6 f7 k w
      = tilePiece (arg2.view.read (Elt F) X2) (arg3.view.read (Elt F) X3) (arg4.view.read (Elt F) X4) (4 * k.val + w) := by
  have hk : k.val < 8 := Nat.lt_of_lt_of_le k.isLt k0_t1_abs.2.1
  have ho : k0_off3 k (BitVec.ofNat 32 (w % 4)) = rOff (4 * k.val + w) := by
    rw [k0_off3_eq k ⟨w % 4, Nat.mod_lt _ (by decide)⟩]
    have h1 : 1024 * k.val + 256 * (w % 4) = 256 * ((4 * k.val + w) % 32) := by omega
    simp only [rOff, h1]
  unfold outPiece tilePiece tile
  rw [sums_eq arg4 X4 k hr w 0 hw (by omega), sums_eq arg4 X4 k hr w 1 hw (by omega)]
  congr 1
  simp only [ho]
/-! ## The scratch between trips -/

/-- The store of the scores of block `b` against query tile `j`. -/
def scorePiece (Q K : Vec F S1x8192x256 .bf16) (j b h : Nat) : View.Piece (Elt F) S16x2x512x256 .f32 :=
  ⟨Rect.unit (s := S16x2x512x256) (sOff b h) S1x1x512x256.size (sOff_inb6 b h), k0_pay8 (kB K b h) (qT Q j h)⟩
/-- The store of their column maxima. -/
def maxPiece (Q K : Vec F S1x8192x256 .bf16) (j b h : Nat) : View.Piece (Elt F) S16x2x8x256 .f32 :=
  ⟨Rect.unit (s := S16x2x8x256) (sOff b h) S1x1x8x256.size (sOff_inb7 b h), k0_pay9 (kB K b h) (qT Q j h)⟩

/-- Four stores of scores and four of maxima make the scratch ready. -/
theorem ready_of_stores (f6 : BufTy.Contents (Elt F) arg6.view.ty) (f7 : BufTy.Contents (Elt F) arg7.view.ty) (j : Nat) (L6 L7) :
    Ready arg2 arg3 arg6 arg7 X2 X3
      (arg6.view.writes (Elt F) f6 (scorePiece (arg2.view.read (Elt F) X2) (arg3.view.read (Elt F) X3) j 1 1
        :: scorePiece (arg2.view.read (Elt F) X2) (arg3.view.read (Elt F) X3) j 1 0
        :: scorePiece (arg2.view.read (Elt F) X2) (arg3.view.read (Elt F) X3) j 0 1
        :: scorePiece (arg2.view.read (Elt F) X2) (arg3.view.read (Elt F) X3) j 0 0 :: L6))
      (arg7.view.writes (Elt F) f7 (maxPiece (arg2.view.read (Elt F) X2) (arg3.view.read (Elt F) X3) j 1 1
        :: maxPiece (arg2.view.read (Elt F) X2) (arg3.view.read (Elt F) X3) j 1 0
        :: maxPiece (arg2.view.read (Elt F) X2) (arg3.view.read (Elt F) X3) j 0 1
        :: maxPiece (arg2.view.read (Elt F) X2) (arg3.view.read (Elt F) X3) j 0 0 :: L7)) j := by
  intro b h hb hh
  have c6 : ∀ b h b' h' : Nat, b ≤ 1 → h ≤ 1 → b' ≤ 1 → h' ≤ 1 → (b ≠ b' ∨ h ≠ h') →
      ∃ a : Fin 4, sOff b' h' a + S1x1x512x256.size a ≤ sOff b h a ∨ sOff b h a + S1x1x512x256.size a ≤ sOff b' h' a := by
    intro b h b' h' h1 h2 h3 h4 hne
    rcases hne with hne | hne
    · refine ⟨0, ?_⟩; show b' % 16 + 1 ≤ b % 16 ∨ b % 16 + 1 ≤ b' % 16; omega
    · refine ⟨1, ?_⟩; show h' % 2 + 1 ≤ h % 2 ∨ h % 2 + 1 ≤ h' % 2; omega
  have c7 : ∀ b h b' h' : Nat, b ≤ 1 → h ≤ 1 → b' ≤ 1 → h' ≤ 1 → (b ≠ b' ∨ h ≠ h') →
      ∃ a : Fin 4, sOff b' h' a + S1x1x8x256.size a ≤ sOff b h a ∨ sOff b h a + S1x1x8x256.size a ≤ sOff b' h' a := by
    intro b h b' h' h1 h2 h3 h4 hne
    rcases hne with hne | hne
    · refine ⟨0, ?_⟩; show b' % 16 + 1 ≤ b % 16 ∨ b % 16 + 1 ≤ b' % 16; omega
    · refine ⟨1, ?_⟩; show h' % 2 + 1 ≤ h % 2 ∨ h % 2 + 1 ≤ h' % 2; omega
  unfold slotS slotM scorePiece maxPiece
  rcases (by omega : (b = 0 ∧ h = 0) ∨ (b = 0 ∧ h = 1) ∨ (b = 1 ∧ h = 0) ∨ (b = 1 ∧ h = 1)) with ⟨rfl, rfl⟩ | ⟨rfl, rfl⟩ | ⟨rfl, rfl⟩ | ⟨rfl, rfl⟩
  · refine ⟨?_, ?_⟩
    · rw [readAt_miss _ _ _ _ (c6 0 0 1 1 (by omega) (by omega) (by omega) (by omega) (by omega)),
        readAt_miss _ _ _ _ (c6 0 0 1 0 (by omega) (by omega) (by omega) (by omega) (by omega)),
        readAt_miss _ _ _ _ (c6 0 0 0 1 (by omega) (by omega) (by omega) (by omega) (by omega)), readAt_hit]
    · rw [readAt_miss _ _ _ _ (c7 0 0 1 1 (by omega) (by omega) (by omega) (by omega) (by omega)),
        readAt_miss _ _ _ _ (c7 0 0 1 0 (by omega) (by omega) (by omega) (by omega) (by omega)),
        readAt_miss _ _ _ _ (c7 0 0 0 1 (by omega) (by omega) (by omega) (by omega) (by omega)), readAt_hit]
  · refine ⟨?_, ?_⟩
    · rw [readAt_miss _ _ _ _ (c6 0 1 1 1 (by omega) (by omega) (by omega) (by omega) (by omega)),
        readAt_miss _ _ _ _ (c6 0 1 1 0 (by omega) (by omega) (by omega) (by omega) (by omega)), readAt_hit]
    · rw [readAt_miss _ _ _ _ (c7 0 1 1 1 (by omega) (by omega) (by omega) (by omega) (by omega)),
        readAt_miss _ _ _ _ (c7 0 1 1 0 (by omega) (by omega) (by omega) (by omega) (by omega)), readAt_hit]
  · refine ⟨?_, ?_⟩
    · rw [readAt_miss _ _ _ _ (c6 1 0 1 1 (by omega) (by omega) (by omega) (by omega) (by omega)), readAt_hit]
    · rw [readAt_miss _ _ _ _ (c7 1 0 1 1 (by omega) (by omega) (by omega) (by omega) (by omega)), readAt_hit]
  · exact ⟨readAt_hit _ _ _ _, readAt_hit _ _ _ _⟩

theorem nextS_eq (b h : Nat) (hh : h ≤ 1) :
    nextS arg2 arg3 X2 X3 k b h = scorePiece (arg2.view.read (Elt F) X2) (arg3.view.read (Elt F) X3) (min (4 * k.val + 4) 31) b h := by
  unfold nextS scorePiece; rw [qBlk_eq arg2 X2 k 4 h (by omega) hh]; rfl
theorem nextM_eq (b h : Nat) (hh : h ≤ 1) :
    nextM arg2 arg3 X2 X3 k b h = maxPiece (arg2.view.read (Elt F) X2) (arg3.view.read (Elt F) X3) (min (4 * k.val + 4) 31) b h := by
  unfold nextM maxPiece; rw [qBlk_eq arg2 X2 k 4 h (by omega) hh]; rfl

/-! ## The loop -/

theorem trips_eq : k0_t1_loop.trips = 8 := by decide

/-- One trip: it stores its four tiles, and leaves the scratch ready for the next. -/
theorem trip_state (𝒱 : Variants) (c : Dev nD) (bd : Option 𝒱.V) (i : grid0.Coords) (harg2 : arg2.IsWhole) (harg3 : arg3.IsWhole)
    (harg4 : arg4.IsWhole) (arg5 : Memref sig .tc .vmem S1x8192x128 .f32) (harg5 : arg5.IsWhole) (harg6 : arg6.IsWhole) (harg7 : arg7.IsWhole)
    (f5 : BufTy.Contents (Elt F) arg5.view.ty) (f6 : BufTy.Contents (Elt F) arg6.view.ty) (f7 : BufTy.Contents (Elt F) arg7.view.ty)
    (hr : Ready arg2 arg3 arg6 arg7 X2 X3 f6 f7 (min (4 * k.val) 31)) :
    (tripL_k0_t1 (F := F) 𝒱 c bd i arg2 harg2 arg3 harg3 arg4 harg4 arg5 harg5 arg6 harg6 arg7 harg7 X2 X3 X4 k f5 f6 f7).1
        = [tilePiece (arg2.view.read (Elt F) X2) (arg3.view.read (Elt F) X3) (arg4.view.read (Elt F) X4) (4 * k.val + 3),
            tilePiece (arg2.view.read (Elt F) X2) (arg3.view.read (Elt F) X3) (arg4.view.read (Elt F) X4) (4 * k.val + 2),
            tilePiece (arg2.view.read (Elt F) X2) (arg3.view.read (Elt F) X3) (arg4.view.read (Elt F) X4) (4 * k.val + 1),
            tilePiece (arg2.view.read (Elt F) X2) (arg3.view.read (Elt F) X3) (arg4.view.read (Elt F) X4) (4 * k.val)]
      ∧ Ready arg2 arg3 arg6 arg7 X2 X3
          (arg6.view.writes (Elt F) f6 (tripL_k0_t1 (F := F) 𝒱 c bd i arg2 harg2 arg3 harg3 arg4 harg4 arg5 harg5 arg6 harg6 arg7 harg7 X2 X3 X4 k f5 f6 f7).2.1)
          (arg7.view.writes (Elt F) f7 (tripL_k0_t1 (F := F) 𝒱 c bd i arg2 harg2 arg3 harg3 arg4 harg4 arg5 harg5 arg6 harg6 arg7 harg7 X2 X3 X4 k f5 f6 f7).2.2)
          (min (4 * k.val + 4) 31) := by
  constructor
  · refine (trip_out (F := F) 𝒱 c bd i arg2 harg2 arg3 harg3 arg4 harg4 arg5 harg5 arg6 harg6 arg7 harg7 X2 X3 X4 k f5 f6 f7).trans ?_
    rw [outPiece_eq arg4 X4 k hr 3 (by omega), outPiece_eq arg4 X4 k hr 2 (by omega),
      outPiece_eq arg4 X4 k hr 1 (by omega), outPiece_eq arg4 X4 k hr 0 (by omega)]
    rfl
  · obtain ⟨L6, e6⟩ := trip_scores (F := F) 𝒱 c bd i arg2 harg2 arg3 harg3 arg4 harg4 arg5 harg5 arg6 harg6 arg7 harg7 X2 X3 X4 k f5 f6 f7
    obtain ⟨L7, e7⟩ := trip_maxima (F := F) 𝒱 c bd i arg2 harg2 arg3 harg3 arg4 harg4 arg5 harg5 arg6 harg6 arg7 harg7 X2 X3 X4 k f5 f6 f7
    refine (congrArg₂ (fun a b => Ready arg2 arg3 arg6 arg7 X2 X3 (arg6.view.writes (Elt F) f6 a) (arg7.view.writes (Elt F) f7 b)
      (min (4 * k.val + 4) 31)) e6 e7).mpr ?_
    rw [nextS_eq k 1 1 (by omega), nextS_eq k 1 0 (by omega), nextS_eq k 0 1 (by omega), nextS_eq k 0 0 (by omega),
      nextM_eq k 1 1 (by omega), nextM_eq k 1 0 (by omega), nextM_eq k 0 1 (by omega), nextM_eq k 0 0 (by omega)]
    exact ready_of_stores _ _ _ _ _

/-- After `n` trips from a ready scratch: the first `n` trips' tiles are stored, and the scratch is ready for the next. -/
theorem loop_state (𝒱 : Variants) (c : Dev nD) (bd : Option 𝒱.V) (i : grid0.Coords) (harg2 : arg2.IsWhole) (harg3 : arg3.IsWhole)
    (harg4 : arg4.IsWhole) (arg5 : Memref sig .tc .vmem S1x8192x128 .f32) (harg5 : arg5.IsWhole) (harg6 : arg6.IsWhole) (harg7 : arg7.IsWhole)
    (G5 : BufTy.Contents (Elt F) arg5.view.ty) (G6 : BufTy.Contents (Elt F) arg6.view.ty) (G7 : BufTy.Contents (Elt F) arg7.view.ty)
    (hr : Ready arg2 arg3 arg6 arg7 X2 X3 G6 G7 0) : ∀ n, n ≤ 8 →
    (pb_k0_t1 (F := F) 𝒱 c bd i arg2 harg2 arg3 harg3 arg4 harg4 arg5 harg5 arg6 harg6 arg7 harg7 X2 X3 X4 G5 G6 G7 n).1
        = tiles (arg2.view.read (Elt F) X2) (arg3.view.read (Elt F) X3) (arg4.view.read (Elt F) X4) n
      ∧ Ready arg2 arg3 arg6 arg7 X2 X3
          (arg6.view.writes (Elt F) G6 (pb_k0_t1 (F := F) 𝒱 c bd i arg2 harg2 arg3 harg3 arg4 harg4 arg5 harg5 arg6 harg6 arg7 harg7 X2 X3 X4 G5 G6 G7 n).2.1)
          (arg7.view.writes (Elt F) G7 (pb_k0_t1 (F := F) 𝒱 c bd i arg2 harg2 arg3 harg3 arg4 harg4 arg5 harg5 arg6 harg6 arg7 harg7 X2 X3 X4 G5 G6 G7 n).2.2)
          (min (4 * n) 31)
  | 0, _ => ⟨rfl, hr⟩
  | n + 1, hn => by
    obtain ⟨h1, h2⟩ := loop_state 𝒱 c bd i harg2 harg3 harg4 arg5 harg5 harg6 harg7 G5 G6 G7 hr n (by omega)
    have ht : n < k0_t1_loop.trips := by rw [trips_eq]; omega
    have hs := pb_k0_t1_succ (F := F) 𝒱 c bd i arg2 harg2 arg3 harg3 arg4 harg4 arg5 harg5 arg6 harg6 arg7 harg7 X2 X3 X4 G5 G6 G7 ⟨n, ht⟩
    obtain ⟨e1, e2⟩ := trip_state arg4 X4 ⟨n, ht⟩ 𝒱 c bd i harg2 harg3 harg4 arg5 harg5 harg6 harg7
      (arg5.view.writes (Elt F) G5 (pb_k0_t1 (F := F) 𝒱 c bd i arg2 harg2 arg3 harg3 arg4 harg4 arg5 harg5 arg6 harg6 arg7 harg7 X2 X3 X4 G5 G6 G7 n).1)
      (arg6.view.writes (Elt F) G6 (pb_k0_t1 (F := F) 𝒱 c bd i arg2 harg2 arg3 harg3 arg4 harg4 arg5 harg5 arg6 harg6 arg7 harg7 X2 X3 X4 G5 G6 G7 n).2.1)
      (arg7.view.writes (Elt F) G7 (pb_k0_t1 (F := F) 𝒱 c bd i arg2 harg2 arg3 harg3 arg4 harg4 arg5 harg5 arg6 harg6 arg7 harg7 X2 X3 X4 G5 G6 G7 n).2.2) h2
    rw [← View.writes_append, ← View.writes_append] at e2
    constructor
    · exact (congrArg Prod.fst hs).trans (congrArg₂ (· ++ ·) e1 h1)
    · have h6 := congrArg (fun p => p.2.1) hs
      have h7 := congrArg (fun p => p.2.2) hs
      exact (congrArg₂ (fun a b => Ready arg2 arg3 arg6 arg7 X2 X3 (arg6.view.writes (Elt F) G6 a) (arg7.view.writes (Elt F) G7 b) (min (4 * n + 4) 31))
        h6 h7).mpr e2
end

end Cert.Mla

end
-- ==== Proof.MlaBody.lean ====
/- The attention kernel's body at a grid point: run once, its output block a function of its three input blocks; and
   the launch over the grid. -/
module

public import proofs.«01_k».proof.Proof.MlaLoop
public import proofs.«01_k».proof.Proof.Gen.KernelIdeal.Frame
public import Idealize.ShloMosaic.Lib.Claim

@[expose] public section

noncomputable section

namespace Cert.Mla

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's elements held whole at contents `f`. -/
abbrev pt (c : Dev nD) {sp : Space} {S : Shape} {e : EltTy} (M : Memref sig .tc sp S e) (f : BufTy.Contents (Elt F) M.view.ty) : sProp 𝕄 :=
  iprop(M.view.loc (c : Thread nD τ) ↦[M.view.set]{fullShare} f)

/-- The body, from the input blocks held and the output's buffer and the scratch at anything: it returns with the inputs
    as they were, the output block `outAll` of them, the scratch at something. -/
theorem kernelRun (c : Dev nD) (i : grid0.Coords) (arg2 : Memref sig .tc .vmem S1x8192x256 .bf16) (harg2 : arg2.IsWhole)
    (arg3 : Memref sig .tc .vmem S1x8192x256 .bf16) (harg3 : arg3.IsWhole) (arg4 : Memref sig .tc .vmem S128x8192 .bf16) (harg4 : arg4.IsWhole)
    (arg5 : Memref sig .tc .vmem S1x8192x128 .f32) (harg5 : arg5.IsWhole) (arg6 : Memref sig .tc .vmem S16x2x512x256 .f32) (harg6 : arg6.IsWhole)
    (arg7 : Memref sig .tc .vmem S16x2x8x256 .f32) (harg7 : arg7.IsWhole)
    (X2 : BufTy.Contents (Elt F) arg2.view.ty) (X3 : BufTy.Contents (Elt F) arg3.view.ty) (X4 : BufTy.Contents (Elt F) arg4.view.ty)
    (f5 : BufTy.Contents (Elt F) arg5.view.ty) (f6 : BufTy.Contents (Elt F) arg6.view.ty) (f7 : BufTy.Contents (Elt F) arg7.view.ty)
    (Q : PUnit → sProp 𝕄) :
    iprop(pt c arg2 X2 ∗ pt c arg3 X3 ∗ pt c arg4 X4 ∗ pt c arg5 f5 ∗ pt c arg6 f6 ∗ pt c arg7 f7
      ∗ (iprop(pt c arg2 X2 ∗ pt c arg3 X3 ∗ pt c arg4 X4
          ∗ (∃ f, ⌜arg5.view.read (Elt F) f = outAll (arg2.view.read (Elt F) X2) (arg3.view.read (Elt F) X3) (arg4.view.read (Elt F) X4)⌝ ∗ pt c arg5 f)
          ∗ (∃ f, pt c arg6 f) ∗ (∃ f, pt c arg7 f)) -∗ Q ⟨⟩))
    ⊢ wp frame (wpE (defs₀ (F := F)) Variants.none c none) Set.univ
        (cc0_mla i arg2 harg2 arg3 harg3 arg4 harg4 arg5 harg5 arg6 harg6 arg7 harg7) Q := by
  iintro ⟨H2, H3, H4, H5, H6, H7, Hk⟩
  sl_exec!
  sl_step
  iapply Hk
  isplitl [H2]; · iexact H2
  isplitl [H3]; · iexact H3
  isplitl [H4]; · iexact H4
  isplitl [H5]
  · iexists _
    isplitr; swap; · iexact H5
    ipureintro
    rw [show Scf.trips k0_t1_loop.lb k0_t1_loop.ub k0_t1_loop.st = 8 from trips_eq]
    exact (congrArg (fun l => arg5.view.read (Elt F) (arg5.view.writes (Elt F) f5 l))
      (loop_state arg4 X4 Variants.none c none i harg2 harg3 harg4 arg5 harg5 harg6 harg7 f5 _ _
        (ready_of_stores (X2 := X2) (X3 := X3) f6 f7 0 [] []) 8 (Nat.le_refl 8)).1).trans (read_tiles _ _ _ arg5 f5)
  isplitl [H6]; · iexists _; iexact H6
  iexists _; iexact H7

/-! ## The launch over the grid -/

variable (m : (ℓ : Loc nD τ sig) → Buf (Elt F) ℓ) (ρ : Dev nD → PrngReg)

/-- The launch's proof data on core `c`: the arrays as the launch finds them; after the body at a point each input's
    buffer at its block and the output's at `outAll` of them; the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAll (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outAll (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- A whole buffer held, as its memref held. -/
theorem pt_whole (c : Dev nD) (b : Ref sig .tc) (f : Buf (Elt F) ((c : Thread nD τ).loc b)) :
    (((c : Thread nD τ).loc b) ↦{fullShare} f : sProp 𝕄) = pt c (Memref.whole b) f := by
  unfold pt; simp only [Memref.view_whole, View.set_whole]

/-- The body at any point: `kernelRun` between the two, the scratch taken from the launch's invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA owns
  rw [scopedRest0_eq]
  simp only [pt_whole]
  iintro ⟨⟨⟨⟨%f6, H6⟩, ⟨%f7, H7⟩⟩, Hr⟩, Ho, ⟨%d0, %f0, %e0, H0⟩, ⟨%d1, %f1, %e1, H1⟩, ⟨%d2, %f2, %e2, H2⟩, ⟨%d3, %f3, %e3, H3⟩⟩
  iapply (kernelRun c _ _ _ _ _ _ _ _ _ _ _ _ _ f0 f1 f2 f3 f6 f7 _)
  isplitl [H0]; · iexact H0
  isplitl [H1]; · iexact H1
  isplitl [H2]; · iexact H2
  isplitl [H3]; · iexact H3
  isplitl [H6]; · iexact H6
  isplitl [H7]; · iexact H7
  iintro ⟨H0, H1, H2, ⟨%g, %eg, H3⟩, H6, H7⟩
  isplitl [H6 H7 Hr]
  · isplitr [Hr]; swap; · iexact Hr
    isplitl [H6]; · iexact H6
    iexact H7
  isplitl [Ho]; · iexact Ho
  isplitl [H0]; · iexists f0; isplitr; swap; · iexact H0
                  ipureintro; exact e0
  isplitl [H1]; · iexists f1; isplitr; swap; · iexact H1
                  ipureintro; exact e1
  isplitl [H2]; · iexists f2; isplitr; swap; · iexact H2
                  ipureintro; exact e2
  iexists g; isplitr; swap; · iexact H3
  ipureintro
  rw [e0, e1, e2] at eg
  exact eg

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion with this one
set_option backward.isDefEq.respectTransparency.types false in
/-- The whole run: it ends, every array of the launch at what the proof data says, every other buffer as the launch
    found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Mla

end
-- ==== Proof.MlaHost.lean ====
/- What the attention's launch is handed: its operands, read off the arguments. -/
module

public import proofs.«01_k».proof.Proof.Gen.KernelIdeal.Frame
public import Idealize.ShloMosaic.Lib.Claim
public import Idealize.ShloMosaic.Lib.Pointwise

@[expose] public section

noncomputable section

namespace Cert.Mla

open Cert.KernelIdeal Cert.KernelIdeal.Gen
open Idealize.ShloMosaic Idealize.ShloMosaic.TcCoe

/-- The lane a padded head's lane is taken from. -/
def perm (p : Fin 96) : Fin 96 := ⟨min (lit0 p).toInt.toNat 95, by omega⟩

theorem gather_apply {α : Type} (x : S4x8192x8x96.Idx → α) (idx : IVec S96x1 32) (n : Fin 4) (s : Fin 8192) (h : Fin 8) (p : Fin 96) :
    Host.gather gather_S4x8192x8x96_S96x1_S4x8192x8x96_012_3_n_n_3_1_4819281 x idx (ix4 n s h p)
      = x (ix4 n s h ⟨min (idx (ix2 p 0)).toInt.toNat 95, by omega⟩) := by
  refine congrArg x (funext fun a => Fin.ext ?_)
  match a with
  | ⟨0, _⟩ => exact (Nat.zero_add _)
  | ⟨1, _⟩ => exact (Nat.zero_add _)
  | ⟨2, _⟩ => exact (Nat.zero_add _)
  | ⟨3, _⟩ =>
    show min (idx _).toInt.toNat 95 + 0 = min (idx (ix2 p 0)).toInt.toNat 95
    rw [Nat.add_zero]
    congr 4
    funext b
    match b with
    | ⟨0, _⟩ => rfl
    | ⟨1, _⟩ => rfl

theorem ofBits_two : Ideal.ofBits FTy.f32 1073741824#32 = ((2 : ℝ) : EReal) := by
  simp only [Ideal.ofBits, Ideal.ieee]
  rw [if_neg (by decide), if_neg (by decide), if_neg (by decide)]
  rw [show (BitVec.extractLsb' 23 8 1073741824#32).toNat = 128 from by decide,
    show (BitVec.extractLsb' 0 23 1073741824#32).toNat = 0 from by decide]
  norm_num

theorem log_scale : Ideal.div 1 (Ideal.log (Ideal.ofBits FTy.f32 1073741824#32)) = ((1 / Real.log 2 : ℝ) : EReal) := by
  rw [ofBits_two, Ideal.log_coe, if_neg (by norm_num), Ideal.div_coe (Real.log_pos (by norm_num)).ne', one_mul]

theorem rowMajor_ix1 : ∀ p : Fin 96, (S96.rowMajor (ix1 p)).val = p.val := by decide +kernel

theorem lanes_apply (x : FVec Ideal S4x8192x8x96 .f32) (n : Fin 4) (s : Fin 8192) (h : Fin 8) (d : Fin 128) :
    pad S4x8192x8x128 ![0, 0, 0, 0] ![0, 0, 0, 32] ![0, 0, 0, 0]
        (Host.gather gather_S4x8192x8x96_S96x1_S4x8192x8x96_012_3_n_n_3_1_4819281 x
            (broadcastInDim S96x1 ![0] bcast_S96_S96x1_0
              (select (constantI S96 1 0#1)
                (addi (fun i => lit0 (S96.rowMajor i)) (broadcastInDim S96 ![] bcast_S_S96 (constantI S_ 32 96#32)))
                fun i => lit0 (S96.rowMajor i))))
        (sitofp FTy.f32 (constantI S_ 32 0#32)) pads_S4x8192x8x96_S4x8192x8x128_000_000_000_0320 h_S_ (ix4 n s h d)
      = if hd : d.val < 96 then x (ix4 n s h (perm ⟨d.val, hd⟩)) else (0 : EReal) := by
  pointwise
  have e0 : ((FloatOps.sitofp (F := Ideal) FTy.f32 (0#32 : BitVec 32) : Ideal .f32) : EReal) = (0 : EReal) := by
    show (((0#32 : BitVec 32).toInt : ℝ) : EReal) = 0
    simp
  refine dite_congr rfl (fun hd => (gather_apply x _ n s h ⟨d.val, hd⟩).trans ?_) fun _ => e0
  have e1 : S96.rowMajor (ix1 ⟨d.val, hd⟩) = (⟨d.val, hd⟩ : Fin 96) := Fin.ext (rowMajor_ix1 ⟨d.val, hd⟩)
  refine congrArg (fun z => x (ix4 n s h z)) (Fin.ext ?_)
  show min (lit0 (S96.rowMajor (ix1 ⟨d.val, hd⟩))).toInt.toNat 95 = _
  rw [e1]
  rfl

/-- The lanes of a head are its elements in another order. -/
theorem perm_bij : Function.Bijective perm := by
  refine (Fintype.bijective_iff_injective_and_card perm).mpr ⟨?_, rfl⟩
  decide +kernel

variable (m : (ℓ : Loc nD τ sig) → Buf (Elt Ideal) ℓ)

def argQ (c : Dev nD) : FVec Ideal S4x8192x8x96 .f32 := m ((c.tc : Thread nD τ).loc main_arg0)
def argK (c : Dev nD) : FVec Ideal S4x8192x8x96 .f32 := m ((c.tc : Thread nD τ).loc main_arg1)
def argV (c : Dev nD) : FVec Ideal S4x8192x8x64 .f32 := m ((c.tc : Thread nD τ).loc main_arg2)
def bufQ (c : Dev nD) : FVec Ideal S4x8192x1024 .bf16 := V m c main_v11
def bufK (c : Dev nD) : FVec Ideal S4x8192x1024 .bf16 := V m c main_v19
def bufV (c : Dev nD) : FVec Ideal S512x32768 .bf16 := V m c main_v22

theorem hostV (c : Dev nD) (x : Fin 512) (y : Fin 32768) :
    bufV m c (ix2 x y) = argV m c (ix4 ⟨y.val / 8192, by omega⟩ ⟨y.val % 8192, by omega⟩ ⟨x.val / 64, by omega⟩ ⟨x.val % 64, by omega⟩) := by
  simp only [bufV, V, hostOps0, hostOps0_1, hostOps0_2, hostOps0_3, hostOps0_4, List.flatten_cons, List.flatten_nil, List.append_nil, List.cons_append, List.nil_append]
  entry_read
  pointwise
  rfl

theorem hostK (c : Dev nD) (n : Fin 4) (s : Fin 8192) (l : Fin 1024) :
    bufK m c (ix3 n s l) = if hd : l.val % 128 < 96 then argK m c (ix4 n s ⟨l.val / 128, by omega⟩ (perm ⟨l.val % 128, hd⟩)) else (0 : EReal) := by
  simp only [bufK, V, hostOps0, hostOps0_1, hostOps0_2, hostOps0_3, hostOps0_4, List.flatten_cons, List.flatten_nil, List.append_nil, List.cons_append, List.nil_append]
  entry_read
  pointwise
  exact lanes_apply _ n s ⟨l.val / 128, by omega⟩ ⟨l.val % 128, by omega⟩

theorem hostQ (c : Dev nD) (n : Fin 4) (s : Fin 8192) (l : Fin 1024) :
    bufQ m c (ix3 n s l) = if hd : l.val % 128 < 96 then
      argQ m c (ix4 n s ⟨l.val / 128, by omega⟩ (perm ⟨l.val % 128, hd⟩)) * ((1 / Real.log 2 : ℝ) : EReal) else (0 : EReal) := by
  simp only [bufQ, V, hostOps0, hostOps0_1, hostOps0_2, hostOps0_3, hostOps0_4, List.flatten_cons, List.flatten_nil, List.append_nil, List.cons_append, List.nil_append]
  entry_read
  pointwise
  refine (lanes_apply (mulf (argQ m c) (broadcastInDim S4x8192x8x96 ![] bcast_S_S4x8192x8x96
    (Host.divf (constant S_ FTy.f32 1065353216#32) (Host.log (constant S_ FTy.f32 1073741824#32)))))
    n s ⟨l.val / 128, by omega⟩ ⟨l.val % 128, by omega⟩).trans ?_
  pointwise
  rw [log_scale]

end Cert.Mla

end
-- ==== Proof.SoftMath.lean ====
/- A softmax's weights, kept relative to a running maximum or to none: the sums over the extended reals. -/
module

public import Idealize.ShloMosaic.PureOps.Ideal
public import Mathlib.Analysis.SpecialFunctions.Pow.Real

@[expose] public section

noncomputable section

namespace Cert.Mla

open Idealize.ShloMosaic

/-- A real factor that is not negative passes into a weighted sum of extended reals. -/
theorem mul_wsum {ι : Type} (S : Finset ι) {c : ℝ} (hc : 0 ≤ c) (x : ι → EReal) (w : ι → ℝ) :
    (c : EReal) * ∑ i ∈ S, x i * (w i : EReal) = ∑ i ∈ S, x i * ((c * w i : ℝ) : EReal) := by
  classical
  induction S using Finset.induction_on with
  | empty => simp
  | insert i S hi ih =>
    rw [Finset.sum_insert hi, Finset.sum_insert hi,
      EReal.left_distrib_of_nonneg_of_ne_top (EReal.coe_nonneg.mpr hc) (EReal.coe_ne_top c), ih,
      EReal.coe_mul, mul_left_comm]

theorem sum_coe {ι : Type} (S : Finset ι) (w : ι → ℝ) : ∑ i ∈ S, (w i : EReal) = ((∑ i ∈ S, w i : ℝ) : EReal) := by
  classical
  induction S using Finset.induction_on with
  | empty => simp
  | insert i S hi ih => rw [Finset.sum_insert hi, Finset.sum_insert hi, ih, EReal.coe_add]

/-- The softmax weight of position `k` among the `S`. -/
def soft {ι : Type} (S : Finset ι) (s : ι → ℝ) (k : ι) : ℝ := Real.exp (s k) / ∑ i ∈ S, Real.exp (s i)

/-- The softmax does not change when all its scores do by one number. -/
theorem soft_shift {ι : Type} (S : Finset ι) (s : ι → ℝ) (c : ℝ) (k : ι) :
    Real.exp (s k - c) / ∑ i ∈ S, Real.exp (s i - c) = soft S s k := by
  unfold soft
  simp only [Real.exp_sub]
  rw [← Finset.sum_div, div_div_div_cancel_right₀ (Real.exp_ne_zero c)]

theorem exp2_real (x : ℝ) : Ideal.exp2 (x : EReal) = (((2 : ℝ) ^ x : ℝ) : EReal) := by
  rw [Ideal.exp2_coe, Real.rpow_eq_pow]

/-- A power of two is an exponential. -/
theorem rpow_two (s M : ℝ) : (2 : ℝ) ^ (s * (1 / Real.log 2) - M) = Real.exp (s - M * Real.log 2) := by
  have h : Real.log 2 ≠ 0 := (Real.log_pos (by norm_num)).ne'
  rw [Real.rpow_def_of_pos (by norm_num)]
  congr 1
  field_simp

/-- A weighted sum divided by the sum of its weights. -/
theorem div_wsum {ι : Type} (S : Finset ι) (hS : S.Nonempty) (x : ι → EReal) (w : ι → ℝ) (hw : ∀ i, 0 < w i) :
    Ideal.div (∑ i ∈ S, x i * (w i : EReal)) (∑ i ∈ S, 1 * (w i : EReal))
      = ∑ i ∈ S, x i * ((w i / ∑ k ∈ S, w k : ℝ) : EReal) := by
  have hW : 0 < ∑ k ∈ S, w k := Finset.sum_pos (fun i _ => hw i) hS
  simp only [one_mul]
  rw [sum_coe, Ideal.div_coe hW.ne', mul_comm, mul_wsum S (one_div_pos.mpr hW).le]
  refine Finset.sum_congr rfl fun i _ => ?_
  rw [one_div_mul_eq_div]

/-- The same where the weights are powers of two of scores scaled to it: the softmax. -/
theorem div_wsum_two {ι : Type} (S : Finset ι) (hS : S.Nonempty) (x : ι → EReal) (s : ι → ℝ) (M : ℝ) :
    Ideal.div (∑ i ∈ S, x i * (((2 : ℝ) ^ (s i * (1 / Real.log 2) - M) : ℝ) : EReal)) (∑ i ∈ S, 1 * (((2 : ℝ) ^ (s i * (1 / Real.log 2) - M) : ℝ) : EReal))
      = ∑ i ∈ S, x i * (soft S s i : EReal) := by
  rw [div_wsum S hS x _ fun i => Real.rpow_pos_of_pos (by norm_num) _]
  refine Finset.sum_congr rfl fun i _ => ?_
  simp only [rpow_two, soft_shift]

/-- A block's update: the sums so far rescaled from one maximum to another, and the block's own added. -/
theorem rescale (n b : Nat) (x : Nat → EReal) (s : Nat → ℝ) (M M' : ℝ) :
    (((2 : ℝ) ^ (M - M') : ℝ) : EReal) * (∑ k ∈ Finset.range n, x k * (((2 : ℝ) ^ (s k - M) : ℝ) : EReal))
        + ∑ t : Fin b, x (n + t.val) * (((2 : ℝ) ^ (s (n + t.val) - M') : ℝ) : EReal)
      = ∑ k ∈ Finset.range (n + b), x k * (((2 : ℝ) ^ (s k - M') : ℝ) : EReal) := by
  rw [mul_wsum _ (Real.rpow_nonneg (by norm_num) _), Finset.sum_range_add, Finset.sum_range (n := b)]
  congr 1
  refine Finset.sum_congr rfl fun k _ => ?_
  congr 2
  rw [← Real.rpow_add (by norm_num)]
  congr 1; ring

end Cert.Mla

end
-- ==== Proof.MlaStep.lean ====
/- The attention kernel's operations at the extended reals, element by element. -/
module

public import proofs.«01_k».proof.Proof.MlaLoop
public import proofs.«01_k».proof.Proof.SoftMath
public import Idealize.ShloMosaic.Lib.Pointwise

@[expose] public section

noncomputable section

namespace Cert.Mla

open Cert.KernelIdeal Cert.KernelIdeal.Gen
open Idealize.ShloMosaic

/-- A score: the product of a key's row and a query's. -/
theorem score_apply (kb : Vec Ideal S1x512x128 .bf16) (q : Vec Ideal S1x256x128 .bf16) (t : Fin 512) (r : Fin 256) :
    k0_pay8 kb q (ix4 0 0 t r) = ∑ d : Fin 128, (kb (ix3 0 t d) * q (ix3 0 r d) : EReal) := by
  pointwise [k0_pay8, k0_pay7]

theorem step_apply (m : FVec Ideal S1x256 .f32) (a : FVec Ideal S80x256 .f32) (mx : Vec Ideal S1x1x8x256 .f32)
    (sc : Vec Ideal S1x1x512x256 .f32) (v : Vec Ideal S64x512 .bf16) (e : Fin 80) (r : Fin 256) :
    k0_pay17 m a mx sc v (ix2 e r) = (Ideal.exp2 (m (ix2 0 r) - k0_pay16 m mx (ix2 0 r)) * a (ix2 e r)
      + ∑ t : Fin 512, (if h : e.val < 64 then v (ix2 ⟨e.val, h⟩ t) else 1) * Ideal.exp2 (sc (ix4 0 0 t r) - k0_pay16 m mx (ix2 0 r)) : EReal) := by
  pointwise [k0_pay17]
  rfl

theorem coe_of_between {x : EReal} (h1 : x ≠ ⊥) (h2 : x ≠ ⊤) : ∃ r : ℝ, x = r := ⟨x.toReal, (EReal.coe_toReal h2 h1).symm⟩

theorem fold_max_ne_top {ι : Type} (S : Finset ι) (b : EReal) (f : ι → EReal) (hb : b ≠ ⊤) (hf : ∀ i ∈ S, f i ≠ ⊤) :
    S.fold max b f ≠ ⊤ :=
  ((Finset.fold_max_lt _).mpr ⟨lt_top_iff_ne_top.mpr hb, fun i hi => lt_top_iff_ne_top.mpr (hf i hi)⟩).ne

theorem negInf_ne_top : (Ideal.ofBits .f32 0xFF800000#32 : EReal) ≠ ⊤ := by
  have h : (Ideal.ofBits .f32 0xFF800000#32 : EReal) = ⊥ := by simp [Ideal.ofBits, Ideal.ieee]
  rw [h]; exact bot_ne_top

/-- The running maximum stays a real number. -/
theorem max_real (m : FVec Ideal S1x256 .f32) (mx : Vec Ideal S1x1x8x256 .f32) (r : Fin 256) (M : ℝ)
    (hm : m (ix2 0 r) = (M : EReal)) (hx : ∀ g : Fin 8, (mx (ix4 0 0 g r) : EReal) ≠ ⊤) :
    ∃ M' : ℝ, (k0_pay16 m mx (ix2 0 r) : EReal) = M' := by
  pointwise [k0_pay16]
  rw [hm]
  refine coe_of_between (fun h => ?_) (fun h => ?_)
  · exact (EReal.coe_ne_bot M) (le_bot_iff.mp (h ▸ le_max_left _ _))
  · rcases max_choice (M : EReal) (Finset.univ.fold max (Ideal.ofBits .f32 0xFF800000#32) fun x => mx (ix4 0 0 x r)) with e | e
    · exact EReal.coe_ne_top M (e ▸ h)
    · exact fold_max_ne_top _ _ _ negInf_ne_top (fun g _ => hx g) (e ▸ h)

/-- A block's column maxima are below infinity where its scores are. -/
theorem colmax_ne_top (kb : Vec Ideal S1x512x128 .bf16) (q : Vec Ideal S1x256x128 .bf16) (r : Fin 256)
    (h : ∀ t : Fin 512, (k0_pay8 kb q (ix4 0 0 t r) : EReal) ≠ ⊤) (g : Fin 8) :
    (k0_pay9 kb q (ix4 0 0 g r) : EReal) ≠ ⊤ := by
  pointwise [k0_pay9]
  refine fold_max_ne_top _ _ _ negInf_ne_top fun x _ => ?_
  have h1 := h ⟨x.val * 8 + g.val, by omega⟩
  pointwise [k0_pay8] at h1
  exact h1

theorem fresh_max (r : Fin 256) : ∃ M : ℝ, (k0_pay3 (F := Ideal) (ix2 0 r) : EReal) = M := by
  pointwise [k0_pay3]
  simp only [Ideal.ofBits, Ideal.ieee]
  rw [if_neg (by decide), if_neg (by decide)]
  exact ⟨_, rfl⟩

theorem fresh_sums (e : Fin 80) (r : Fin 256) : (k0_pay4 (F := Ideal) (ix2 e r) : EReal) = 0 := by
  pointwise [k0_pay4]

/-- A value row, the last sixteen rows all ones. -/
def row (a : Nat → Nat → EReal) (e κ : Nat) : EReal := if e < 64 then a e κ else 1

/-- A head's state after `n` blocks, at a query: the maximum some real number, each row's sum over the keys so far with
    their weights relative to it. -/
theorem fold_state (mx : Nat → Vec Ideal S1x1x8x256 .f32) (sc : Nat → Vec Ideal S1x1x512x256 .f32) (v : Nat → Vec Ideal S64x512 .bf16)
    (r : Fin 256) (s : Nat → ℝ) (a : Nat → Nat → EReal)
    (hmx : ∀ b g, (mx b (ix4 0 0 g r) : EReal) ≠ ⊤)
    (hs : ∀ b < 16, ∀ t : Fin 512, (sc b (ix4 0 0 t r) : EReal) = (s (b * 512 + t.val) : EReal))
    (hv : ∀ b < 16, ∀ (e : Fin 64) (t : Fin 512), (v b (ix2 e t) : EReal) = a e.val (b * 512 + t.val)) :
    ∀ n ≤ 16, ∃ M : ℝ, ((fold mx sc v n).1 (ix2 0 r) : EReal) = M
      ∧ ∀ e : Fin 80, ((fold mx sc v n).2 (ix2 e r) : EReal)
          = ∑ κ ∈ Finset.range (n * 512), row a e.val κ * (((2 : ℝ) ^ (s κ - M) : ℝ) : EReal)
  | 0, _ => by
    obtain ⟨M, hM⟩ := fresh_max r
    exact ⟨M, hM, fun e => by rw [Nat.zero_mul, Finset.sum_range_zero]; exact fresh_sums e r⟩
  | n + 1, hn => by
    obtain ⟨M, hM, hA⟩ := fold_state mx sc v r s a hmx hs hv n (by omega)
    obtain ⟨M', hM'⟩ := max_real (fold mx sc v n).1 (mx n) r M hM (hmx n)
    refine ⟨M', hM', fun e => ?_⟩
    show (k0_pay17 (fold mx sc v n).1 (fold mx sc v n).2 (mx n) (sc n) (v n) (ix2 e r) : EReal) = _
    rw [step_apply, hM, hM', hA e, Nat.succ_mul, ← rescale, ← EReal.coe_sub, exp2_real]
    refine congrArg₂ _ rfl (Finset.sum_congr rfl fun t _ => ?_)
    rw [hs n (by omega) t, ← EReal.coe_sub, exp2_real]
    refine congrArg₂ _ ?_ rfl
    unfold row
    split
    · rename_i h; exact hv n (by omega) ⟨e.val, h⟩ t
    · rfl

theorem outTile_apply (a0 a1 : FVec Ideal S80x256 .f32) (r : Fin 256) (d : Fin 128) :
    outTile a0 a1 (ix3 0 r d) = (if h : d.val < 64 then Ideal.div (a0 (ix2 ⟨d.val, by omega⟩ r)) (a0 (ix2 64 r))
      else Ideal.div (a1 (ix2 ⟨d.val - 64, by omega⟩ r)) (a1 (ix2 64 r)) : EReal) := by
  pointwise [outTile]

end Cert.Mla

end
-- ==== Proof.MlaValue.lean ====
/- The attention's output block, as the weighted sums of its values. -/
module

public import proofs.«01_k».proof.Proof.MlaLoop
public import proofs.«01_k».proof.Proof.MlaStep
public import proofs.«01_k».proof.Proof.SoftMath

@[expose] public section

noncomputable section

namespace Cert.Mla

open Cert.KernelIdeal Cert.KernelIdeal.Gen
open Idealize.ShloMosaic Idealize.ShloMosaic.TcCoe
open Finset (range)

theorem kB_apply (K : Vec Ideal S1x8192x256 .bf16) (b h : Nat) (t : Fin 512) (d : Fin 128) :
    kB K b h (ix3 0 t d) = K (ix3 0 ⟨b % 16 * 512 + t.val, by omega⟩ ⟨h % 2 * 128 + d.val, by omega⟩) := by
  refine congrArg K (funext fun a => Fin.ext ?_)
  match a with
  | ⟨0, _⟩ => rfl
  | ⟨1, _⟩ => exact congrArg (_ + ·) (Nat.one_mul _)
  | ⟨2, _⟩ => exact congrArg (_ + ·) (Nat.one_mul _)

theorem qT_apply (Q : Vec Ideal S1x8192x256 .bf16) (j h : Nat) (r : Fin 256) (d : Fin 128) :
    qT Q j h (ix3 0 r d) = Q (ix3 0 ⟨256 * (j % 32) + r.val, by omega⟩ ⟨h % 2 * 128 + d.val, by omega⟩) := by
  refine congrArg Q (funext fun a => Fin.ext ?_)
  match a with
  | ⟨0, _⟩ => rfl
  | ⟨1, _⟩ => exact congrArg (_ + ·) (Nat.one_mul _)
  | ⟨2, _⟩ => exact congrArg (_ + ·) (Nat.one_mul _)

theorem vB_apply (V : Vec Ideal S128x8192 .bf16) (b h : Nat) (e : Fin 64) (t : Fin 512) :
    vB V b h (ix2 e t) = V (ix2 ⟨h % 2 * 64 + e.val, by omega⟩ ⟨b % 16 * 512 + t.val, by omega⟩) := by
  refine congrArg V (funext fun a => Fin.ext ?_)
  match a with
  | ⟨0, _⟩ => exact congrArg (_ + ·) (Nat.one_mul _)
  | ⟨1, _⟩ => exact congrArg (_ + ·) (Nat.one_mul _)

/-- One head's sums for one query, from its scores `s` and its values `a`. -/
theorem tileSums_apply (Q K : Vec Ideal S1x8192x256 .bf16) (V : Vec Ideal S128x8192 .bf16) (j h : Nat) (r : Fin 256)
    (s : Nat → ℝ) (a : Nat → Nat → EReal)
    (hs : ∀ κ : Fin 8192, ∑ d : Fin 128, (K (ix3 0 κ ⟨h % 2 * 128 + d.val, by omega⟩)
      * Q (ix3 0 ⟨256 * (j % 32) + r.val, by omega⟩ ⟨h % 2 * 128 + d.val, by omega⟩) : EReal) = (s κ.val : EReal))
    (hv : ∀ (e : Fin 64) (κ : Fin 8192), (V (ix2 ⟨h % 2 * 64 + e.val, by omega⟩ κ) : EReal) = a e.val κ.val) :
    ∃ M : ℝ, ∀ e : Fin 80, (tileSums Q K V j h (ix2 e r) : EReal)
      = ∑ κ ∈ range 8192, row a e.val κ * (((2 : ℝ) ^ (s κ - M) : ℝ) : EReal) := by
  have hb : ∀ (b : Nat) (t : Fin 512), (k0_pay8 (kB K b h) (qT Q j h) (ix4 0 0 t r) : EReal) = (s (b % 16 * 512 + t.val) : EReal) := fun b t => by
    rw [score_apply]
    simp only [kB_apply, qT_apply]
    exact hs ⟨b % 16 * 512 + t.val, by omega⟩
  obtain ⟨M, -, h2⟩ := fold_state (fun b => k0_pay9 (kB K b h) (qT Q j h)) (fun b => k0_pay8 (kB K b h) (qT Q j h)) (fun b => vB V b h)
    r s a (fun b g => colmax_ne_top _ _ r (fun t => by rw [hb]; exact EReal.coe_ne_top _) g)
    (fun b h16 t => by rw [hb, Nat.mod_eq_of_lt h16])
    (fun b h16 e t => by
      rw [vB_apply]
      refine (hv e ⟨b % 16 * 512 + t.val, by omega⟩).trans ?_
      show a e.val (b % 16 * 512 + t.val) = _
      rw [Nat.mod_eq_of_lt h16]) 16 (Nat.le_refl _)
  exact ⟨M, h2⟩

/-- A head's output for one query: its values weighted by the softmax of its scores. -/
theorem ratio_apply (Q K : Vec Ideal S1x8192x256 .bf16) (V : Vec Ideal S128x8192 .bf16) (j h : Nat) (r : Fin 256) (e : Fin 64)
    (s : Nat → ℝ) (a : Nat → Nat → EReal)
    (hs : ∀ κ : Fin 8192, ∑ d : Fin 128, (K (ix3 0 κ ⟨h % 2 * 128 + d.val, by omega⟩)
      * Q (ix3 0 ⟨256 * (j % 32) + r.val, by omega⟩ ⟨h % 2 * 128 + d.val, by omega⟩) : EReal) = ((s κ.val * (1 / Real.log 2) : ℝ) : EReal))
    (hv : ∀ (e : Fin 64) (κ : Fin 8192), (V (ix2 ⟨h % 2 * 64 + e.val, by omega⟩ κ) : EReal) = a e.val κ.val) :
    Ideal.div (tileSums Q K V j h (ix2 ⟨e.val, by omega⟩ r)) (tileSums Q K V j h (ix2 64 r))
      = ∑ κ ∈ range 8192, a e.val κ * (soft (range 8192) s κ : EReal) := by
  obtain ⟨M, hM⟩ := tileSums_apply Q K V j h r (fun κ => s κ * (1 / Real.log 2)) a hs hv
  rw [hM, hM, ← div_wsum_two (range 8192) ⟨0, by simp⟩ (a e.val) s M]
  have e1 : ∀ κ, row a e.val κ = a e.val κ := fun κ => if_pos e.isLt
  have e2 : ∀ κ, row a (64 : Fin 80).val κ = 1 := fun κ => if_neg (by decide)
  simp only [e1, e2]

/-- The block's entry at a row and a column. -/
theorem outAll_apply (Q K : Vec Ideal S1x8192x256 .bf16) (V : Vec Ideal S128x8192 .bf16) (r : Fin 8192) (y : Fin 128)
    (s : Nat → ℝ) (a : Nat → EReal)
    (hs : ∀ κ : Fin 8192, ∑ d : Fin 128, (K (ix3 0 κ ⟨y.val / 64 * 128 + d.val, by omega⟩)
      * Q (ix3 0 r ⟨y.val / 64 * 128 + d.val, by omega⟩) : EReal) = ((s κ.val * (1 / Real.log 2) : ℝ) : EReal))
    (hv : ∀ κ : Fin 8192, (V (ix2 y κ) : EReal) = a κ.val) :
    (outAll Q K V (ix3 0 r y) : EReal) = ∑ κ ∈ range 8192, a κ * (soft (range 8192) s κ : EReal) := by
  have hj : r.val / 256 % 32 = r.val / 256 := Nat.mod_eq_of_lt (by omega)
  have hr : (⟨256 * (r.val / 256 % 32) + r.val % 256, by omega⟩ : Fin 8192) = r := Fin.ext (by simp only [hj]; omega)
  have key : ∀ (h : Nat) (e : Fin 64) (_ : h = y.val / 64) (_ : h * 64 + e.val = y.val),
      Ideal.div (tileSums Q K V (r.val / 256) h (ix2 ⟨e.val, by omega⟩ ⟨r.val % 256, by omega⟩)) (tileSums Q K V (r.val / 256) h (ix2 64 ⟨r.val % 256, by omega⟩))
        = ∑ κ ∈ range 8192, a κ * (soft (range 8192) s κ : EReal) := fun h e h1 h2 => by
    have hm : h % 2 = y.val / 64 := by omega
    refine (ratio_apply Q K V (r.val / 256) h (⟨r.val % 256, by omega⟩ : Fin 256) e s
      (fun e κ => if hh : e < 64 ∧ κ < 8192 then V (ix2 ⟨h % 2 * 64 + e, by omega⟩ ⟨κ, hh.2⟩) else 0) (fun κ => ?_) (fun e κ => ?_)).trans ?_
    · simp only [hr, hm]; exact hs κ
    · have he : e.val < 64 ∧ κ.val < 8192 := ⟨e.isLt, κ.isLt⟩
      simp only [dif_pos he]
    · refine Finset.sum_congr rfl fun κ hκ => ?_
      have hκ := Finset.mem_range.mp hκ
      rw [dif_pos (And.intro e.isLt hκ), ← hv ⟨κ, hκ⟩]
      have hy : (⟨h % 2 * 64 + e.val, by omega⟩ : Fin 128) = y := Fin.ext (by simp only []; omega)
      rw [hy]
  have hi : inTile (ix3 0 r y) = ix3 0 ⟨r.val % 256, by omega⟩ y := by
    funext b
    match b with
    | ⟨0, _⟩ => rfl
    | ⟨1, _⟩ => rfl
    | ⟨2, _⟩ => rfl
  refine (congrArg (tile Q K V (r.val / 256)) hi).trans ?_
  refine (outTile_apply _ _ ⟨r.val % 256, by omega⟩ y).trans ?_
  split
  · exact key 0 ⟨y.val, by omega⟩ (by omega) (by simp only []; omega)
  · exact key 1 ⟨y.val - 64, by omega⟩ (by omega) (by simp only []; omega)

end Cert.Mla

end
-- ==== Proof.MlaSpec.lean ====
/- The attention over the real numbers: what both programs compute. -/
module

public import proofs.«01_k».proof.Proof.SoftMath

@[expose] public section

noncomputable section

namespace Cert.Mla

open Finset (range)

/-- The score of key `κ` for query `r` of head `h`. -/
def score (Q K : Fin 4 → Fin 8192 → Fin 8 → Fin 96 → ℝ) (n : Fin 4) (h : Fin 8) (r : Fin 8192) (κ : Nat) : ℝ :=
  if hκ : κ < 8192 then ∑ d : Fin 96, Q n r h d * K n ⟨κ, hκ⟩ h d else 0

/-- The value of key `κ` of head `h` at column `e`. -/
def value (V : Fin 4 → Fin 8192 → Fin 8 → Fin 64 → EReal) (n : Fin 4) (h : Fin 8) (e : Fin 64) (κ : Nat) : EReal :=
  if hκ : κ < 8192 then V n ⟨κ, hκ⟩ h e else 0

/-- The values weighted by the softmax of their keys' scores. -/
def att (Q K : Fin 4 → Fin 8192 → Fin 8 → Fin 96 → ℝ) (V : Fin 4 → Fin 8192 → Fin 8 → Fin 64 → EReal)
    (n : Fin 4) (r : Fin 8192) (h : Fin 8) (e : Fin 64) : EReal :=
  ∑ κ ∈ range 8192, value V n h e κ * (soft (range 8192) (score Q K n h r) κ : EReal)

theorem score_fin (Q K : Fin 4 → Fin 8192 → Fin 8 → Fin 96 → ℝ) (n : Fin 4) (h : Fin 8) (r κ : Fin 8192) :
    score Q K n h r κ.val = ∑ d : Fin 96, Q n r h d * K n κ h d := dif_pos κ.isLt

theorem value_fin (V : Fin 4 → Fin 8192 → Fin 8 → Fin 64 → EReal) (n : Fin 4) (h : Fin 8) (e : Fin 64) (κ : Fin 8192) :
    value V n h e κ.val = V n κ h e := dif_pos κ.isLt

end Cert.Mla

end
-- ==== Proof.MlaFinal.lean ====
/- The kernel's result array: the attention of its arguments. -/
module

public import proofs.«01_k».proof.Proof.MlaBody
public import proofs.«01_k».proof.Proof.MlaHost
public import proofs.«01_k».proof.Proof.MlaValue
public import proofs.«01_k».proof.Proof.MlaSpec
public import Idealize.ShloMosaic.Lib.Pipeline.ValueKit

@[expose] public section

noncomputable section

namespace Cert.Mla

open Cert.KernelIdeal Cert.KernelIdeal.Gen
open Idealize.ShloMosaic Idealize.ShloMosaic.TcCoe
open Finset (range)

variable (m : (ℓ : Loc nD τ sig) → Buf (Elt Ideal) ℓ) (ρ : Dev nD → PrngReg)

theorem index0 : ∀ t : Fin cfg0.N, win0_0.index t = ![(grid0.coords t 0).val, 0, (grid0.coords t 1).val] :=
  (by decide +kernel : ∀ t : Fin grid0.N, _)
theorem index1 : ∀ t : Fin cfg0.N, win0_1.index t = ![(grid0.coords t 0).val, 0, (grid0.coords t 1).val] :=
  (by decide +kernel : ∀ t : Fin grid0.N, _)
theorem index2 : ∀ t : Fin cfg0.N, win0_2.index t = ![(grid0.coords t 1).val, (grid0.coords t 0).val] :=
  (by decide +kernel : ∀ t : Fin grid0.N, _)
theorem index3 : ∀ t : Fin cfg0.N, win0_3.index t = ![(grid0.coords t 0).val, 0, (grid0.coords t 1).val] :=
  (by decide +kernel : ∀ t : Fin grid0.N, _)

theorem coord0 (t : Fin cfg0.N) : (grid0.coords t 0).val < 4 := (grid0.coords t 0).isLt
theorem coord1 (t : Fin cfg0.N) : (grid0.coords t 1).val < 4 := (grid0.coords t 1).isLt

theorem read0 (c : Dev nD) (W : (b : Ref sig .tc) → Buf (Elt Ideal) ((c : Thread nD τ).loc b)) (t : Fin cfg0.N) (r : Fin 8192) (l : Fin 256) :
    (((cfg0.win 0).blk t).view.read (Elt Ideal) (W (Pipeline.arrRef spec0 0)) : Vec Ideal S1x8192x256 .bf16) (ix3 0 r l)
      = (W main_v11 : Vec Ideal S4x8192x1024 .bf16) (ix3 ⟨(grid0.coords t 0).val, coord0 t⟩ r ⟨(grid0.coords t 1).val * 256 + l.val, by have := coord1 t; omega⟩) := by
  blk_simp
  refine congrArg (W main_v11) ?_
  blk_ext [index0]

theorem blkQ (c : Dev nD) (t : Fin cfg0.N) (r : Fin 8192) (l : Fin 256) :
    (iblk m c 0 t : Vec Ideal S1x8192x256 .bf16) (ix3 0 r l) = bufQ m c (ix3 ⟨(grid0.coords t 0).val, coord0 t⟩ r ⟨(grid0.coords t 1).val * 256 + l.val, by have := coord1 t; omega⟩) := by
  unfold iblk bufQ
  exact read0 c (V m c) t r l

theorem read1 (c : Dev nD) (W : (b : Ref sig .tc) → Buf (Elt Ideal) ((c : Thread nD τ).loc b)) (t : Fin cfg0.N) (r : Fin 8192) (l : Fin 256) :
    (((cfg0.win 1).blk t).view.read (Elt Ideal) (W (Pipeline.arrRef spec0 1)) : Vec Ideal S1x8192x256 .bf16) (ix3 0 r l)
      = (W main_v19 : Vec Ideal S4x8192x1024 .bf16) (ix3 ⟨(grid0.coords t 0).val, coord0 t⟩ r ⟨(grid0.coords t 1).val * 256 + l.val, by have := coord1 t; omega⟩) := by
  blk_simp
  refine congrArg (W main_v19) ?_
  blk_ext [index1]

theorem blkK (c : Dev nD) (t : Fin cfg0.N) (r : Fin 8192) (l : Fin 256) :
    (iblk m c 1 t : Vec Ideal S1x8192x256 .bf16) (ix3 0 r l) = bufK m c (ix3 ⟨(grid0.coords t 0).val, coord0 t⟩ r ⟨(grid0.coords t 1).val * 256 + l.val, by have := coord1 t; omega⟩) := by
  unfold iblk bufK
  exact read1 c (V m c) t r l

theorem read2 (c : Dev nD) (W : (b : Ref sig .tc) → Buf (Elt Ideal) ((c : Thread nD τ).loc b)) (t : Fin cfg0.N) (y : Fin 128) (κ : Fin 8192) :
    (((cfg0.win 2).blk t).view.read (Elt Ideal) (W (Pipeline.arrRef spec0 2)) : Vec Ideal S128x8192 .bf16) (ix2 y κ)
      = (W main_v22 : Vec Ideal S512x32768 .bf16) (ix2 ⟨(grid0.coords t 1).val * 128 + y.val, by have := coord1 t; omega⟩ ⟨(grid0.coords t 0).val * 8192 + κ.val, by have := coord0 t; omega⟩) := by
  blk_simp
  refine congrArg (W main_v22) ?_
  blk_ext [index2]

theorem blkV (c : Dev nD) (t : Fin cfg0.N) (y : Fin 128) (κ : Fin 8192) :
    (iblk m c 2 t : Vec Ideal S128x8192 .bf16) (ix2 y κ) = bufV m c (ix2 ⟨(grid0.coords t 1).val * 128 + y.val, by have := coord1 t; omega⟩ ⟨(grid0.coords t 0).val * 8192 + κ.val, by have := coord0 t; omega⟩) := by
  unfold iblk bufV
  exact read2 c (V m c) t y κ

/-- Arrays' elements by their coordinates. -/
def realsOf (X : FVec Ideal S4x8192x8x96 .f32) (n : Fin 4) (s : Fin 8192) (h : Fin 8) (d : Fin 96) : ℝ := EReal.toReal (X (ix4 n s h d))
def valsOf (X : FVec Ideal S4x8192x8x64 .f32) (n : Fin 4) (s : Fin 8192) (h : Fin 8) (d : Fin 64) : EReal := X (ix4 n s h d)

/-- The queries and the keys are real numbers. -/
def FiniteQK (c : Dev nD) : Prop :=
  (∀ n s h d, (argQ m c (ix4 n s h d) : EReal) = (realsOf (argQ m c) n s h d : EReal))
    ∧ ∀ n s h d, (argK m c (ix4 n s h d) : EReal) = (realsOf (argK m c) n s h d : EReal)

/-- The result the kernel computes. -/
def result (c : Dev nD) : FVec Ideal S4x8192x512 .f32 := fun y =>
  att (realsOf (argQ m c)) (realsOf (argK m c)) (valsOf (argV m c)) (y 0) (y 1)
    ⟨(y 2).val / 64, by have : (y 2).val < 512 := (y 2).isLt; omega⟩ ⟨(y 2).val % 64, by omega⟩

/-- Over a head's padded lanes, a key's row times a query's: their product, scaled. -/
theorem lanes_sum (c : Dev nD) (hr : FiniteQK m c) (n : Fin 4) (h : Fin 8) (r κ : Fin 8192) (f : Fin 128 → Fin 1024) (hf : ∀ d, (f d).val = h.val * 128 + d.val) :
    (∑ d : Fin 128, (bufK m c (ix3 n κ (f d)) * bufQ m c (ix3 n r (f d)) : EReal))
      = ((score (realsOf (argQ m c)) (realsOf (argK m c)) n h r κ.val * (1 / Real.log 2) : ℝ) : EReal) := by
  have e : ∀ d : Fin 128, (bufK m c (ix3 n κ (f d)) * bufQ m c (ix3 n r (f d)) : EReal)
      = if hd : d.val < 96 then ((realsOf (argQ m c) n r h (perm ⟨d.val, hd⟩) * realsOf (argK m c) n κ h (perm ⟨d.val, hd⟩) * (1 / Real.log 2) : ℝ) : EReal) else 0 := fun d => by
    have h1 : (f d).val % 128 = d.val := by have := hf d; omega
    have h2 : (⟨(f d).val / 128, by omega⟩ : Fin 8) = h := Fin.ext (by have := hf d; simp only []; omega)
    rw [hostK, hostQ]
    simp only [h1, h2]
    split
    · rw [hr.1, hr.2, ← EReal.coe_mul, ← EReal.coe_mul]
      exact congrArg _ (by ring)
    · exact zero_mul _
  rw [Finset.sum_congr rfl fun d _ => e d]
  refine (Fin.sum_univ_add (a := 96) (b := 32) _).trans ?_
  rw [Finset.sum_eq_zero (s := (Finset.univ : Finset (Fin 32))) fun d _ => dif_neg (by rw [Fin.val_natAdd]; omega), add_zero, score_fin, Finset.sum_mul, ← sum_coe]
  refine (Finset.sum_congr rfl fun d _ => dif_pos (show (Fin.castAdd 32 d).val < 96 from d.isLt)).trans ?_
  exact perm_bij.sum_comp fun d => ((realsOf (argQ m c) n r h d * realsOf (argK m c) n κ h d * (1 / Real.log 2) : ℝ) : EReal)

theorem emb3 (t : Fin cfg0.N) (r : Fin 8192) (y : Fin 128) :
    (win0_3.blk t).view.emb (ix3 0 r y : S1x8192x128.Idx)
      = (ix3 ⟨(grid0.coords t 0).val, coord0 t⟩ r ⟨(grid0.coords t 1).val * 128 + y.val, by have := coord1 t; omega⟩ : S4x8192x512.Idx) := by
  blk_ext [index3]

/-- One point's block of the result. -/
theorem block_apply (c : Dev nD) (hr : FiniteQK m c) (t : Fin cfg0.N) (Q K : Vec Ideal S1x8192x256 .bf16) (V : Vec Ideal S128x8192 .bf16)
    (hQ : ∀ (r : Fin 8192) (l : Fin 256), Q (ix3 0 r l)
      = bufQ m c (ix3 ⟨(grid0.coords t 0).val, coord0 t⟩ r ⟨(grid0.coords t 1).val * 256 + l.val, by have := coord1 t; omega⟩))
    (hK : ∀ (r : Fin 8192) (l : Fin 256), K (ix3 0 r l)
      = bufK m c (ix3 ⟨(grid0.coords t 0).val, coord0 t⟩ r ⟨(grid0.coords t 1).val * 256 + l.val, by have := coord1 t; omega⟩))
    (hV : ∀ (y : Fin 128) (κ : Fin 8192), V (ix2 y κ)
      = bufV m c (ix2 ⟨(grid0.coords t 1).val * 128 + y.val, by have := coord1 t; omega⟩ ⟨(grid0.coords t 0).val * 8192 + κ.val, by have := coord0 t; omega⟩))
    (r : Fin 8192) (y : Fin 128) :
    (outAll Q K V (ix3 0 r y) : EReal)
      = result m c (ix3 ⟨(grid0.coords t 0).val, coord0 t⟩ r ⟨(grid0.coords t 1).val * 128 + y.val, by have := coord1 t; omega⟩) := by
  have c0 := coord0 t
  have c1 := coord1 t
  show (outAll Q K V (ix3 0 r y) : EReal) = att (realsOf (argQ m c)) (realsOf (argK m c)) (valsOf (argV m c)) ⟨(grid0.coords t 0).val, c0⟩ r
    ⟨((grid0.coords t 1).val * 128 + y.val) / 64, by omega⟩ ⟨((grid0.coords t 1).val * 128 + y.val) % 64, by omega⟩
  unfold att
  refine outAll_apply Q K V r y _ _ (fun κ => ?_) (fun κ => ?_)
  · simp only [hQ, hK]
    refine lanes_sum m c hr ⟨(grid0.coords t 0).val, c0⟩ ⟨((grid0.coords t 1).val * 128 + y.val) / 64, by omega⟩ r κ
      (fun d => ⟨(grid0.coords t 1).val * 256 + (y.val / 64 * 128 + d.val), by omega⟩) fun d => ?_
    simp only []
    omega
  · rw [hV, hostV, value_fin]
    refine congrArg (argV m c) (funext fun a => Fin.ext ?_)
    match a with
    | ⟨0, _⟩ => show ((grid0.coords t 0).val * 8192 + κ.val) / 8192 = _; simp only [ix4]; omega
    | ⟨1, _⟩ => show ((grid0.coords t 0).val * 8192 + κ.val) % 8192 = κ.val; omega
    | ⟨2, _⟩ => rfl
    | ⟨3, _⟩ => rfl

/-- The result array, from its blocks. -/
theorem final_out (c : Dev nD) (hr : FiniteQK m c) : (dats m 0 c).arrAt 3 cfg0.N = result m c := by
  refine (dats m 0 c).arrAt_eq_of_covers 3 _ (by decide +kernel) fun t hf y => ?_
  blk_simp
  rw [after0_3]
  have hy : y = (ix3 0 (y 1) (y 2) : S1x8192x128.Idx) := by
    funext a
    match a with
    | ⟨0, _⟩ => exact Fin.ext (Nat.lt_one_iff.mp (y 0).isLt)
    | ⟨1, _⟩ => rfl
    | ⟨2, _⟩ => rfl
  rw [hy]
  exact (block_apply m c hr t _ _ _ (blkQ m c t) (blkK m c t) (blkV m c t) (y 1) (y 2)).trans (congrArg (result m c) (emb3 t (y 1) (y 2)).symm)

end Cert.Mla

end
-- ==== Proof.MlaRef.lean ====
/- The reference attention, element by element. -/
module

public import proofs.«01_k».proof.Proof.Gen.ReferenceIdeal.Run
public import proofs.«01_k».proof.Proof.MlaSpec
public import Idealize.ShloMosaic.Lib.Pointwise

@[expose] public section

noncomputable section

namespace Cert.Mla.Ref

open Cert.ReferenceIdeal Cert.ReferenceIdeal.Gen
open Idealize.ShloMosaic
open Finset (range)

variable (Q K : FVec Ideal S4x8192x8x96 .f32) (V : FVec Ideal S4x8192x8x64 .f32)

def scores : FVec Ideal S4x8x8192x8192 .f32 :=
  Host.dotGeneral dot_S4x8192x8x96_S4x8192x8x96_S4x8x8192x8192_3_3_1_1_02_02 none Q K

def maxima : FVec Ideal S4x8x8192 .f32 :=
  maximumf (broadcastInDim S4x8x8192 ![] bcast_S_S4x8x8192 (constant S_ .f32 0xFF800000#32))
    (Host.reduce FloatOps.maximumf (scores Q K) (constant S_ .f32 0xFF800000#32) reducesTo_S4x8x8192x8192_S4x8x8192_d3 h_S_)

/-- A number per query, at each of its keys. -/
def over (x : FVec Ideal S4x8x8192 .f32) : FVec Ideal S4x8x8192x8192 .f32 :=
  broadcastInDim S4x8x8192x8192 ![0, 1, 2, 3] bcast_S4x8x8192x1_S4x8x8192x8192_0_1_2_3 (broadcastInDim S4x8x8192x1 ![0, 1, 2] bcast_S4x8x8192_S4x8x8192x1_0_1_2 x)

def weights : FVec Ideal S4x8x8192x8192 .f32 := Host.exp (subf (scores Q K) (over (maxima Q K)))

def total : FVec Ideal S4x8x8192 .f32 :=
  Host.reduceAdd (weights Q K) (constant S_ .f32 0x00000000#32) reducesTo_S4x8x8192x8192_S4x8x8192_d3 h_S_

def out : FVec Ideal S4x8192x512 .f32 :=
  shapeCast _ (transpose S4x8192x8x64 [0, 3, 1, 2] (Host.dotGeneral dot_S4x8192x8x64_S4x8x8192x8192_S4x8x64x8192_1_3_3_2_02_01 none V
    (Host.divf (weights Q K) (over (total Q K)))) transposes_S4x8x64x8192_S4x8192x8x64_0_3_1_2) shapeCasts_S4x8192x8x64_S4x8192x512

theorem scores_apply (n : Fin 4) (h : Fin 8) (r κ : Fin 8192) :
    (scores Q K (ix4 n h r κ) : EReal) = ∑ d : Fin 96, Q (ix4 n r h d) * K (ix4 n κ h d) := by
  pointwise [scores]

theorem reduce_apply (x : FVec Ideal S4x8x8192x8192 .f32) (i : FVec Ideal S_ .f32) (n : Fin 4) (h : Fin 8) (r : Fin 8192) :
    Host.reduce FloatOps.maximumf x i reducesTo_S4x8x8192x8192_S4x8x8192_d3 h_S_ (ix3 n h r)
      = Finset.fold FloatOps.maximumf (i (Shape.Idx.first h_S_)) (fun κ : Fin 8192 => x (ix4 n h r κ)) Finset.univ := by
  pointwise

theorem maximumf_apply (a b : FVec Ideal S4x8x8192 .f32) (j : S4x8x8192.Idx) : (maximumf a b j : EReal) = max (a j : EReal) (b j) := rfl

theorem negInf : (Ideal.ofBits .f32 0xFF800000#32 : EReal) = ⊥ := by simp [Ideal.ofBits, Ideal.ieee]

/-- The largest of some real numbers is one. -/
theorem fold_real {ι : Type} [DecidableEq ι] (f : ι → Ideal .f32) (b : Ideal .f32) (s : ι → ℝ) (hf : ∀ i, (f i : EReal) = (s i : EReal)) (hb : (b : EReal) = ⊥)
    (S : Finset ι) : ((Finset.fold (β := Ideal .f32) FloatOps.maximumf b f S : EReal) = ⊥ ∧ S = ∅) ∨ ∃ M : ℝ, (Finset.fold (β := Ideal .f32) FloatOps.maximumf b f S : EReal) = (M : EReal) := by
  induction S using Finset.induction_on with
  | empty => exact Or.inl ⟨by rw [Finset.fold_empty]; exact hb, rfl⟩
  | insert i S hi ih =>
    rw [Finset.fold_insert hi]
    refine Or.inr ?_
    show ∃ M : ℝ, max (f i : EReal) (Finset.fold (β := Ideal .f32) FloatOps.maximumf b f S) = (M : EReal)
    rcases ih with ⟨h, -⟩ | ⟨M, h⟩
    · exact ⟨s i, by rw [h, hf]; exact max_eq_left bot_le⟩
    · exact ⟨max (s i) M, by rw [h, hf]; exact (EReal.coe_strictMono.monotone.map_max).symm⟩

theorem maxima_real (s : Fin 8192 → ℝ) (n : Fin 4) (h : Fin 8) (r : Fin 8192)
    (hs : ∀ κ, (scores Q K (ix4 n h r κ) : EReal) = (s κ : EReal)) : ∃ M : ℝ, (maxima Q K (ix3 n h r) : EReal) = M := by
  unfold maxima
  rw [maximumf_apply, reduce_apply]
  rcases fold_real (fun κ : Fin 8192 => scores Q K (ix4 n h r κ)) (constant S_ .f32 0xFF800000#32 (Shape.Idx.first h_S_)) s hs negInf Finset.univ with
    ⟨-, h⟩ | ⟨M, h⟩
  · exact absurd h (Finset.univ_nonempty (α := Fin 8192)).ne_empty
  · refine ⟨M, ?_⟩
    rw [h]
    exact max_eq_right (le_of_eq_of_le negInf bot_le)

theorem over_apply (x : FVec Ideal S4x8x8192 .f32) (n : Fin 4) (h : Fin 8) (r κ : Fin 8192) :
    over x (ix4 n h r κ) = x (ix3 n h r) := by
  pointwise [over]

theorem weights_apply (n : Fin 4) (h : Fin 8) (r κ : Fin 8192) :
    (weights Q K (ix4 n h r κ) : EReal) = Ideal.exp (scores Q K (ix4 n h r κ) - maxima Q K (ix3 n h r)) := by
  pointwise [weights, over]

theorem total_apply (n : Fin 4) (h : Fin 8) (r : Fin 8192) :
    (total Q K (ix3 n h r) : EReal) = ∑ κ : Fin 8192, weights Q K (ix4 n h r κ) := by
  pointwise [total]

theorem out_apply (n : Fin 4) (r : Fin 8192) (c : Fin 512) :
    (out Q K V (ix3 n r c) : EReal) = ∑ κ : Fin 8192, V (ix4 n κ ⟨c.val / 64, by omega⟩ ⟨c.val % 64, by omega⟩)
      * Ideal.div (weights Q K (ix4 n ⟨c.val / 64, by omega⟩ r κ)) (total Q K (ix3 n ⟨c.val / 64, by omega⟩ r)) := by
  pointwise [out, over]

/-- An array's elements by their coordinates, as real numbers. -/
def reals (X : FVec Ideal S4x8192x8x96 .f32) (n : Fin 4) (s : Fin 8192) (h : Fin 8) (d : Fin 96) : ℝ := EReal.toReal (X (ix4 n s h d))

def vals (X : FVec Ideal S4x8192x8x64 .f32) (n : Fin 4) (s : Fin 8192) (h : Fin 8) (d : Fin 64) : EReal := X (ix4 n s h d)

theorem scores_real (hQ : ∀ n s h d, (Q (ix4 n s h d) : EReal) = (reals Q n s h d : EReal)) (hK : ∀ n s h d, (K (ix4 n s h d) : EReal) = (reals K n s h d : EReal))
    (n : Fin 4) (h : Fin 8) (r κ : Fin 8192) :
    (scores Q K (ix4 n h r κ) : EReal) = (score (reals Q) (reals K) n h r κ.val : EReal) := by
  rw [scores_apply, score_fin, ← sum_coe]
  refine Finset.sum_congr rfl fun d _ => ?_
  rw [hQ, hK, EReal.coe_mul]

/-- The reference's result is the attention. -/
theorem out_att (hQ : ∀ n s h d, (Q (ix4 n s h d) : EReal) = (reals Q n s h d : EReal)) (hK : ∀ n s h d, (K (ix4 n s h d) : EReal) = (reals K n s h d : EReal))
    (n : Fin 4) (r : Fin 8192) (c : Fin 512) :
    (out Q K V (ix3 n r c) : EReal) = att (reals Q) (reals K) (vals V) n r ⟨c.val / 64, by omega⟩ ⟨c.val % 64, by omega⟩ := by
  set h : Fin 8 := ⟨c.val / 64, by omega⟩
  obtain ⟨M, hM⟩ := maxima_real Q K (fun κ => score (reals Q) (reals K) n h r κ.val) n h r (scores_real Q K hQ hK n h r)
  have hw : ∀ κ : Fin 8192, (weights Q K (ix4 n h r κ) : EReal) = ((Real.exp (score (reals Q) (reals K) n h r κ.val - M) : ℝ) : EReal) := fun κ => by
    rw [weights_apply, scores_real Q K hQ hK, hM, ← EReal.coe_sub, Ideal.exp_coe]
  have ht : (total Q K (ix3 n h r) : EReal) = ((∑ κ ∈ range 8192, Real.exp (score (reals Q) (reals K) n h r κ - M) : ℝ) : EReal) := by
    rw [total_apply, Finset.sum_range, ← sum_coe]
    exact Finset.sum_congr rfl fun κ _ => hw κ
  have hp : (∑ κ ∈ range 8192, Real.exp (score (reals Q) (reals K) n h r κ - M)) ≠ 0 :=
    (Finset.sum_pos (fun κ _ => Real.exp_pos _) ⟨0, by simp⟩).ne'
  rw [out_apply, att, Finset.sum_range]
  refine Finset.sum_congr rfl fun κ _ => ?_
  show (V (ix4 n κ h ⟨c.val % 64, _⟩) : EReal) * Ideal.div (weights Q K (ix4 n h r κ)) (total Q K (ix3 n h r)) = _
  rw [hw, ht, Ideal.div_coe hp, ← EReal.coe_mul, value_fin, ← soft_shift (range 8192) _ M, mul_one_div]
  rfl

end Cert.Mla.Ref

end
-- ==== Proof.MlaPre.lean ====
/- What the precondition says: the queries and the keys are real numbers. -/
module

public import proofs.«01_k».proof.Pre_finite_qk
public import proofs.«01_k».proof.Proof.Gen.Pre_finite_qk
public import Idealize.ShloMosaic.Lib.ReduceAll
public import Idealize.ShloMosaic.Lib.Affine
public import Idealize.ShloMosaic.Lib.Pointwise

@[expose] public section

noncomputable section

namespace Cert.Mla.Pre

open Cert.Pre_finite_qk Cert.Pre_finite_qk.Gen
open Idealize.ShloMosaic

theorem posInf : (Ideal.ofBits .f32 0x7F800000#32 : EReal) = ⊤ := by simp [Ideal.ofBits, Ideal.ieee]

theorem real_of_below {x : EReal} (h : Ideal.cmp .olt (max x (-x)) (Ideal.ofBits .f32 0x7F800000#32) = 1#1) : x = (x.toReal : EReal) := by
  rw [posInf] at h
  have h1 : max x (-x) < ⊤ := by
    by_contra hc
    simp [Ideal.cmp, hc] at h
  have h2 := max_lt_iff.mp h1
  refine (EReal.coe_toReal h2.1.ne fun hb => ?_).symm
  rw [hb] at h2
  exact absurd h2.2 (by simp)

theorem finite_qk (X Y : FVec Ideal S4x8192x8x96 .f32) (Z : FVec Ideal S4x8192x8x64 .f32) (h : fn (F := Ideal) X Y Z = fun _ => 1#1) :
    (∀ i, (X i : EReal) = (EReal.toReal (X i) : EReal)) ∧ ∀ i, (Y i : EReal) = (EReal.toReal (Y i) : EReal) := by
  have h0 := congrFun h ix0
  dsimp only [fn] at h0
  obtain ⟨h1, h2⟩ := IntOp.andi_eq_one.mp h0
  exact ⟨fun i => real_of_below (Host.reduce_andi_all _ _ _ _ _ h1 i), fun i => real_of_below (Host.reduce_andi_all _ _ _ _ _ h2 i)⟩

end Cert.Mla.Pre

end
-- ==== Proof.MlaClaim.lean ====
/- The attention's claims: its frames, and the kernel's result against the reference's. -/
module

public import proofs.«01_k».proof.Defs
public import proofs.«01_k».proof.Proof.Gen.Kernel
public import proofs.«01_k».proof.Proof.MlaFinal
public import proofs.«01_k».proof.Proof.MlaRef
public import proofs.«01_k».proof.Proof.MlaPre

@[expose] public section

noncomputable section

namespace Cert.Mla

open Idealize.ShloMosaic Idealize.SL.Sem

section
variable {F : FTy → Type} [FloatOps F]
open Cert.Kernel.Gen Cert.KernelIdeal.Gen

/-- The kernel's bodies are its idealization's, whose text is its own. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem defs_eq : Cert.Kernel.defs (F := F) = Cert.KernelIdeal.defs (F := F) := by
  unfold Cert.Kernel.defs Cert.KernelIdeal.defs
  exact congrArg (Pipeline.defs Cert.KernelIdeal.pcfgs) bodies_eq
end

/-- The kernel's frame, from the run of its idealization. -/
theorem frame_kernel : Cert.quiescent_Kernel := fun m ρ _ => by
  rw [defs_eq]
  exact run_frame (F := Bits) m ρ

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run m ρ)

section
open Cert.KernelIdeal Cert.KernelIdeal.Gen

/-- The kernel's run, its result the attention of its arguments. -/
theorem run_value (m : (ℓ : Loc nD τ sig) → Buf (Elt Ideal) ℓ) (ρ : Dev nD → PrngReg) (hr : ∀ c, FiniteQK m c) :
    θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h.1 c, h.2.1 c⟩)
    (θ_run_and (Q₁ := fun r => ∀ c : Dev nD, r.2.mem ((c.tc : Thread nD τ).loc main_v23) = result m c)
      ((θ_run defs _ _).mono (fun _ h c => (Pipeline.FramePost.out_eq h.1 c 3).trans (final_out m c (hr c))) (run_main m ρ)) (run_frame m ρ))
end

theorem attention : Cert.algebraic_KernelIdeal_ReferenceIdeal_pre_finite_qk := fun m ρ m' ρ' hpre heq => by
  have hr : ∀ c, FiniteQK m c := fun c => by
    obtain ⟨h1, h2⟩ := Pre.finite_qk _ _ _ (hpre c)
    exact ⟨fun n s h d => h1 (ix4 n s h d), fun n s h d => h2 (ix4 n s h d)⟩
  refine ⟨fun c => result m c, run_value m ρ hr, (θ_run _ _ _).mono (fun r h c => ⟨(h c).1.trans ?_, (h c).2⟩) (Cert.ReferenceIdeal.Value.run m' ρ')⟩
  rw [(heq c).1, (heq c).2.1, (heq c).2.2]
  funext y
  have hy : y = (ix3 (y 0) (y 1) (y 2) : Cert.KernelIdeal.S4x8192x512.Idx) := by
    funext a
    match a with
    | ⟨0, _⟩ => rfl
    | ⟨1, _⟩ => rfl
    | ⟨2, _⟩ => rfl
  rw [hy]
  exact Ref.out_att (argQ m c) (argK m c) (argV m c) (hr c).1 (hr c).2 (y 0) (y 1) (y 2)

end Cert.Mla

end
-- ==== Proof.PostSpec.lean ====
/- The second half of the layer, one token's row at a time: the attentions' outputs normalized, projected and added; the
   memory attended to; the squared-relu MLP. -/
module

public import Idealize.ShloMosaic.Lib.Pointwise

@[expose] public section

noncomputable section

namespace Cert.Post

open Idealize.ShloMosaic

def eps : EReal := Ideal.ofBits .f32 0x358637BD#32

/-- A row over the root of its mean square, times a gain; `c` is one over the row's length. -/
def rms {n : ℕ} (c : EReal) (x g : Fin n → EReal) (i : Fin n) : EReal :=
  x i * Ideal.rsqrt ((∑ j, x j * x j) * c + eps) * g i

def score (q : Fin 128 → EReal) (K : Fin 256 → Fin 128 → EReal) (κ : Fin 256) : EReal := ∑ d, q d * K κ d

def top (q : Fin 128 → EReal) (K : Fin 256 → Fin 128 → EReal) : EReal :=
  Finset.fold max (Ideal.ofBits .f32 0xFF800000#32) (score q K) Finset.univ

def weight (q : Fin 128 → EReal) (K : Fin 256 → Fin 128 → EReal) (κ : Fin 256) : EReal := Ideal.exp (score q K κ - top q K)

/-- One head's attention to the memory: the softmax of its query's scores, times the values. -/
def attend (q : Fin 128 → EReal) (K V : Fin 256 → Fin 128 → EReal) (d : Fin 128) : EReal :=
  ∑ κ, Ideal.div (weight q K κ) (∑ κ', weight q K κ') * V κ d

/-- The lane `d` of head `h`. -/
def lane (h : Fin 4) (d : Fin 128) : Fin 512 := ⟨h.val * 128 + d.val, by omega⟩

def c512 : EReal := Ideal.ofBits .f32 0x3B000000#32
def c1024 : EReal := Ideal.ofBits .f32 0x3A800000#32
def c128 : EReal := Ideal.ofBits .f32 0x3C000000#32

/-- A layer's weights from the attentions' outputs on, and a batch entry's keys and values. -/
structure Weights where
  ga : Fin 512 → EReal
  gb : Fin 512 → EReal
  wa : Fin 512 → Fin 1024 → EReal
  wb : Fin 512 → Fin 1024 → EReal
  gmem : Fin 1024 → EReal
  wq : Fin 1024 → Fin 512 → EReal
  gq : Fin 128 → EReal
  k : Fin 256 → Fin 512 → EReal
  v : Fin 256 → Fin 512 → EReal
  wo : Fin 512 → Fin 1024 → EReal
  gffn : Fin 1024 → EReal
  w1 : Fin 1024 → Fin 4096 → EReal
  w2 : Fin 4096 → Fin 1024 → EReal

variable (w : Weights) (x : Fin 1024 → EReal) (oa ob : Fin 512 → EReal)

/-- The attentions' outputs added. -/
def mixed (j : Fin 1024) : EReal :=
  x j + (∑ i, rms c512 oa w.ga i * w.wa i j) + ∑ i, rms c512 ob w.gb i * w.wb i j

def queries (y : Fin 1024 → EReal) (l : Fin 512) : EReal := ∑ i, rms c1024 y w.gmem i * w.wq i l

def head (y : Fin 1024 → EReal) (h : Fin 4) : Fin 128 → EReal :=
  attend (rms c128 (fun d => queries w y (lane h d)) w.gq) (fun κ d => w.k κ (lane h d)) fun κ d => w.v κ (lane h d)

def heads (y : Fin 1024 → EReal) (l : Fin 512) : EReal := head w y ⟨l.val / 128, by omega⟩ ⟨l.val % 128, by omega⟩

/-- The memory's attention added. -/
def recalled (y : Fin 1024 → EReal) (j : Fin 1024) : EReal := y j + ∑ l, heads w y l * w.wo l j

def hidden (z : Fin 1024 → EReal) (f : Fin 4096) : EReal := max (∑ i, rms c1024 z w.gffn i * w.w1 i f) 0

/-- The MLP added. -/
def fed (z : Fin 1024 → EReal) (j : Fin 1024) : EReal := z j + ∑ f, hidden w z f * hidden w z f * w.w2 f j

def row : Fin 1024 → EReal := fed w (recalled w (mixed w x oa ob))

/-- A sum over the MLP's lanes, a quarter of them at a time. -/
theorem sum_quarters (g : Fin 4096 → EReal) :
    ∑ f, g f = (∑ f : Fin 1024, g ⟨f.val, by omega⟩) + (∑ f : Fin 1024, g ⟨1024 + f.val, by omega⟩)
      + (∑ f : Fin 1024, g ⟨2048 + f.val, by omega⟩) + ∑ f : Fin 1024, g ⟨3072 + f.val, by omega⟩ := by
  rw [show ∑ f, g f = ∑ f : Fin (3072 + 1024), g f from rfl, Fin.sum_univ_add,
    show ∑ f : Fin 3072, g (Fin.castAdd 1024 f) = ∑ f : Fin (2048 + 1024), g (Fin.castAdd 1024 f) from rfl, Fin.sum_univ_add,
    show ∑ f : Fin 2048, g (Fin.castAdd 1024 (Fin.castAdd 1024 f)) = ∑ f : Fin (1024 + 1024), g (Fin.castAdd 1024 (Fin.castAdd 1024 f)) from rfl,
    Fin.sum_univ_add]
  rfl

/-- A sum over the joined outputs' lanes, a half of them at a time. -/
theorem sum_halves (g : Fin 1024 → EReal) :
    ∑ f, g f = (∑ f : Fin 512, g ⟨f.val, by omega⟩) + ∑ f : Fin 512, g ⟨512 + f.val, by omega⟩ := by
  rw [show ∑ f, g f = ∑ f : Fin (512 + 512), g f from rfl, Fin.sum_univ_add]
  rfl

end Cert.Post

end
-- ==== Proof.PostTile.lean ====
/- What a tile of the second half's kernel computes, element by element. -/
module

public import proofs.«01_k».proof.Proof.Gen.Kernel2Ideal.Value
public import proofs.«01_k».proof.Proof.PostSpec
public import Idealize.ShloMosaic.Lib.Pointwise

@[expose] public section

noncomputable section

namespace Cert.Post

open Cert.Kernel2Ideal Cert.Kernel2Ideal.Gen
open Idealize.ShloMosaic

theorem normA (x : Vec Ideal S1x512x512 .f32) (g : Vec Ideal S1x512 .f32) (r j : Fin 512) :
    (k0_pay2 x g (ix2 r j) : EReal) = rms c512 (fun i => x (ix3 0 r i)) (fun i => g (ix2 0 i)) j := by
  pointwise [k0_pay2]
  rfl

theorem normB (x : Vec Ideal S1x512x512 .f32) (g : Vec Ideal S1x512 .f32) (r j : Fin 512) :
    (k0_pay3 x g (ix2 r j) : EReal) = rms c512 (fun i => x (ix3 0 r i)) (fun i => g (ix2 0 i)) j := by
  pointwise [k0_pay3]
  rfl

theorem plane (x : Vec Ideal S1x512x1024 .f32) (r : Fin 512) (j : Fin 1024) : (k0_pay4 x (ix2 r j) : EReal) = x (ix3 0 r j) := by
  pointwise [k0_pay4]

theorem mixed_tile (a b : FVec Ideal S512x512 .bf16) (x : FVec Ideal S512x1024 .f32) (wa wb : Vec Ideal S512x1024 .bf16) (r : Fin 512) (j : Fin 1024) :
    (k0_pay5 a b x wa wb (ix2 r j) : EReal) = x (ix2 r j) + (∑ i : Fin 512, a (ix2 r i) * wa (ix2 i j)) + ∑ i : Fin 512, b (ix2 r i) * wb (ix2 i j) := by
  pointwise [k0_pay5]

theorem queries_tile (a b : FVec Ideal S512x512 .bf16) (x : FVec Ideal S512x1024 .f32) (wa wb : Vec Ideal S512x1024 .bf16) (g : Vec Ideal S1x1024 .f32)
    (wq : Vec Ideal S1024x512 .bf16) (r l : Fin 512) :
    (k0_pay6 a b x wa wb g wq (ix2 r l) : EReal)
      = ∑ i : Fin 1024, rms c1024 (fun j => k0_pay5 a b x wa wb (ix2 r j)) (fun j => g (ix2 0 j)) i * wq (ix2 i l) := by
  pointwise [k0_pay6]
  rfl

theorem query0 (a b : FVec Ideal S512x512 .bf16) (x : FVec Ideal S512x1024 .f32) (wa wb : Vec Ideal S512x1024 .bf16) (g : Vec Ideal S1x1024 .f32)
    (wq : Vec Ideal S1024x512 .bf16) (gq : Vec Ideal S1x128 .f32) (r : Fin 512) (d : Fin 128) :
    (k0_pay7 a b x wa wb g wq gq (ix2 r d) : EReal)
      = rms c128 (fun e => k0_pay6 a b x wa wb g wq (ix2 r (lane 0 e))) (fun e => gq (ix2 0 e)) d := by
  have e : ∀ d : Fin 128, lane 0 d = ⟨d.val, by omega⟩ := fun d => Fin.ext (Nat.zero_add _)
  simp only [e]
  pointwise [k0_pay7]
  rfl

theorem head0 (q : FVec Ideal S512x128 .bf16) (k v : Vec Ideal S1x256x128 .bf16) (r : Fin 512) (d : Fin 128) :
    (k0_pay8 q k v (ix2 r d) : EReal) = attend (fun e => q (ix2 r e)) (fun κ e => k (ix3 0 κ e)) (fun κ e => v (ix3 0 κ e)) d := by
  pointwise [k0_pay8]
  rfl

theorem weight1 (q : FVec Ideal S512x512 .f32) (gq : Vec Ideal S1x128 .f32) (k : Vec Ideal S1x256x128 .bf16) (r : Fin 512) (κ : Fin 256) :
    (k0_pay9 q gq k (ix2 r κ) : EReal)
      = weight (rms c128 (fun e => q (ix2 r (lane 1 e))) (fun e => gq (ix2 0 e))) (fun κ e => k (ix3 0 κ e)) κ := by
  pointwise [k0_pay9]
  rfl

theorem head1 (p : FVec Ideal S512x256 .f32) (v : Vec Ideal S1x256x128 .bf16) (r : Fin 512) (d : Fin 128) :
    (k0_pay10 p v (ix2 r d) : EReal) = ∑ κ : Fin 256, Ideal.div (p (ix2 r κ)) (∑ κ' : Fin 256, (p (ix2 r κ') : EReal)) * v (ix3 0 κ d) := by
  pointwise [k0_pay10]

theorem head2 (q : FVec Ideal S512x512 .f32) (gq : Vec Ideal S1x128 .f32) (k v : Vec Ideal S1x256x128 .bf16) (r : Fin 512) (d : Fin 128) :
    (k0_pay11 q gq k v (ix2 r d) : EReal)
      = attend (rms c128 (fun e => q (ix2 r (lane 2 e))) (fun e => gq (ix2 0 e))) (fun κ e => k (ix3 0 κ e)) (fun κ e => v (ix3 0 κ e)) d := by
  pointwise [k0_pay11]
  rfl

/-- The heads side by side. -/
def joined (a b c d : FVec Ideal S512x128 .bf16) : FVec Ideal S512x512 .bf16 :=
  concatenate S512x512 1 [⟨S512x128, a⟩, ⟨S512x128, b⟩, ⟨S512x128, c⟩, ⟨S512x128, d⟩] concatenates_S512x128_S512x128_S512x128_S512x128_S512x512_d1

theorem joined_apply (a b c d : FVec Ideal S512x128 .bf16) (H : Fin 4 → Fin 128 → EReal) (r l : Fin 512) (ha : ∀ e, (a (ix2 r e) : EReal) = H 0 e)
    (hb : ∀ e, (b (ix2 r e) : EReal) = H 1 e) (hc : ∀ e, (c (ix2 r e) : EReal) = H 2 e) (hd : ∀ e, (d (ix2 r e) : EReal) = H 3 e) :
    (joined a b c d (ix2 r l) : EReal) = H ⟨l.val / 128, by omega⟩ ⟨l.val % 128, by omega⟩ := by
  pointwise [joined]
  have hl := l.isLt
  have hH : ∀ (n m : ℕ) (hn : n < 4) (hm : m < 128), n = l.val / 128 → m = l.val % 128 →
      H ⟨n, hn⟩ ⟨m, hm⟩ = H ⟨l.val / 128, by omega⟩ ⟨l.val % 128, by omega⟩ := by
    rintro n m hn hm rfl rfl
    rfl
  by_cases h0 : l.val < 128
  · rw [dif_pos h0]
    exact (ha _).trans (hH 0 l.val (by omega) (by omega) (by omega) (by omega))
  rw [dif_neg h0]
  by_cases h1 : l.val - 128 < 128
  · rw [dif_pos h1]
    exact (hb _).trans (hH 1 (l.val - 128) (by omega) (by omega) (by omega) (by omega))
  rw [dif_neg h1]
  by_cases h2 : l.val - 128 - 128 < 128
  · rw [dif_pos h2]
    exact (hc _).trans (hH 2 (l.val - 128 - 128) (by omega) (by omega) (by omega) (by omega))
  rw [dif_neg h2]
  exact (hd _).trans (hH 3 (l.val - 128 - 128 - 128) (by omega) (by omega) (by omega) (by omega))

/-- The last head's lanes of the queries, normalized. -/
def query3 (q : FVec Ideal S512x512 .f32) (gq : Vec Ideal S1x128 .f32) : FVec Ideal S512x128 .bf16 :=
  have u : FVec Ideal S512x128 .f32 := extractStridedSlice S512x128 ![0, 384] q slices_S512x512_o0_384_S512x128
  have s : FVec Ideal S512x1 .f32 := shapeCast S512x1 (multiReduction .add [1] S512 (mulf u u) 0x00000000#32 reduces_S512x128_S512 (.inl rfl) rfl) shapeCasts_S512_S512x1
  have n : FVec Ideal S512x1 .f32 := rsqrt (addf (mulf s (broadcast S512x1 (Scalar.ofBits .f32 0x3C000000#32))) (broadcast S512x1 (Scalar.ofBits .f32 0x358637BD#32)))
  truncf .bf16 (mulf (mulf u (broadcastTo S512x128 n broadcasts_S512x1_S512x128))
    (broadcastTo S512x128 (shapeCast S1x128 gq shapeCasts_S1x128_S1x128) broadcasts_S1x128_S512x128)) bitsLt_bf16_f32

theorem query3_apply (q : FVec Ideal S512x512 .f32) (gq : Vec Ideal S1x128 .f32) (r : Fin 512) (d : Fin 128) :
    (query3 q gq (ix2 r d) : EReal) = rms c128 (fun e => q (ix2 r (lane 3 e))) (fun e => gq (ix2 0 e)) d := by
  pointwise [query3]
  rfl

theorem recalled_eq (y : FVec Ideal S512x1024 .f32) (q : FVec Ideal S512x512 .f32) (a b : FVec Ideal S512x128 .bf16) (c : FVec Ideal S512x128 .f32) (gq : Vec Ideal S1x128 .f32)
    (k v : Vec Ideal S1x256x128 .bf16) (wo : Vec Ideal S512x1024 .bf16) :
    k0_pay12 y q a b c gq k v wo = addf y (matmul dot_S512x512_S512x1024_S512x1024_1_0_0_1_n_n none
      (joined a b (truncf .bf16 c bitsLt_bf16_f32) (k0_pay8 (query3 q gq) k v)) (shapeCast S512x1024 wo shapeCasts_S512x1024_S512x1024 : FVec Ideal S512x1024 .bf16)
      (constant S512x1024 .f32 0x00000000#32)) := rfl

theorem recalled_tile (y : FVec Ideal S512x1024 .f32) (q : FVec Ideal S512x512 .f32) (a b : FVec Ideal S512x128 .bf16) (c : FVec Ideal S512x128 .f32) (gq : Vec Ideal S1x128 .f32)
    (k v : Vec Ideal S1x256x128 .bf16) (wo : Vec Ideal S512x1024 .bf16) (r : Fin 512) (j : Fin 1024) :
    (k0_pay12 y q a b c gq k v wo (ix2 r j) : EReal)
      = y (ix2 r j) + ∑ l : Fin 512, joined a b (truncf .bf16 c bitsLt_bf16_f32) (k0_pay8 (query3 q gq) k v) (ix2 r l) * wo (ix2 l j) := by
  rw [recalled_eq]
  generalize joined a b (truncf .bf16 c bitsLt_bf16_f32) (k0_pay8 (query3 q gq) k v) = z
  pointwise

theorem square_tile (y : FVec Ideal S512x1024 .f32) (q : FVec Ideal S512x512 .f32) (a b : FVec Ideal S512x128 .bf16) (c : FVec Ideal S512x128 .f32) (gq : Vec Ideal S1x128 .f32)
    (k v : Vec Ideal S1x256x128 .bf16) (wo : Vec Ideal S512x1024 .bf16) (r : Fin 512) :
    (k0_pay13 y q a b c gq k v wo (ix1 r) : EReal) = ∑ j : Fin 1024, k0_pay12 y q a b c gq k v wo (ix2 r j) * k0_pay12 y q a b c gq k v wo (ix2 r j) := by
  pointwise [k0_pay13]

theorem ffn_norm (z : FVec Ideal S512x1024 .f32) (s : FVec Ideal S512 .f32) (g : Vec Ideal S1x1024 .f32) (r : Fin 512) (j : Fin 1024) :
    (k0_pay14 z s g (ix2 r j) : EReal) = z (ix2 r j) * Ideal.rsqrt (s (ix1 r) * c1024 + eps) * g (ix2 0 j) := by
  pointwise [k0_pay14]
  rfl

theorem half_tile (z : FVec Ideal S512x1024 .f32) (s : FVec Ideal S512 .f32) (g : Vec Ideal S1x1024 .f32) (u0 d0 u1 d1 : Vec Ideal S1024x1024 .bf16) (r : Fin 512) (j : Fin 1024) :
    (k0_pay15 z s g u0 d0 u1 d1 (ix2 r j) : EReal) = z (ix2 r j)
      + (∑ f : Fin 1024, max (∑ i : Fin 1024, (k0_pay14 z s g (ix2 r i) * u0 (ix2 i f) : EReal)) 0 * max (∑ i : Fin 1024, (k0_pay14 z s g (ix2 r i) * u0 (ix2 i f) : EReal)) 0 * d0 (ix2 f j))
      + ∑ f : Fin 1024, max (∑ i : Fin 1024, (k0_pay14 z s g (ix2 r i) * u1 (ix2 i f) : EReal)) 0 * max (∑ i : Fin 1024, (k0_pay14 z s g (ix2 r i) * u1 (ix2 i f) : EReal)) 0 * d1 (ix2 f j) := by
  pointwise [k0_pay15]

theorem third_tile (z : FVec Ideal S512x1024 .f32) (s : FVec Ideal S512 .f32) (g : Vec Ideal S1x1024 .f32) (u : Vec Ideal S1024x1024 .bf16) (r : Fin 512) (f : Fin 1024) :
    (k0_pay16 z s g u (ix2 r f) : EReal) = ∑ i : Fin 1024, k0_pay14 z s g (ix2 r i) * u (ix2 i f) := by
  pointwise [k0_pay16]

theorem last_tile (h : FVec Ideal S512x1024 .bf16) (y t : FVec Ideal S512x1024 .f32) (d2 u3 d3 : Vec Ideal S1024x1024 .bf16) (r : Fin 512) (j : Fin 1024) :
    (k0_pay1 h y t (Scalar.ofBits .f32 0x00000000#32) d2 u3 d3 (ix3 0 r j) : EReal) = y (ix2 r j)
      + (∑ f : Fin 1024, max (t (ix2 r f) : EReal) 0 * max (t (ix2 r f) : EReal) 0 * d2 (ix2 f j))
      + ∑ f : Fin 1024, max (∑ i : Fin 1024, (h (ix2 r i) * u3 (ix2 i f) : EReal)) 0 * max (∑ i : Fin 1024, (h (ix2 r i) * u3 (ix2 i f) : EReal)) 0 * d3 (ix2 f j) := by
  pointwise [k0_pay1]

/-! ## A row of a tile -/

variable (w : Weights) (x : Fin 1024 → EReal) (oa ob : Fin 512 → EReal) (y : Fin 1024 → EReal) (r : Fin 512)

theorem mixed_row (a b : FVec Ideal S512x512 .bf16) (X : FVec Ideal S512x1024 .f32) (wa wb : Vec Ideal S512x1024 .bf16)
    (ha : ∀ i, (a (ix2 r i) : EReal) = rms c512 oa w.ga i) (hb : ∀ i, (b (ix2 r i) : EReal) = rms c512 ob w.gb i) (hX : ∀ j, (X (ix2 r j) : EReal) = x j)
    (hwa : ∀ i j, (wa (ix2 i j) : EReal) = w.wa i j) (hwb : ∀ i j, (wb (ix2 i j) : EReal) = w.wb i j) (j : Fin 1024) :
    (k0_pay5 a b X wa wb (ix2 r j) : EReal) = mixed w x oa ob j := by
  rw [mixed_tile]
  simp only [ha, hb, hX, hwa, hwb]
  rfl

theorem queries_row (a b : FVec Ideal S512x512 .bf16) (X : FVec Ideal S512x1024 .f32) (wa wb : Vec Ideal S512x1024 .bf16) (g : Vec Ideal S1x1024 .f32)
    (wq : Vec Ideal S1024x512 .bf16) (hy : ∀ j, (k0_pay5 a b X wa wb (ix2 r j) : EReal) = y j) (hg : ∀ j, (g (ix2 0 j) : EReal) = w.gmem j)
    (hwq : ∀ i l, (wq (ix2 i l) : EReal) = w.wq i l) (l : Fin 512) : (k0_pay6 a b X wa wb g wq (ix2 r l) : EReal) = queries w y l := by
  rw [queries_tile]
  simp only [hy, hg, hwq]
  rfl

theorem head0_row (q : FVec Ideal S512x128 .bf16) (k v : Vec Ideal S1x256x128 .bf16) (h : Fin 4)
    (hq : ∀ d, (q (ix2 r d) : EReal) = rms c128 (fun e => queries w y (lane h e)) w.gq d)
    (hk : ∀ κ d, (k (ix3 0 κ d) : EReal) = w.k κ (lane h d)) (hv : ∀ κ d, (v (ix3 0 κ d) : EReal) = w.v κ (lane h d)) (d : Fin 128) :
    (k0_pay8 q k v (ix2 r d) : EReal) = head w y h d := by
  rw [head0]
  simp only [hq, hk, hv]
  rfl

theorem head1_row (q : FVec Ideal S512x512 .f32) (gq : Vec Ideal S1x128 .f32) (k v : Vec Ideal S1x256x128 .bf16)
    (hq : ∀ l, (q (ix2 r l) : EReal) = queries w y l) (hg : ∀ d, (gq (ix2 0 d) : EReal) = w.gq d)
    (hk : ∀ κ d, (k (ix3 0 κ d) : EReal) = w.k κ (lane 1 d)) (hv : ∀ κ d, (v (ix3 0 κ d) : EReal) = w.v κ (lane 1 d)) (d : Fin 128) :
    (k0_pay10 (k0_pay9 q gq k) v (ix2 r d) : EReal) = head w y 1 d := by
  rw [head1]
  simp only [weight1, hq, hg, hk, hv]
  rfl

theorem head2_row (q : FVec Ideal S512x512 .f32) (gq : Vec Ideal S1x128 .f32) (k v : Vec Ideal S1x256x128 .bf16)
    (hq : ∀ l, (q (ix2 r l) : EReal) = queries w y l) (hg : ∀ d, (gq (ix2 0 d) : EReal) = w.gq d)
    (hk : ∀ κ d, (k (ix3 0 κ d) : EReal) = w.k κ (lane 2 d)) (hv : ∀ κ d, (v (ix3 0 κ d) : EReal) = w.v κ (lane 2 d)) (d : Fin 128) :
    (k0_pay11 q gq k v (ix2 r d) : EReal) = head w y 2 d := by
  rw [head2]
  simp only [hq, hg, hk, hv]
  rfl

theorem recalled_row (Y : FVec Ideal S512x1024 .f32) (q : FVec Ideal S512x512 .f32) (a b : FVec Ideal S512x128 .bf16) (c : FVec Ideal S512x128 .f32) (gq : Vec Ideal S1x128 .f32)
    (k v : Vec Ideal S1x256x128 .bf16) (wo : Vec Ideal S512x1024 .bf16) (hY : ∀ j, (Y (ix2 r j) : EReal) = y j)
    (ha : ∀ d, (a (ix2 r d) : EReal) = head w y 0 d) (hb : ∀ d, (b (ix2 r d) : EReal) = head w y 1 d) (hc : ∀ d, (c (ix2 r d) : EReal) = head w y 2 d)
    (hq : ∀ l, (q (ix2 r l) : EReal) = queries w y l) (hg : ∀ d, (gq (ix2 0 d) : EReal) = w.gq d)
    (hk : ∀ κ d, (k (ix3 0 κ d) : EReal) = w.k κ (lane 3 d)) (hv : ∀ κ d, (v (ix3 0 κ d) : EReal) = w.v κ (lane 3 d))
    (hwo : ∀ l j, (wo (ix2 l j) : EReal) = w.wo l j) (j : Fin 1024) :
    (k0_pay12 Y q a b c gq k v wo (ix2 r j) : EReal) = recalled w y j := by
  rw [recalled_tile]
  have hd : ∀ d, (k0_pay8 (query3 q gq) k v (ix2 r d) : EReal) = head w y 3 d :=
    head0_row w y r (query3 q gq) k v 3 (fun d => by rw [query3_apply]; simp only [hq, hg]) hk hv
  have hj : ∀ l, (joined a b (truncf .bf16 c bitsLt_bf16_f32) (k0_pay8 (query3 q gq) k v) (ix2 r l) : EReal) = heads w y l := fun l =>
    joined_apply a b _ _ (head w y) r l ha hb hc hd
  simp only [hj, hwo, hY]
  rfl

theorem normed_row (z : Fin 1024 → EReal) (Z : FVec Ideal S512x1024 .f32) (s : FVec Ideal S512 .f32) (g : Vec Ideal S1x1024 .f32) (hZ : ∀ j, (Z (ix2 r j) : EReal) = z j)
    (hs : (s (ix1 r) : EReal) = ∑ j, z j * z j) (hg : ∀ j, (g (ix2 0 j) : EReal) = w.gffn j) (j : Fin 1024) :
    (k0_pay14 Z s g (ix2 r j) : EReal) = rms c1024 z w.gffn j := by
  rw [ffn_norm, hZ, hs, hg]
  rfl

theorem fed_row (z : Fin 1024 → EReal) (Z : FVec Ideal S512x1024 .f32) (s : FVec Ideal S512 .f32) (g : Vec Ideal S1x1024 .f32) (u0 d0 u1 d1 u2 d2 u3 d3 : Vec Ideal S1024x1024 .bf16)
    (hZ : ∀ j, (Z (ix2 r j) : EReal) = z j) (hs : (s (ix1 r) : EReal) = ∑ j, z j * z j) (hg : ∀ j, (g (ix2 0 j) : EReal) = w.gffn j)
    (hu0 : ∀ i f : Fin 1024, (u0 (ix2 i f) : EReal) = w.w1 i ⟨f.val, by omega⟩) (hd0 : ∀ f j : Fin 1024, (d0 (ix2 f j) : EReal) = w.w2 ⟨f.val, by omega⟩ j)
    (hu1 : ∀ i f : Fin 1024, (u1 (ix2 i f) : EReal) = w.w1 i ⟨1024 + f.val, by omega⟩) (hd1 : ∀ f j : Fin 1024, (d1 (ix2 f j) : EReal) = w.w2 ⟨1024 + f.val, by omega⟩ j)
    (hu2 : ∀ i f : Fin 1024, (u2 (ix2 i f) : EReal) = w.w1 i ⟨2048 + f.val, by omega⟩) (hd2 : ∀ f j : Fin 1024, (d2 (ix2 f j) : EReal) = w.w2 ⟨2048 + f.val, by omega⟩ j)
    (hu3 : ∀ i f : Fin 1024, (u3 (ix2 i f) : EReal) = w.w1 i ⟨3072 + f.val, by omega⟩) (hd3 : ∀ f j : Fin 1024, (d3 (ix2 f j) : EReal) = w.w2 ⟨3072 + f.val, by omega⟩ j)
    (j : Fin 1024) :
    (k0_pay1 (k0_pay14 Z s g) (k0_pay15 Z s g u0 d0 u1 d1) (k0_pay16 Z s g u2) (Scalar.ofBits .f32 0x00000000#32) d2 u3 d3 (ix3 0 r j) : EReal) = fed w z j := by
  rw [last_tile, half_tile]
  simp only [third_tile, normed_row w r z Z s g hZ hs hg, hZ, hu0, hd0, hu1, hd1, hu2, hd2, hu3, hd3]
  rw [fed, sum_quarters, ← add_assoc, ← add_assoc, ← add_assoc]
  rfl

end Cert.Post

end
-- ==== Proof.PostBlock.lean ====
/- A tile of the second half's kernel: its rows, from the blocks it is handed. -/
module

public import proofs.«01_k».proof.Proof.PostTile
public import Idealize.ShloMosaic.Lib.Pipeline.ValueKit

@[expose] public section

noncomputable section

namespace Cert.Post

open Cert.Kernel2Ideal Cert.Kernel2Ideal.Gen
open Idealize.ShloMosaic

theorem zero2 : (![0, 0] : Fin 2 → Nat) = fun _ => 0 := funext fun a => by fin_cases a <;> rfl
theorem zero3 : (![0, 0, 0] : Fin 3 → Nat) = fun _ => 0 := funext fun a => by fin_cases a <;> rfl

theorem whole0 {e : EltTy} (x : Vec Ideal S1x512x512 e) : View.ld x r0_0 = x := View.ld_unit_zero zero3 _ x

theorem whole1 {e : EltTy} (x : Vec Ideal S1x512 e) : View.ld x r0_1 = x := View.ld_unit_zero zero2 _ x

theorem whole2 {e : EltTy} (x : Vec Ideal S1x512x1024 e) : View.ld x r0_2 = x := View.ld_unit_zero zero3 _ x

theorem whole3 {e : EltTy} (x : Vec Ideal S512x1024 e) : View.ld x r0_3 = x := View.ld_unit_zero zero2 _ x

theorem whole4 {e : EltTy} (x : Vec Ideal S1x1024 e) : View.ld x r0_4 = x := View.ld_unit_zero zero2 _ x

theorem whole5 {e : EltTy} (x : Vec Ideal S1024x512 e) : View.ld x r0_5 = x := View.ld_unit_zero zero2 _ x

theorem whole6 {e : EltTy} (x : Vec Ideal S1x128 e) : View.ld x r0_6 = x := View.ld_unit_zero zero2 _ x

theorem lanes0 (x : Vec Ideal S1x256x512 .bf16) (κ : Fin 256) (d : Fin 128) :
    (View.ld x r0_7 : Vec Ideal S1x256x128 .bf16) (ix3 0 κ d) = x (ix3 0 κ (lane 0 d)) := by
  refine congrArg x (funext fun a => Fin.ext ?_)
  match a with
  | ⟨0, _⟩ => rfl
  | ⟨1, _⟩ => simp [ix3]
  | ⟨2, _⟩ => simp [ix3, lane]

theorem lanes1 (x : Vec Ideal S1x256x512 .bf16) (κ : Fin 256) (d : Fin 128) :
    (View.ld x r0_8 : Vec Ideal S1x256x128 .bf16) (ix3 0 κ d) = x (ix3 0 κ (lane 1 d)) := by
  refine congrArg x (funext fun a => Fin.ext ?_)
  match a with
  | ⟨0, _⟩ => rfl
  | ⟨1, _⟩ => simp [ix3]
  | ⟨2, _⟩ => simp [ix3, lane]

theorem lanes2 (x : Vec Ideal S1x256x512 .bf16) (κ : Fin 256) (d : Fin 128) :
    (View.ld x r0_9 : Vec Ideal S1x256x128 .bf16) (ix3 0 κ d) = x (ix3 0 κ (lane 2 d)) := by
  refine congrArg x (funext fun a => Fin.ext ?_)
  match a with
  | ⟨0, _⟩ => rfl
  | ⟨1, _⟩ => simp [ix3]
  | ⟨2, _⟩ => simp [ix3, lane]

theorem lanes3 (x : Vec Ideal S1x256x512 .bf16) (κ : Fin 256) (d : Fin 128) :
    (View.ld x r0_10 : Vec Ideal S1x256x128 .bf16) (ix3 0 κ d) = x (ix3 0 κ (lane 3 d)) := by
  refine congrArg x (funext fun a => Fin.ext ?_)
  match a with
  | ⟨0, _⟩ => rfl
  | ⟨1, _⟩ => simp [ix3]
  | ⟨2, _⟩ => simp [ix3, lane]

theorem up0 (x : Vec Ideal S1024x4096 .bf16) (i f : Fin 1024) :
    (View.ld x r0_11 : Vec Ideal S1024x1024 .bf16) (ix2 i f) = x (ix2 i ⟨f.val, by omega⟩) := by
  refine congrArg x (funext fun a => Fin.ext ?_)
  match a with
  | ⟨0, _⟩ => simp [ix2]
  | ⟨1, _⟩ => simp [ix2]

theorem down0 (x : Vec Ideal S4096x1024 .bf16) (f j : Fin 1024) :
    (View.ld x r0_12 : Vec Ideal S1024x1024 .bf16) (ix2 f j) = x (ix2 ⟨f.val, by omega⟩ j) := by
  refine congrArg x (funext fun a => Fin.ext ?_)
  match a with
  | ⟨0, _⟩ => simp [ix2]
  | ⟨1, _⟩ => simp [ix2]

theorem up1 (x : Vec Ideal S1024x4096 .bf16) (i f : Fin 1024) :
    (View.ld x r0_13 : Vec Ideal S1024x1024 .bf16) (ix2 i f) = x (ix2 i ⟨1024 + f.val, by omega⟩) := by
  refine congrArg x (funext fun a => Fin.ext ?_)
  match a with
  | ⟨0, _⟩ => simp [ix2]
  | ⟨1, _⟩ => simp [ix2]

theorem down1 (x : Vec Ideal S4096x1024 .bf16) (f j : Fin 1024) :
    (View.ld x r0_14 : Vec Ideal S1024x1024 .bf16) (ix2 f j) = x (ix2 ⟨1024 + f.val, by omega⟩ j) := by
  refine congrArg x (funext fun a => Fin.ext ?_)
  match a with
  | ⟨0, _⟩ => simp [ix2]
  | ⟨1, _⟩ => simp [ix2]

theorem up2 (x : Vec Ideal S1024x4096 .bf16) (i f : Fin 1024) :
    (View.ld x r0_15 : Vec Ideal S1024x1024 .bf16) (ix2 i f) = x (ix2 i ⟨2048 + f.val, by omega⟩) := by
  refine congrArg x (funext fun a => Fin.ext ?_)
  match a with
  | ⟨0, _⟩ => simp [ix2]
  | ⟨1, _⟩ => simp [ix2]

theorem down2 (x : Vec Ideal S4096x1024 .bf16) (f j : Fin 1024) :
    (View.ld x r0_16 : Vec Ideal S1024x1024 .bf16) (ix2 f j) = x (ix2 ⟨2048 + f.val, by omega⟩ j) := by
  refine congrArg x (funext fun a => Fin.ext ?_)
  match a with
  | ⟨0, _⟩ => simp [ix2]
  | ⟨1, _⟩ => simp [ix2]

theorem up3 (x : Vec Ideal S1024x4096 .bf16) (i f : Fin 1024) :
    (View.ld x r0_17 : Vec Ideal S1024x1024 .bf16) (ix2 i f) = x (ix2 i ⟨3072 + f.val, by omega⟩) := by
  refine congrArg x (funext fun a => Fin.ext ?_)
  match a with
  | ⟨0, _⟩ => simp [ix2]
  | ⟨1, _⟩ => simp [ix2]

theorem down3 (x : Vec Ideal S4096x1024 .bf16) (f j : Fin 1024) :
    (View.ld x r0_18 : Vec Ideal S1024x1024 .bf16) (ix2 f j) = x (ix2 ⟨3072 + f.val, by omega⟩ j) := by
  refine congrArg x (funext fun a => Fin.ext ?_)
  match a with
  | ⟨0, _⟩ => simp [ix2]
  | ⟨1, _⟩ => simp [ix2]

/-- The weights a tile is handed. -/
def blockWeights (x3 : Vec Ideal S1x512 .f32) (x4 : Vec Ideal S1x512 .f32) (x5 : Vec Ideal S512x1024 .bf16) (x6 : Vec Ideal S512x1024 .bf16) (x7 : Vec Ideal S1x1024 .f32) (x8 : Vec Ideal S1024x512 .bf16) (x9 : Vec Ideal S1x128 .f32) (x10 : Vec Ideal S1x256x512 .bf16) (x11 : Vec Ideal S1x256x512 .bf16) (x12 : Vec Ideal S512x1024 .bf16) (x13 : Vec Ideal S1x1024 .f32) (x14 : Vec Ideal S1024x4096 .bf16) (x15 : Vec Ideal S4096x1024 .bf16) : Weights where
  ga i := x3 (ix2 0 i)
  gb i := x4 (ix2 0 i)
  wa i j := x5 (ix2 i j)
  wb i j := x6 (ix2 i j)
  gmem i := x7 (ix2 0 i)
  wq i l := x8 (ix2 i l)
  gq d := x9 (ix2 0 d)
  k κ l := x10 (ix3 0 κ l)
  v κ l := x11 (ix3 0 κ l)
  wo l j := x12 (ix2 l j)
  gffn i := x13 (ix2 0 i)
  w1 i f := x14 (ix2 i f)
  w2 f j := x15 (ix2 f j)

variable (x0 : Vec Ideal S1x512x1024 .f32) (x1 : Vec Ideal S1x512x512 .f32) (x2 : Vec Ideal S1x512x512 .f32) (x3 : Vec Ideal S1x512 .f32) (x4 : Vec Ideal S1x512 .f32) (x5 : Vec Ideal S512x1024 .bf16) (x6 : Vec Ideal S512x1024 .bf16) (x7 : Vec Ideal S1x1024 .f32) (x8 : Vec Ideal S1024x512 .bf16) (x9 : Vec Ideal S1x128 .f32) (x10 : Vec Ideal S1x256x512 .bf16) (x11 : Vec Ideal S1x256x512 .bf16) (x12 : Vec Ideal S512x1024 .bf16) (x13 : Vec Ideal S1x1024 .f32) (x14 : Vec Ideal S1024x4096 .bf16) (x15 : Vec Ideal S4096x1024 .bf16)

theorem tile (r : Fin 512) (j : Fin 1024) : (out0_16 x0 x1 x2 x3 x4 x5 x6 x7 x8 x9 x10 x11 x12 x13 x14 x15 (ix3 0 r j) : EReal)
    = row (blockWeights x3 x4 x5 x6 x7 x8 x9 x10 x11 x12 x13 x14 x15) (fun j => x0 (ix3 0 r j)) (fun i => x1 (ix3 0 r i)) (fun i => x2 (ix3 0 r i)) j := by
  unfold out0_16
  rw [View.canon_unit_zero zero3]
  set w := blockWeights x3 x4 x5 x6 x7 x8 x9 x10 x11 x12 x13 x14 x15
  have h20 : ∀ j, (k0_pay20 x0 x1 x2 x3 x4 x5 x6 x7 x8 x9 x10 x11 x12 x13 x14 x15 (ix2 r j) : EReal) = mixed w (fun j => x0 (ix3 0 r j)) (fun i => x1 (ix3 0 r i)) (fun i => x2 (ix3 0 r i)) j := by
    unfold k0_pay20 k0_pay17 k0_pay18 k0_pay19
    rw [whole0, whole0, whole1, whole1, whole2, whole3, whole3]
    exact mixed_row w _ _ _ r _ _ _ _ _ (normA x1 x3 r) (normB x2 x4 r) (plane x0 r) (fun _ _ => rfl) (fun _ _ => rfl)
  show _ = fed w (recalled w (mixed w (fun j => x0 (ix3 0 r j)) (fun i => x1 (ix3 0 r i)) (fun i => x2 (ix3 0 r i)))) j
  generalize mixed w (fun j => x0 (ix3 0 r j)) (fun i => x1 (ix3 0 r i)) (fun i => x2 (ix3 0 r i)) = y at h20 ⊢
  have h21 : ∀ l, (k0_pay21 x0 x1 x2 x3 x4 x5 x6 x7 x8 x9 x10 x11 x12 x13 x14 x15 (ix2 r l) : EReal) = queries w y l := by
    unfold k0_pay21
    rw [whole3, whole3, whole4, whole5]
    exact queries_row w y r _ _ _ _ _ _ _ (fun j => by rw [← h20]; unfold k0_pay20; rw [whole3, whole3]) (fun _ => rfl) (fun _ _ => rfl)
  have h22 : ∀ d, (k0_pay22 x0 x1 x2 x3 x4 x5 x6 x7 x8 x9 x10 x11 x12 x13 x14 x15 (ix2 r d) : EReal) = head w y 0 d := by
    unfold k0_pay22
    rw [whole3, whole3, whole4, whole5, whole6]
    refine head0_row w y r _ _ _ 0 (fun d => ?_) (lanes0 x10) (lanes0 x11)
    rw [query0]
    refine congrArg (fun q => rms c128 q w.gq d) (funext fun e => ?_)
    rw [← h21]
    unfold k0_pay21
    rw [whole3, whole3, whole4, whole5]
  have h23 : ∀ d, (k0_pay23 x0 x1 x2 x3 x4 x5 x6 x7 x8 x9 x10 x11 x12 x13 x14 x15 (ix2 r d) : EReal) = head w y 1 d := by
    unfold k0_pay23
    rw [whole6]
    exact head1_row w y r _ _ _ _ h21 (fun _ => rfl) (lanes1 x10) (lanes1 x11)
  have h24 : ∀ d, (k0_pay24 x0 x1 x2 x3 x4 x5 x6 x7 x8 x9 x10 x11 x12 x13 x14 x15 (ix2 r d) : EReal) = head w y 2 d := by
    unfold k0_pay24
    rw [whole6]
    exact head2_row w y r _ _ _ _ h21 (fun _ => rfl) (lanes2 x10) (lanes2 x11)
  have h25 : ∀ j, (k0_pay25 x0 x1 x2 x3 x4 x5 x6 x7 x8 x9 x10 x11 x12 x13 x14 x15 (ix2 r j) : EReal) = recalled w y j := by
    unfold k0_pay25
    rw [whole3, whole6]
    exact recalled_row w y r _ _ _ _ _ _ _ _ _ h20 h22 h23 h24 h21 (fun _ => rfl) (lanes3 x10) (lanes3 x11) (fun _ _ => rfl)
  have h26 : (k0_pay26 x0 x1 x2 x3 x4 x5 x6 x7 x8 x9 x10 x11 x12 x13 x14 x15 (ix1 r) : EReal) = ∑ j, recalled w y j * recalled w y j := by
    unfold k0_pay26
    rw [square_tile]
    refine Finset.sum_congr rfl fun j _ => ?_
    have e := h25 j
    unfold k0_pay25 at e
    rw [e]
  rw [whole4]
  exact fed_row w r (recalled w y) _ _ _ _ _ _ _ _ _ _ _ h25 h26 (fun _ => rfl) (up0 x14) (down0 x15) (up1 x14) (down1 x15) (up2 x14) (down2 x15)
    (up3 x14) (down3 x15) j

end Cert.Post

end
-- ==== Proof.PostFinal.lean ====
/- The second half's result array, from the launch's arguments. -/
module

public import proofs.«01_k».proof.Proof.PostBlock
public import proofs.«01_k».proof.Proof.Gen.Kernel2Ideal.Value
public import Idealize.ShloMosaic.Lib.Claim
public import Idealize.ShloMosaic.Lib.Pointwise
public import Idealize.ShloMosaic.Lib.Pipeline.ValueKit

@[expose] public section

noncomputable section

namespace Cert.Post

open Cert.Kernel2Ideal Cert.Kernel2Ideal.Gen
open Idealize.ShloMosaic Idealize.ShloMosaic.TcCoe

variable (m : (ℓ : Loc nD τ sig) → Buf (Elt Ideal) ℓ) (c : Dev nD)

def arg0 : FVec Ideal S4x8192x1024 .f32 := m ((c.tc : Thread nD τ).loc main_arg0)
def arg1 : FVec Ideal S4x8192x512 .f32 := m ((c.tc : Thread nD τ).loc main_arg1)
def arg2 : FVec Ideal S4x8192x512 .f32 := m ((c.tc : Thread nD τ).loc main_arg2)
def arg3 : FVec Ideal S4x256x4x128 .f32 := m ((c.tc : Thread nD τ).loc main_arg3)
def arg4 : FVec Ideal S4x256x4x128 .f32 := m ((c.tc : Thread nD τ).loc main_arg4)
def arg5 : FVec Ideal S512 .f32 := m ((c.tc : Thread nD τ).loc main_arg5)
def arg6 : FVec Ideal S512 .f32 := m ((c.tc : Thread nD τ).loc main_arg6)
def arg7 : FVec Ideal S1024x1024 .f32 := m ((c.tc : Thread nD τ).loc main_arg7)
def arg8 : FVec Ideal S1024 .f32 := m ((c.tc : Thread nD τ).loc main_arg8)
def arg9 : FVec Ideal S1024x512 .f32 := m ((c.tc : Thread nD τ).loc main_arg9)
def arg10 : FVec Ideal S128 .f32 := m ((c.tc : Thread nD τ).loc main_arg10)
def arg11 : FVec Ideal S512x1024 .f32 := m ((c.tc : Thread nD τ).loc main_arg11)
def arg12 : FVec Ideal S1024 .f32 := m ((c.tc : Thread nD τ).loc main_arg12)
def arg13 : FVec Ideal S1024x4096 .f32 := m ((c.tc : Thread nD τ).loc main_arg13)
def arg14 : FVec Ideal S4096x1024 .f32 := m ((c.tc : Thread nD τ).loc main_arg14)

/-- The weights and the keys and values of batch entry `n`. -/
def argWeights (n : Fin 4) : Weights where
  ga i := arg5 m c (ix1 i)
  gb i := arg6 m c (ix1 i)
  wa i j := arg7 m c (ix2 ⟨i.val, by omega⟩ j)
  wb i j := arg7 m c (ix2 ⟨512 + i.val, by omega⟩ j)
  gmem i := arg8 m c (ix1 i)
  wq i l := arg9 m c (ix2 i l)
  gq d := arg10 m c (ix1 d) * Ideal.ofBits .f32 0x3DB504F3#32
  k κ l := arg3 m c (ix4 n κ ⟨l.val / 128, by omega⟩ ⟨l.val % 128, by omega⟩)
  v κ l := arg4 m c (ix4 n κ ⟨l.val / 128, by omega⟩ ⟨l.val % 128, by omega⟩)
  wo l j := arg11 m c (ix2 l j)
  gffn i := arg12 m c (ix1 i)
  w1 i f := arg13 m c (ix2 i f)
  w2 f j := arg14 m c (ix2 f j)

/-- The result the kernel computes. -/
def result : FVec Ideal S4x8192x1024 .f32 := fun y =>
  row (argWeights m c (y 0)) (fun j => arg0 m c (ix3 (y 0) (y 1) j)) (fun i => arg1 m c (ix3 (y 0) (y 1) i)) (fun i => arg2 m c (ix3 (y 0) (y 1) i)) (y 2)

/-! ## The launch's operands -/

theorem host3 (i : Fin 512) : ((V m c main_v0 : FVec Ideal S1x512 .f32) (ix2 0 i) : EReal) = arg5 m c (ix1 i) := by
  simp only [V, hostOps0]
  entry_read
  pointwise
  rfl

theorem host4 (i : Fin 512) : ((V m c main_v1 : FVec Ideal S1x512 .f32) (ix2 0 i) : EReal) = arg6 m c (ix1 i) := by
  simp only [V, hostOps0]
  entry_read
  pointwise
  rfl

theorem host5 (i : Fin 512) (j : Fin 1024) : ((V m c main_v3 : FVec Ideal S512x1024 .bf16) (ix2 i j) : EReal) = arg7 m c (ix2 ⟨i.val, by omega⟩ j) := by
  simp only [V, hostOps0]
  entry_read
  pointwise
  rfl

theorem host6 (i : Fin 512) (j : Fin 1024) : ((V m c main_v5 : FVec Ideal S512x1024 .bf16) (ix2 i j) : EReal) = arg7 m c (ix2 ⟨512 + i.val, by omega⟩ j) := by
  simp only [V, hostOps0]
  entry_read
  pointwise
  rfl

theorem host7 (i : Fin 1024) : ((V m c main_v6 : FVec Ideal S1x1024 .f32) (ix2 0 i) : EReal) = arg8 m c (ix1 i) := by
  simp only [V, hostOps0]
  entry_read
  pointwise
  rfl

theorem host8 (i : Fin 1024) (l : Fin 512) : ((V m c main_v7 : FVec Ideal S1024x512 .bf16) (ix2 i l) : EReal) = arg9 m c (ix2 i l) := by
  simp only [V, hostOps0]
  entry_read
  pointwise
  rfl

theorem host9 (d : Fin 128) : ((V m c main_v10 : FVec Ideal S1x128 .f32) (ix2 0 d) : EReal) = arg10 m c (ix1 d) * Ideal.ofBits .f32 0x3DB504F3#32 := by
  simp only [V, hostOps0]
  entry_read
  pointwise
  rfl

theorem host10 (n : Fin 4) (κ : Fin 256) (l : Fin 512) : ((V m c main_v16 : FVec Ideal S4x256x512 .bf16) (ix3 n κ l) : EReal) = arg3 m c (ix4 n κ ⟨l.val / 128, by omega⟩ ⟨l.val % 128, by omega⟩) := by
  simp only [V, hostOps0]
  entry_read
  pointwise
  rfl

theorem host11 (n : Fin 4) (κ : Fin 256) (l : Fin 512) : ((V m c main_v18 : FVec Ideal S4x256x512 .bf16) (ix3 n κ l) : EReal) = arg4 m c (ix4 n κ ⟨l.val / 128, by omega⟩ ⟨l.val % 128, by omega⟩) := by
  simp only [V, hostOps0]
  entry_read
  pointwise
  rfl

theorem host12 (l : Fin 512) (j : Fin 1024) : ((V m c main_v11 : FVec Ideal S512x1024 .bf16) (ix2 l j) : EReal) = arg11 m c (ix2 l j) := by
  simp only [V, hostOps0]
  entry_read
  pointwise
  rfl

theorem host13 (i : Fin 1024) : ((V m c main_v12 : FVec Ideal S1x1024 .f32) (ix2 0 i) : EReal) = arg12 m c (ix1 i) := by
  simp only [V, hostOps0]
  entry_read
  pointwise
  rfl

theorem host14 (i : Fin 1024) (f : Fin 4096) : ((V m c main_v13 : FVec Ideal S1024x4096 .bf16) (ix2 i f) : EReal) = arg13 m c (ix2 i f) := by
  simp only [V, hostOps0]
  entry_read
  pointwise
  rfl

theorem host15 (f : Fin 4096) (j : Fin 1024) : ((V m c main_v14 : FVec Ideal S4096x1024 .bf16) (ix2 f j) : EReal) = arg14 m c (ix2 f j) := by
  simp only [V, hostOps0]
  entry_read
  pointwise
  rfl

/-! ## The blocks -/

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![(grid0.coords t 0).val, (grid0.coords t 1).val, 0] :=
  (by decide +kernel : ∀ t : Fin grid0.N, _)
theorem index2 : ∀ t : Fin cfg0.N, win0_2.index t = ![(grid0.coords t 0).val, (grid0.coords t 1).val, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![(grid0.coords t 0).val, 0, 0] :=
  (by decide +kernel : ∀ t : Fin grid0.N, _)
theorem index11 : ∀ t : Fin cfg0.N, win0_11.index t = ![(grid0.coords t 0).val, 0, 0] :=
  (by decide +kernel : ∀ t : Fin grid0.N, _)
theorem index12 : ∀ t : Fin cfg0.N, win0_12.index t = ![0, 0] :=
  (by decide +kernel : ∀ t : Fin grid0.N, _)
theorem index13 : ∀ t : Fin cfg0.N, win0_13.index t = ![0, 0] :=
  (by decide +kernel : ∀ t : Fin grid0.N, _)
theorem index14 : ∀ t : Fin cfg0.N, win0_14.index t = ![0, 0] :=
  (by decide +kernel : ∀ t : Fin grid0.N, _)
theorem index15 : ∀ t : Fin cfg0.N, win0_15.index t = ![0, 0] :=
  (by decide +kernel : ∀ t : Fin grid0.N, _)
theorem index16 : ∀ t : Fin cfg0.N, win0_16.index t = ![(grid0.coords t 0).val, (grid0.coords t 1).val, 0] :=
  (by decide +kernel : ∀ t : Fin grid0.N, _)

theorem coord0 (t : Fin cfg0.N) : (grid0.coords t 0).val < 4 := (grid0.coords t 0).isLt
theorem coord1 (t : Fin cfg0.N) : (grid0.coords t 1).val < 16 := (grid0.coords t 1).isLt

/-- A point's batch entry, and its row `r`'s token. -/
def batch (t : Fin cfg0.N) : Fin 4 := ⟨(grid0.coords t 0).val, coord0 t⟩
def token (t : Fin cfg0.N) (r : Fin 512) : Fin 8192 := ⟨(grid0.coords t 1).val * 512 + r.val, by have := coord1 t; omega⟩

theorem read0 (W : (b : Ref sig .tc) → Buf (Elt Ideal) ((c : Thread nD τ).loc b)) (t : Fin cfg0.N) (r : Fin 512) (j : Fin 1024) :
    (((cfg0.win 0).blk t).view.read (Elt Ideal) (W (Pipeline.arrRef spec0 0)) : Vec Ideal S1x512x1024 .f32) (ix3 0 r j) = (W main_arg0 : Vec Ideal S4x8192x1024 .f32) (ix3 (batch t) (token t r) j) := by
  blk_simp
  refine congrArg (W main_arg0) ?_
  blk_ext [index0, batch, token]

theorem blk0 (t : Fin cfg0.N) (r : Fin 512) (j : Fin 1024) : (iblk m c 0 t : Vec Ideal S1x512x1024 .f32) (ix3 0 r j) = arg0 m c (ix3 (batch t) (token t r) j) := by
  unfold iblk
  rw [read0 c (V m c) t r j, V_main_arg0]
  rfl

theorem read1 (W : (b : Ref sig .tc) → Buf (Elt Ideal) ((c : Thread nD τ).loc b)) (t : Fin cfg0.N) (r : Fin 512) (j : Fin 512) :
    (((cfg0.win 1).blk t).view.read (Elt Ideal) (W (Pipeline.arrRef spec0 1)) : Vec Ideal S1x512x512 .f32) (ix3 0 r j) = (W main_arg1 : Vec Ideal S4x8192x512 .f32) (ix3 (batch t) (token t r) j) := by
  blk_simp
  refine congrArg (W main_arg1) ?_
  blk_ext [index1, batch, token]

theorem blk1 (t : Fin cfg0.N) (r : Fin 512) (j : Fin 512) : (iblk m c 1 t : Vec Ideal S1x512x512 .f32) (ix3 0 r j) = arg1 m c (ix3 (batch t) (token t r) j) := by
  unfold iblk
  rw [read1 c (V m c) t r j, V_main_arg1]
  rfl

theorem read2 (W : (b : Ref sig .tc) → Buf (Elt Ideal) ((c : Thread nD τ).loc b)) (t : Fin cfg0.N) (r : Fin 512) (j : Fin 512) :
    (((cfg0.win 2).blk t).view.read (Elt Ideal) (W (Pipeline.arrRef spec0 2)) : Vec Ideal S1x512x512 .f32) (ix3 0 r j) = (W main_arg2 : Vec Ideal S4x8192x512 .f32) (ix3 (batch t) (token t r) j) := by
  blk_simp
  refine congrArg (W main_arg2) ?_
  blk_ext [index2, batch, token]

theorem blk2 (t : Fin cfg0.N) (r : Fin 512) (j : Fin 512) : (iblk m c 2 t : Vec Ideal S1x512x512 .f32) (ix3 0 r j) = arg2 m c (ix3 (batch t) (token t r) j) := by
  unfold iblk
  rw [read2 c (V m c) t r j, V_main_arg2]
  rfl

theorem read3 (W : (b : Ref sig .tc) → Buf (Elt Ideal) ((c : Thread nD τ).loc b)) (t : Fin cfg0.N) (i : Fin 512) :
    (((cfg0.win 3).blk t).view.read (Elt Ideal) (W (Pipeline.arrRef spec0 3)) : Vec Ideal S1x512 .f32) (ix2 0 i) = (W main_v0 : Vec Ideal S1x512 .f32) (ix2 0 i) := by
  blk_simp
  refine congrArg (W main_v0) ?_
  blk_ext [index3]

theorem blk3 (t : Fin cfg0.N) (i : Fin 512) : ((iblk m c 3 t : Vec Ideal S1x512 .f32) (ix2 0 i) : EReal) = arg5 m c (ix1 i) := by
  unfold iblk
  exact (read3 c (V m c) t i).trans (host3 m c i)

theorem read4 (W : (b : Ref sig .tc) → Buf (Elt Ideal) ((c : Thread nD τ).loc b)) (t : Fin cfg0.N) (i : Fin 512) :
    (((cfg0.win 4).blk t).view.read (Elt Ideal) (W (Pipeline.arrRef spec0 4)) : Vec Ideal S1x512 .f32) (ix2 0 i) = (W main_v1 : Vec Ideal S1x512 .f32) (ix2 0 i) := by
  blk_simp
  refine congrArg (W main_v1) ?_
  blk_ext [index4]

theorem blk4 (t : Fin cfg0.N) (i : Fin 512) : ((iblk m c 4 t : Vec Ideal S1x512 .f32) (ix2 0 i) : EReal) = arg6 m c (ix1 i) := by
  unfold iblk
  exact (read4 c (V m c) t i).trans (host4 m c i)

theorem read5 (W : (b : Ref sig .tc) → Buf (Elt Ideal) ((c : Thread nD τ).loc b)) (t : Fin cfg0.N) (i : Fin 512) (j : Fin 1024) :
    (((cfg0.win 5).blk t).view.read (Elt Ideal) (W (Pipeline.arrRef spec0 5)) : Vec Ideal S512x1024 .bf16) (ix2 i j) = (W main_v3 : Vec Ideal S512x1024 .bf16) (ix2 i j) := by
  blk_simp
  refine congrArg (W main_v3) ?_
  blk_ext [index5]

theorem blk5 (t : Fin cfg0.N) (i : Fin 512) (j : Fin 1024) : ((iblk m c 5 t : Vec Ideal S512x1024 .bf16) (ix2 i j) : EReal) = arg7 m c (ix2 ⟨i.val, by omega⟩ j) := by
  unfold iblk
  exact (read5 c (V m c) t i j).trans (host5 m c i j)

theorem read6 (W : (b : Ref sig .tc) → Buf (Elt Ideal) ((c : Thread nD τ).loc b)) (t : Fin cfg0.N) (i : Fin 512) (j : Fin 1024) :
    (((cfg0.win 6).blk t).view.read (Elt Ideal) (W (Pipeline.arrRef spec0 6)) : Vec Ideal S512x1024 .bf16) (ix2 i j) = (W main_v5 : Vec Ideal S512x1024 .bf16) (ix2 i j) := by
  blk_simp
  refine congrArg (W main_v5) ?_
  blk_ext [index6]

theorem blk6 (t : Fin cfg0.N) (i : Fin 512) (j : Fin 1024) : ((iblk m c 6 t : Vec Ideal S512x1024 .bf16) (ix2 i j) : EReal) = arg7 m c (ix2 ⟨512 + i.val, by omega⟩ j) := by
  unfold iblk
  exact (read6 c (V m c) t i j).trans (host6 m c i j)

theorem read7 (W : (b : Ref sig .tc) → Buf (Elt Ideal) ((c : Thread nD τ).loc b)) (t : Fin cfg0.N) (i : Fin 1024) :
    (((cfg0.win 7).blk t).view.read (Elt Ideal) (W (Pipeline.arrRef spec0 7)) : Vec Ideal S1x1024 .f32) (ix2 0 i) = (W main_v6 : Vec Ideal S1x1024 .f32) (ix2 0 i) := by
  blk_simp
  refine congrArg (W main_v6) ?_
  blk_ext [index7]

theorem blk7 (t : Fin cfg0.N) (i : Fin 1024) : ((iblk m c 7 t : Vec Ideal S1x1024 .f32) (ix2 0 i) : EReal) = arg8 m c (ix1 i) := by
  unfold iblk
  exact (read7 c (V m c) t i).trans (host7 m c i)

theorem read8 (W : (b : Ref sig .tc) → Buf (Elt Ideal) ((c : Thread nD τ).loc b)) (t : Fin cfg0.N) (i : Fin 1024) (l : Fin 512) :
    (((cfg0.win 8).blk t).view.read (Elt Ideal) (W (Pipeline.arrRef spec0 8)) : Vec Ideal S1024x512 .bf16) (ix2 i l) = (W main_v7 : Vec Ideal S1024x512 .bf16) (ix2 i l) := by
  blk_simp
  refine congrArg (W main_v7) ?_
  blk_ext [index8]

theorem blk8 (t : Fin cfg0.N) (i : Fin 1024) (l : Fin 512) : ((iblk m c 8 t : Vec Ideal S1024x512 .bf16) (ix2 i l) : EReal) = arg9 m c (ix2 i l) := by
  unfold iblk
  exact (read8 c (V m c) t i l).trans (host8 m c i l)

theorem read9 (W : (b : Ref sig .tc) → Buf (Elt Ideal) ((c : Thread nD τ).loc b)) (t : Fin cfg0.N) (d : Fin 128) :
    (((cfg0.win 9).blk t).view.read (Elt Ideal) (W (Pipeline.arrRef spec0 9)) : Vec Ideal S1x128 .f32) (ix2 0 d) = (W main_v10 : Vec Ideal S1x128 .f32) (ix2 0 d) := by
  blk_simp
  refine congrArg (W main_v10) ?_
  blk_ext [index9]

theorem blk9 (t : Fin cfg0.N) (d : Fin 128) : ((iblk m c 9 t : Vec Ideal S1x128 .f32) (ix2 0 d) : EReal) = arg10 m c (ix1 d) * Ideal.ofBits .f32 0x3DB504F3#32 := by
  unfold iblk
  exact (read9 c (V m c) t d).trans (host9 m c d)

theorem read10 (W : (b : Ref sig .tc) → Buf (Elt Ideal) ((c : Thread nD τ).loc b)) (t : Fin cfg0.N) (κ : Fin 256) (l : Fin 512) :
    (((cfg0.win 10).blk t).view.read (Elt Ideal) (W (Pipeline.arrRef spec0 10)) : Vec Ideal S1x256x512 .bf16) (ix3 0 κ l) = (W main_v16 : Vec Ideal S4x256x512 .bf16) (ix3 (batch t) κ l) := by
  blk_simp
  refine congrArg (W main_v16) ?_
  blk_ext [index10, batch]

theorem blk10 (t : Fin cfg0.N) (κ : Fin 256) (l : Fin 512) : ((iblk m c 10 t : Vec Ideal S1x256x512 .bf16) (ix3 0 κ l) : EReal) = arg3 m c (ix4 (batch t) κ ⟨l.val / 128, by omega⟩ ⟨l.val % 128, by omega⟩) := by
  unfold iblk
  exact (read10 c (V m c) t κ l).trans (host10 m c (batch t) κ l)

theorem read11 (W : (b : Ref sig .tc) → Buf (Elt Ideal) ((c : Thread nD τ).loc b)) (t : Fin cfg0.N) (κ : Fin 256) (l : Fin 512) :
    (((cfg0.win 11).blk t).view.read (Elt Ideal) (W (Pipeline.arrRef spec0 11)) : Vec Ideal S1x256x512 .bf16) (ix3 0 κ l) = (W main_v18 : Vec Ideal S4x256x512 .bf16) (ix3 (batch t) κ l) := by
  blk_simp
  refine congrArg (W main_v18) ?_
  blk_ext [index11, batch]

theorem blk11 (t : Fin cfg0.N) (κ : Fin 256) (l : Fin 512) : ((iblk m c 11 t : Vec Ideal S1x256x512 .bf16) (ix3 0 κ l) : EReal) = arg4 m c (ix4 (batch t) κ ⟨l.val / 128, by omega⟩ ⟨l.val % 128, by omega⟩) := by
  unfold iblk
  exact (read11 c (V m c) t κ l).trans (host11 m c (batch t) κ l)

theorem read12 (W : (b : Ref sig .tc) → Buf (Elt Ideal) ((c : Thread nD τ).loc b)) (t : Fin cfg0.N) (l : Fin 512) (j : Fin 1024) :
    (((cfg0.win 12).blk t).view.read (Elt Ideal) (W (Pipeline.arrRef spec0 12)) : Vec Ideal S512x1024 .bf16) (ix2 l j) = (W main_v11 : Vec Ideal S512x1024 .bf16) (ix2 l j) := by
  blk_simp
  refine congrArg (W main_v11) ?_
  blk_ext [index12]

theorem blk12 (t : Fin cfg0.N) (l : Fin 512) (j : Fin 1024) : ((iblk m c 12 t : Vec Ideal S512x1024 .bf16) (ix2 l j) : EReal) = arg11 m c (ix2 l j) := by
  unfold iblk
  exact (read12 c (V m c) t l j).trans (host12 m c l j)

theorem read13 (W : (b : Ref sig .tc) → Buf (Elt Ideal) ((c : Thread nD τ).loc b)) (t : Fin cfg0.N) (i : Fin 1024) :
    (((cfg0.win 13).blk t).view.read (Elt Ideal) (W (Pipeline.arrRef spec0 13)) : Vec Ideal S1x1024 .f32) (ix2 0 i) = (W main_v12 : Vec Ideal S1x1024 .f32) (ix2 0 i) := by
  blk_simp
  refine congrArg (W main_v12) ?_
  blk_ext [index13]

theorem blk13 (t : Fin cfg0.N) (i : Fin 1024) : ((iblk m c 13 t : Vec Ideal S1x1024 .f32) (ix2 0 i) : EReal) = arg12 m c (ix1 i) := by
  unfold iblk
  exact (read13 c (V m c) t i).trans (host13 m c i)

theorem read14 (W : (b : Ref sig .tc) → Buf (Elt Ideal) ((c : Thread nD τ).loc b)) (t : Fin cfg0.N) (i : Fin 1024) (f : Fin 4096) :
    (((cfg0.win 14).blk t).view.read (Elt Ideal) (W (Pipeline.arrRef spec0 14)) : Vec Ideal S1024x4096 .bf16) (ix2 i f) = (W main_v13 : Vec Ideal S1024x4096 .bf16) (ix2 i f) := by
  blk_simp
  refine congrArg (W main_v13) ?_
  blk_ext [index14]

theorem blk14 (t : Fin cfg0.N) (i : Fin 1024) (f : Fin 4096) : ((iblk m c 14 t : Vec Ideal S1024x4096 .bf16) (ix2 i f) : EReal) = arg13 m c (ix2 i f) := by
  unfold iblk
  exact (read14 c (V m c) t i f).trans (host14 m c i f)

theorem read15 (W : (b : Ref sig .tc) → Buf (Elt Ideal) ((c : Thread nD τ).loc b)) (t : Fin cfg0.N) (f : Fin 4096) (j : Fin 1024) :
    (((cfg0.win 15).blk t).view.read (Elt Ideal) (W (Pipeline.arrRef spec0 15)) : Vec Ideal S4096x1024 .bf16) (ix2 f j) = (W main_v14 : Vec Ideal S4096x1024 .bf16) (ix2 f j) := by
  blk_simp
  refine congrArg (W main_v14) ?_
  blk_ext [index15]

theorem blk15 (t : Fin cfg0.N) (f : Fin 4096) (j : Fin 1024) : ((iblk m c 15 t : Vec Ideal S4096x1024 .bf16) (ix2 f j) : EReal) = arg14 m c (ix2 f j) := by
  unfold iblk
  exact (read15 c (V m c) t f j).trans (host15 m c f j)

theorem blockWeights_eq (t : Fin cfg0.N) : blockWeights (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = argWeights m c (batch t) := by
  unfold blockWeights argWeights
  simp only [blk3, blk4, blk5, blk6, blk7, blk8, blk9, blk10, blk11, blk12, blk13, blk14, blk15]

theorem emb16 (t : Fin cfg0.N) (r : Fin 512) (j : Fin 1024) :
    (win0_16.blk t).view.emb (ix3 0 r j : S1x512x1024.Idx) = (ix3 (batch t) (token t r) j : S4x8192x1024.Idx) := by
  blk_ext [index16, batch, token]

/-- One point's block of the result. -/
theorem block_apply (t : Fin cfg0.N) (r : Fin 512) (j : Fin 1024) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r j) : EReal) = result m c (ix3 (batch t) (token t r) j) := by
  rw [tile, blockWeights_eq]
  simp only [blk0, blk1, blk2]
  rfl

/-- The result array, from its blocks. -/
theorem final_out : (dats m 0 c).arrAt 16 cfg0.N = result m c := by
  refine (dats m 0 c).arrAt_eq_of_covers 16 _ (by decide +kernel) fun t hf y => ?_
  blk_simp
  rw [after0_16]
  have hy : y = (ix3 0 (y 1) (y 2) : S1x512x1024.Idx) := by
    funext a
    match a with
    | ⟨0, _⟩ => exact Fin.ext (Nat.lt_one_iff.mp (y 0).isLt)
    | ⟨1, _⟩ => rfl
    | ⟨2, _⟩ => rfl
  rw [hy]
  exact (block_apply m c t (y 1) (y 2)).trans (congrArg (result m c) (emb16 t (y 1) (y 2)).symm)

end Cert.Post

end
-- ==== Proof.PostRef.lean ====
/- The second half's reference, element by element. -/
module

public import proofs.«01_k».proof.Proof.Gen.Reference2Ideal.Run
public import proofs.«01_k».proof.Proof.PostSpec
public import Idealize.ShloMosaic.Lib.Pointwise

@[expose] public section

noncomputable section

namespace Cert.Post.Ref

open Cert.Reference2Ideal Cert.Reference2Ideal.Gen Cert.Reference2Ideal.Value
open Idealize.ShloMosaic

/-! ## A mean, as a product with one over the length -/

theorem ofBits512 : Ideal.ofBits FTy.f32 0x44000000#32 = ((512 : ℝ) : EReal) := by
  simp only [Ideal.ofBits, Ideal.ieee]
  rw [if_neg (by decide), if_neg (by decide), if_neg (by decide)]
  rw [show (BitVec.extractLsb' 23 8 0x44000000#32).toNat = 136 from by decide,
    show (BitVec.extractLsb' 0 23 0x44000000#32).toNat = 0 from by decide]
  norm_num

theorem c512_eq : c512 = ((1 / 512 : ℝ) : EReal) := by
  simp only [c512, Ideal.ofBits, Ideal.ieee]
  rw [if_neg (by decide), if_neg (by decide), if_neg (by decide)]
  rw [show (BitVec.extractLsb' 23 8 0x3B000000#32).toNat = 118 from by decide,
    show (BitVec.extractLsb' 0 23 0x3B000000#32).toNat = 0 from by decide]
  norm_num

theorem div512 (x : EReal) : Ideal.div x (Ideal.ofBits FTy.f32 0x44000000#32) = x * c512 := by
  rw [ofBits512, Ideal.div_coe (by norm_num), c512_eq]

theorem ofBits1024 : Ideal.ofBits FTy.f32 0x44800000#32 = ((1024 : ℝ) : EReal) := by
  simp only [Ideal.ofBits, Ideal.ieee]
  rw [if_neg (by decide), if_neg (by decide), if_neg (by decide)]
  rw [show (BitVec.extractLsb' 23 8 0x44800000#32).toNat = 137 from by decide,
    show (BitVec.extractLsb' 0 23 0x44800000#32).toNat = 0 from by decide]
  norm_num

theorem c1024_eq : c1024 = ((1 / 1024 : ℝ) : EReal) := by
  simp only [c1024, Ideal.ofBits, Ideal.ieee]
  rw [if_neg (by decide), if_neg (by decide), if_neg (by decide)]
  rw [show (BitVec.extractLsb' 23 8 0x3A800000#32).toNat = 117 from by decide,
    show (BitVec.extractLsb' 0 23 0x3A800000#32).toNat = 0 from by decide]
  norm_num

theorem div1024 (x : EReal) : Ideal.div x (Ideal.ofBits FTy.f32 0x44800000#32) = x * c1024 := by
  rw [ofBits1024, Ideal.div_coe (by norm_num), c1024_eq]

theorem ofBits128 : Ideal.ofBits FTy.f32 0x43000000#32 = ((128 : ℝ) : EReal) := by
  simp only [Ideal.ofBits, Ideal.ieee]
  rw [if_neg (by decide), if_neg (by decide), if_neg (by decide)]
  rw [show (BitVec.extractLsb' 23 8 0x43000000#32).toNat = 134 from by decide,
    show (BitVec.extractLsb' 0 23 0x43000000#32).toNat = 0 from by decide]
  norm_num

theorem c128_eq : c128 = ((1 / 128 : ℝ) : EReal) := by
  simp only [c128, Ideal.ofBits, Ideal.ieee]
  rw [if_neg (by decide), if_neg (by decide), if_neg (by decide)]
  rw [show (BitVec.extractLsb' 23 8 0x3C000000#32).toNat = 120 from by decide,
    show (BitVec.extractLsb' 0 23 0x3C000000#32).toNat = 0 from by decide]
  norm_num

theorem div128 (x : EReal) : Ideal.div x (Ideal.ofBits FTy.f32 0x43000000#32) = x * c128 := by
  rw [ofBits128, Ideal.div_coe (by norm_num), c128_eq]

variable (L : Valuation τ sig (Elt Ideal))

def arg0 : FVec Ideal S4x8192x1024 .f32 := L (Proc.devRef .tc main_arg0)
def arg1 : FVec Ideal S4x8192x512 .f32 := L (Proc.devRef .tc main_arg1)
def arg2 : FVec Ideal S4x8192x512 .f32 := L (Proc.devRef .tc main_arg2)
def arg3 : FVec Ideal S4x256x4x128 .f32 := L (Proc.devRef .tc main_arg3)
def arg4 : FVec Ideal S4x256x4x128 .f32 := L (Proc.devRef .tc main_arg4)
def arg5 : FVec Ideal S512 .f32 := L (Proc.devRef .tc main_arg5)
def arg6 : FVec Ideal S512 .f32 := L (Proc.devRef .tc main_arg6)
def arg7 : FVec Ideal S1024x1024 .f32 := L (Proc.devRef .tc main_arg7)
def arg8 : FVec Ideal S1024 .f32 := L (Proc.devRef .tc main_arg8)
def arg9 : FVec Ideal S1024x512 .f32 := L (Proc.devRef .tc main_arg9)
def arg10 : FVec Ideal S128 .f32 := L (Proc.devRef .tc main_arg10)
def arg11 : FVec Ideal S512x1024 .f32 := L (Proc.devRef .tc main_arg11)
def arg12 : FVec Ideal S1024 .f32 := L (Proc.devRef .tc main_arg12)
def arg13 : FVec Ideal S1024x4096 .f32 := L (Proc.devRef .tc main_arg13)
def arg14 : FVec Ideal S4096x1024 .f32 := L (Proc.devRef .tc main_arg14)

/-- The weights and the keys and values of batch entry `n`. -/
def argWeights (n : Fin 4) : Weights where
  ga i := arg5 L (ix1 i)
  gb i := arg6 L (ix1 i)
  wa i j := arg7 L (ix2 ⟨i.val, by omega⟩ j)
  wb i j := arg7 L (ix2 ⟨512 + i.val, by omega⟩ j)
  gmem i := arg8 L (ix1 i)
  wq i l := arg9 L (ix2 i l)
  gq d := arg10 L (ix1 d) * Ideal.ofBits .f32 0x3DB504F3#32
  k κ l := arg3 L (ix4 n κ ⟨l.val / 128, by omega⟩ ⟨l.val % 128, by omega⟩)
  v κ l := arg4 L (ix4 n κ ⟨l.val / 128, by omega⟩ ⟨l.val % 128, by omega⟩)
  wo l j := arg11 L (ix2 l j)
  gffn i := arg12 L (ix1 i)
  w1 i f := arg13 L (ix2 i f)
  w2 f j := arg14 L (ix2 f j)

/-! ## The reference's values -/

def v28 : FVec Ideal S4x8192x1024 .f32 := res_main_v28 L
def v43 : FVec Ideal S4x8192x4x128 .f32 := res_main_v43 L
def v59 : FVec Ideal S4x4x8192x256 .f32 := res_main_v59 L
def v66 : FVec Ideal S4x4x8192x256 .f32 := res_main_v66 L
def v75 : FVec Ideal S4x8192x1024 .f32 := res_main_v75 L
def v90 : FVec Ideal S4x8192x4096 .f32 := res_main_v90 L
def v93 : FVec Ideal S4x8192x1024 .f32 :=
  addf (v75 L) (Host.dotGeneral dot_S4x8192x4096_S4096x1024_S4x8192x1024_2_0_01_1_n_n none (mulf (v90 L) (v90 L)) (arg14 L))

theorem v28_apply (n : Fin 4) (s : Fin 8192) (j : Fin 1024) :
    (v28 L (ix3 n s j) : EReal)
      = mixed (argWeights L n) (fun j => arg0 L (ix3 n s j)) (fun i => arg1 L (ix3 n s i)) (fun i => arg2 L (ix3 n s i)) j := by
  pointwise [v28, res_main_v28]
  simp only [div512]
  exact (add_assoc _ _ _).symm

theorem v43_apply (n : Fin 4) (s : Fin 8192) (h : Fin 4) (d : Fin 128) :
    (v43 L (ix4 n s h d) : EReal) = queries (argWeights L n) (fun j => v28 L (ix3 n s j)) (lane h d) := by
  unfold v43 res_main_v43
  pointwise
  simp only [div1024]
  rfl

theorem v59_apply (n : Fin 4) (h : Fin 4) (s : Fin 8192) (κ : Fin 256) :
    (v59 L (ix4 n h s κ) : EReal)
      = score (rms c128 (fun d => v43 L (ix4 n s h d)) (argWeights L n).gq) (fun κ d => arg3 L (ix4 n κ h d)) κ := by
  unfold v59 res_main_v59
  pointwise
  simp only [div128]
  refine Finset.sum_congr rfl fun d _ => congrArg (· * _) (mul_assoc _ _ _)

theorem reduce_apply (x : FVec Ideal S4x4x8192x256 .f32) (i : FVec Ideal S_ .f32) (n h : Fin 4) (s : Fin 8192) :
    Host.reduce FloatOps.maximumf x i reducesTo_S4x4x8192x256_S4x4x8192_d3 h_S_ (ix3 n h s)
      = Finset.fold FloatOps.maximumf (i (Shape.Idx.first h_S_)) (fun κ : Fin 256 => x (ix4 n h s κ)) Finset.univ := by
  pointwise

def weighed (x : FVec Ideal S4x4x8192x256 .f32) (t : FVec Ideal S4x4x8192 .f32) : FVec Ideal S4x4x8192x256 .f32 :=
  Host.exp (subf x (broadcastInDim S4x4x8192x256 ![0, 1, 2, 3] bcast_S4x4x8192x1_S4x4x8192x256_0_1_2_3
    (broadcastInDim S4x4x8192x1 ![0, 1, 2] bcast_S4x4x8192_S4x4x8192x1_0_1_2
      (maximumf (broadcastInDim S4x4x8192 ![] bcast_S_S4x4x8192 (constant S_ .f32 0xFF800000#32)) t))))

theorem weighed_apply (x : FVec Ideal S4x4x8192x256 .f32) (t : FVec Ideal S4x4x8192 .f32) (n h : Fin 4) (s : Fin 8192) (κ : Fin 256) :
    (weighed x t (ix4 n h s κ) : EReal) = Ideal.exp (x (ix4 n h s κ) - max (Ideal.ofBits .f32 0xFF800000#32) (t (ix3 n h s))) := by
  pointwise [weighed]

theorem negInf : (Ideal.ofBits .f32 0xFF800000#32 : EReal) = ⊥ := by simp [Ideal.ofBits, Ideal.ieee]

theorem v66_apply (n : Fin 4) (h : Fin 4) (s : Fin 8192) (κ : Fin 256) :
    (v66 L (ix4 n h s κ) : EReal)
      = weight (rms c128 (fun d => v43 L (ix4 n s h d)) (argWeights L n).gq) (fun κ d => arg3 L (ix4 n κ h d)) κ := by
  show (weighed (v59 L) (Host.reduce FloatOps.maximumf (v59 L) (constant S_ .f32 0xFF800000#32) reducesTo_S4x4x8192x256_S4x4x8192_d3 h_S_) (ix4 n h s κ) : EReal) = _
  rw [weighed_apply, reduce_apply, v59_apply, max_eq_right (le_of_eq_of_le negInf bot_le)]
  unfold weight top
  refine congrArg (fun t => Ideal.exp (_ - t)) ?_
  exact congrArg (fun f => Finset.fold max (Ideal.ofBits .f32 0xFF800000#32) f Finset.univ) (funext fun κ => v59_apply L n h s κ)

def recall (y : FVec Ideal S4x8192x1024 .f32) (V : FVec Ideal S4x256x4x128 .f32) (p : FVec Ideal S4x4x8192x256 .f32) (wo : FVec Ideal S512x1024 .f32) :
    FVec Ideal S4x8192x1024 .f32 :=
  addf y (Host.dotGeneral dot_S4x8192x512_S512x1024_S4x8192x1024_2_0_01_1_n_n none
    (shapeCast S4x8192x512 (transpose S4x8192x4x128 [0, 3, 1, 2] (Host.dotGeneral dot_S4x256x4x128_S4x4x8192x256_S4x4x128x8192_1_3_3_2_02_01 none V
      (Host.divf p (broadcastInDim S4x4x8192x256 ![0, 1, 2, 3] bcast_S4x4x8192x1_S4x4x8192x256_0_1_2_3
        (broadcastInDim S4x4x8192x1 ![0, 1, 2] bcast_S4x4x8192_S4x4x8192x1_0_1_2
          (Host.reduceAdd p (constant S_ .f32 0x00000000#32) reducesTo_S4x4x8192x256_S4x4x8192_d3 h_S_)))) : FVec Ideal S4x4x128x8192 .f32)
      transposes_S4x4x128x8192_S4x8192x4x128_0_3_1_2) shapeCasts_S4x8192x4x128_S4x8192x512 : FVec Ideal S4x8192x512 .f32) wo)

theorem recall_apply (y : FVec Ideal S4x8192x1024 .f32) (V : FVec Ideal S4x256x4x128 .f32) (p : FVec Ideal S4x4x8192x256 .f32) (wo : FVec Ideal S512x1024 .f32)
    (n : Fin 4) (s : Fin 8192) (j : Fin 1024) :
    (recall y V p wo (ix3 n s j) : EReal) = y (ix3 n s j) + ∑ l : Fin 512, (∑ κ : Fin 256, (V (ix4 n κ ⟨l.val / 128, by omega⟩ ⟨l.val % 128, by omega⟩) : EReal)
      * Ideal.div (p (ix4 n ⟨l.val / 128, by omega⟩ s κ)) (∑ κ' : Fin 256, (p (ix4 n ⟨l.val / 128, by omega⟩ s κ') : EReal))) * wo (ix2 l j) := by
  pointwise [recall]

theorem lane_div (h : Fin 4) (d : Fin 128) : (⟨(lane h d).val / 128, by omega⟩ : Fin 4) = h := Fin.ext (by show (h.val * 128 + d.val) / 128 = h.val; omega)
theorem lane_mod (h : Fin 4) (d : Fin 128) : (⟨(lane h d).val % 128, by omega⟩ : Fin 128) = d := Fin.ext (by show (h.val * 128 + d.val) % 128 = d.val; omega)

theorem keys_apply (n : Fin 4) (κ : Fin 256) (h : Fin 4) (d : Fin 128) : (argWeights L n).k κ (lane h d) = arg3 L (ix4 n κ h d) := by
  show arg3 L (ix4 n κ ⟨(lane h d).val / 128, _⟩ ⟨(lane h d).val % 128, _⟩) = _
  rw [lane_div, lane_mod]

theorem values_apply (n : Fin 4) (κ : Fin 256) (h : Fin 4) (d : Fin 128) : (argWeights L n).v κ (lane h d) = arg4 L (ix4 n κ h d) := by
  show arg4 L (ix4 n κ ⟨(lane h d).val / 128, _⟩ ⟨(lane h d).val % 128, _⟩) = _
  rw [lane_div, lane_mod]

theorem v75_apply (n : Fin 4) (s : Fin 8192) (j : Fin 1024) :
    (v75 L (ix3 n s j) : EReal) = recalled (argWeights L n) (fun j => v28 L (ix3 n s j)) j := by
  show (recall (v28 L) (arg4 L) (v66 L) (arg11 L) (ix3 n s j) : EReal) = _
  rw [recall_apply]
  refine congrArg ((v28 L (ix3 n s j) : EReal) + ·) (Finset.sum_congr rfl fun l _ => congrArg (· * (arg11 L (ix2 l j) : EReal)) ?_)
  unfold heads head attend
  simp only [keys_apply, values_apply, v66_apply, v43_apply]
  exact Finset.sum_congr rfl fun κ _ => mul_comm _ _

theorem v90_apply (n : Fin 4) (s : Fin 8192) (f : Fin 4096) :
    (v90 L (ix3 n s f) : EReal) = hidden (argWeights L n) (fun j => v75 L (ix3 n s j)) f := by
  unfold v90 res_main_v90
  pointwise
  simp only [div1024]
  rfl

/-- The reference's result, a row at a time. -/
theorem v93_apply (n : Fin 4) (s : Fin 8192) (j : Fin 1024) :
    (v93 L (ix3 n s j) : EReal)
      = row (argWeights L n) (fun j => arg0 L (ix3 n s j)) (fun i => arg1 L (ix3 n s i)) (fun i => arg2 L (ix3 n s i)) j := by
  pointwise [v93]
  simp only [v90_apply, v75_apply, v28_apply]
  rfl

end Cert.Post.Ref

end
-- ==== Proof.PostClaim.lean ====
/- The second half's claims: its frames, and the kernel's result against the reference's. -/
module

public import proofs.«01_k».proof.Defs
public import proofs.«01_k».proof.Proof.Gen.Kernel2
public import proofs.«01_k».proof.Proof.PostFinal
public import proofs.«01_k».proof.Proof.PostRef

@[expose] public section

noncomputable section

namespace Cert.Post

open Idealize.ShloMosaic Idealize.SL.Sem

section
variable {F : FTy → Type} [FloatOps F]
open Cert.Kernel2.Gen Cert.Kernel2Ideal.Gen

set_option maxHeartbeats 4000000 in
/-- The kernel's bodies are its idealization's, whose text is its own. -/
theorem bodies_eq : Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | 0, (t, s) => rfl

theorem defs_eq : Cert.Kernel2.defs (F := F) = Cert.Kernel2Ideal.defs (F := F) := by
  unfold Cert.Kernel2.defs Cert.Kernel2Ideal.defs
  exact congrArg (Pipeline.defs Cert.Kernel2Ideal.pcfgs) bodies_eq
end

/-- The kernel's frame, from the run of its idealization. -/
theorem frame_kernel : Cert.quiescent_Kernel2 := fun m ρ _ => by
  rw [defs_eq]
  exact Cert.Kernel2Ideal.Gen.frame (F := Bits) m ρ

theorem frame_ideal : Cert.quiescent_Kernel2Ideal := fun m ρ _ => Cert.Kernel2Ideal.Gen.frame (F := Ideal) m ρ

theorem frame_reference : Cert.quiescent_Reference2Ideal := fun m ρ _ =>
  (θ_run _ _ _).mono (fun r h => ⟨fun c => (h c).2, sem_eq_zero_of_no_sems (by decide) r.2⟩) (Cert.Reference2Ideal.Value.run m ρ)

/-- From the same arguments the reference's rows are the kernel's. -/
theorem result_eq (m : (ℓ : Loc Cert.Kernel2Ideal.nD Cert.Kernel2Ideal.τ Cert.Kernel2Ideal.sig) → Buf (Elt Ideal) ℓ) (c : Dev Cert.Kernel2Ideal.nD)
    (L : Valuation Cert.Reference2Ideal.τ Cert.Reference2Ideal.sig (Elt Ideal))
    (h0 : Ref.arg0 L = arg0 m c)
    (h1 : Ref.arg1 L = arg1 m c)
    (h2 : Ref.arg2 L = arg2 m c)
    (h3 : Ref.arg3 L = arg3 m c)
    (h4 : Ref.arg4 L = arg4 m c)
    (h5 : Ref.arg5 L = arg5 m c)
    (h6 : Ref.arg6 L = arg6 m c)
    (h7 : Ref.arg7 L = arg7 m c)
    (h8 : Ref.arg8 L = arg8 m c)
    (h9 : Ref.arg9 L = arg9 m c)
    (h10 : Ref.arg10 L = arg10 m c)
    (h11 : Ref.arg11 L = arg11 m c)
    (h12 : Ref.arg12 L = arg12 m c)
    (h13 : Ref.arg13 L = arg13 m c)
    (h14 : Ref.arg14 L = arg14 m c) :
    Ref.v93 L = result m c := by
  have hw : ∀ n, Ref.argWeights L n = argWeights m c n := fun n => by
    unfold Ref.argWeights argWeights
    rw [h3, h4, h5, h6, h7, h8, h9, h10, h11, h12, h13, h14]
  have h : ∀ (n : Fin 4) (s : Fin 8192) (j : Fin 1024), (Ref.v93 L (ix3 n s j) : EReal) = result m c (ix3 n s j) := fun n s j => by
    rw [Ref.v93_apply, hw, h0, h1, h2]
    rfl
  funext y
  have hy : y = (ix3 (y 0) (y 1) (y 2) : Cert.Reference2Ideal.S4x8192x1024.Idx) := by
    funext a
    match a with
    | ⟨0, _⟩ => rfl
    | ⟨1, _⟩ => rfl
    | ⟨2, _⟩ => rfl
  rw [hy]
  exact h (y 0) (y 1) (y 2)

theorem second_half : Cert.algebraic_Kernel2Ideal_Reference2Ideal := fun m ρ m' ρ' _ heq => by
  refine ⟨fun c => result m c, (θ_run _ _ _).mono (fun r h c => ⟨(h c).1.trans (final_out m c), (h c).2⟩) (Cert.Kernel2Ideal.Value.run_blocks m ρ),
    (θ_run _ _ _).mono (fun r h c => ⟨(h c).1.trans ?_, (h c).2⟩) (Cert.Reference2Ideal.Value.run m' ρ')⟩
  obtain ⟨h0, h1, h2, h3, h4, h5, h6, h7, h8, h9, h10, h11, h12, h13, h14⟩ := heq c
  exact result_eq m c _ h0 h1 h2 h3 h4 h5 h6 h7 h8 h9 h10 h11 h12 h13 h14

end Cert.Post

end
-- ==== Proof.MemKeys.lean ====
/- The memory's keys and values: what the kernel's tiles compute, and the arrays they leave. -/
module

public import proofs.«01_k».proof.Proof.Gen.Kernel3Ideal.Value
public import proofs.«01_k».proof.Proof.PostSpec
public import Idealize.ShloMosaic.Lib.Claim
public import Idealize.ShloMosaic.Lib.Pointwise
public import Idealize.ShloMosaic.Lib.Pipeline.ValueKit

@[expose] public section

noncomputable section

namespace Cert.Mem

open Cert.Post (rms c1024 c128)
open Idealize.ShloMosaic Idealize.ShloMosaic.TcCoe

/-! ## A row of the memory -/

/-- A normalized row times the weights. -/
def projected (g : Fin 1024 → EReal) (W : Fin 1024 → Fin 1024 → EReal) (x : Fin 1024 → EReal) (l : Fin 1024) : EReal :=
  ∑ i, rms c1024 x g i * W i l

/-- The lane `d` of the head that holds lane `l`. -/
def beside (l : Fin 512) (d : Fin 128) : Fin 1024 := ⟨l.val / 128 * 128 + d.val, by omega⟩

/-- A row's keys: each head's lanes normalized. -/
def key (g : Fin 1024 → EReal) (W : Fin 1024 → Fin 1024 → EReal) (gk : Fin 128 → EReal) (x : Fin 1024 → EReal) (l : Fin 512) : EReal :=
  rms c128 (fun d => projected g W x (beside l d)) gk ⟨l.val % 128, by omega⟩

/-- A row's values. -/
def value (g : Fin 1024 → EReal) (W : Fin 1024 → Fin 1024 → EReal) (x : Fin 1024 → EReal) (l : Fin 512) : EReal :=
  projected g W x ⟨l.val + 512, by omega⟩

open Cert.Kernel3Ideal Cert.Kernel3Ideal.Gen Cert.Kernel3Ideal.Value

/-! ## A tile -/

variable (x0 : Vec Ideal S1x256x1024 .f32) (x1 : Vec Ideal S1x1024 .f32) (x2 : Vec Ideal S1024x1024 .bf16) (x3 : Vec Ideal S1x128 .f32)

theorem product (κ : Fin 256) (l : Fin 1024) :
    (k0_pay3 x0 x1 x2 (ix2 κ l) : EReal) = projected (fun i => x1 (ix2 0 i)) (fun i j => x2 (ix2 i j)) (fun j => x0 (ix3 0 κ j)) l := by
  pointwise [k0_pay3]
  rfl

/-- The sums of squares of the heads' lanes. -/
theorem squares (j : Fin 4) (κ : Fin 256) :
    (Fam4_1 x0 x1 x2 x3 j (ix1 κ) : EReal)
      = ∑ d : Fin 128, (k0_pay3 x0 x1 x2 (ix2 κ ⟨j.val * 128 + d.val, by omega⟩) : EReal) * k0_pay3 x0 x1 x2 (ix2 κ ⟨j.val * 128 + d.val, by omega⟩) := by
  match j with
  | ⟨0, _⟩ =>
    show ((multiReduction .add [1] S256 _ 0x00000000#32 reduces_S256x128_S256 (.inl rfl) rfl : FVec Ideal S256 .f32) (ix1 κ) : EReal) = _
    generalize k0_pay3 x0 x1 x2 = y
    pointwise
  | ⟨1, _⟩ =>
    show ((multiReduction .add [1] S256 _ 0x00000000#32 reduces_S256x128_S256 (.inl rfl) rfl : FVec Ideal S256 .f32) (ix1 κ) : EReal) = _
    generalize k0_pay3 x0 x1 x2 = y
    pointwise
  | ⟨2, _⟩ =>
    show ((multiReduction .add [1] S256 _ 0x00000000#32 reduces_S256x128_S256 (.inl rfl) rfl : FVec Ideal S256 .f32) (ix1 κ) : EReal) = _
    generalize k0_pay3 x0 x1 x2 = y
    pointwise
  | ⟨3, _⟩ =>
    show ((multiReduction .add [1] S256 _ 0x00000000#32 reduces_S256x128_S256 (.inl rfl) rfl : FVec Ideal S256 .f32) (ix1 κ) : EReal) = _
    generalize k0_pay3 x0 x1 x2 = y
    pointwise

theorem zero2 : (![0, 0] : Fin 2 → Nat) = fun _ => 0 := funext fun a => by fin_cases a <;> rfl
theorem zero3 : (![0, 0, 0] : Fin 3 → Nat) = fun _ => 0 := funext fun a => by fin_cases a <;> rfl

theorem whole0 {e : EltTy} (x : Vec Ideal S1x256x1024 e) : View.ld x r0_0 = x := View.ld_unit_zero zero3 _ x
theorem whole1 {e : EltTy} (x : Vec Ideal S1x1024 e) : View.ld x r0_1 = x := View.ld_unit_zero zero2 _ x
theorem whole2 {e : EltTy} (x : Vec Ideal S1024x1024 e) : View.ld x r0_2 = x := View.ld_unit_zero zero2 _ x
theorem whole3 {e : EltTy} (x : Vec Ideal S1x128 e) : View.ld x r0_3 = x := View.ld_unit_zero zero2 _ x

theorem keys_tile (κ : Fin 256) (l : Fin 512) :
    (out0_4 x0 x1 x2 x3 (ix3 0 κ l) : EReal)
      = key (fun i => x1 (ix2 0 i)) (fun i j => x2 (ix2 i j)) (fun d => x3 (ix2 0 d)) (fun j => x0 (ix3 0 κ j)) l := by
  unfold out0_4 k0_pay9
  rw [whole0, whole1, whole2, whole3]
  refine (canon4_eq x0 x1 x2 x3 (ix3 0 κ l)).trans ?_
  show (k0_pay3 x0 x1 x2 _ : EReal) * Ideal.rsqrt ((Fam4_1 x0 x1 x2 x3 ⟨l.val / 128, _⟩ _ : EReal) * c128 + Post.eps) * x3 _ = _
  have e0 : ix4_0 (ix3 0 κ l : S1x256x512.Idx) = (ix2 κ (beside l ⟨l.val % 128, by omega⟩) : S256x1024.Idx) := by
    funext a
    match a with
    | ⟨0, _⟩ => rfl
    | ⟨1, _⟩ => exact Fin.ext (Nat.div_add_mod' l.val 128).symm
  have e1 : ix4_1 (ix3 0 κ l : S1x256x512.Idx) = (ix1 κ : S256.Idx) := by
    funext a
    match a with
    | ⟨0, _⟩ => rfl
  have e2 : ix4_2 (ix3 0 κ l : S1x256x512.Idx) = (ix2 0 ⟨l.val % 128, by omega⟩ : S1x128.Idx) := by
    funext a
    match a with
    | ⟨0, _⟩ => rfl
    | ⟨1, _⟩ => rfl
  rw [e0, e1, e2, squares]
  simp only [product]
  rfl

theorem values_tile (κ : Fin 256) (l : Fin 512) :
    (out0_5 x0 x1 x2 x3 (ix3 0 κ l) : EReal)
      = value (fun i => x1 (ix2 0 i)) (fun i j => x2 (ix2 i j)) (fun j => x0 (ix3 0 κ j)) l := by
  unfold out0_5 k0_pay9
  rw [whole0, whole1, whole2]
  refine (canon5_eq x0 x1 x2 (ix3 0 κ l)).trans ?_
  exact product x0 x1 x2 κ ⟨l.val + 512, by omega⟩

/-! ## The arrays -/

variable (m : (ℓ : Loc nD τ sig) → Buf (Elt Ideal) ℓ) (c : Dev nD)

def arg0 : FVec Ideal S4x256x1024 .f32 := m ((c.tc : Thread nD τ).loc main_arg0)
def arg1 : FVec Ideal S1024 .f32 := m ((c.tc : Thread nD τ).loc main_arg1)
def arg2 : FVec Ideal S1024x1024 .f32 := m ((c.tc : Thread nD τ).loc main_arg2)
def arg3 : FVec Ideal S128 .f32 := m ((c.tc : Thread nD τ).loc main_arg3)

/-- The keys the kernel computes. -/
def keys : FVec Ideal S4x256x512 .bf16 := fun y =>
  key (fun i => arg1 m c (ix1 i)) (fun i j => arg2 m c (ix2 i j)) (fun d => arg3 m c (ix1 d)) (fun j => arg0 m c (ix3 (y 0) (y 1) j)) (y 2)

/-- The values the kernel computes. -/
def values : FVec Ideal S4x256x512 .bf16 := fun y =>
  value (fun i => arg1 m c (ix1 i)) (fun i j => arg2 m c (ix2 i j)) (fun j => arg0 m c (ix3 (y 0) (y 1) j)) (y 2)

theorem host1 (i : Fin 1024) : ((V m c main_v0 : FVec Ideal S1x1024 .f32) (ix2 0 i) : EReal) = arg1 m c (ix1 i) := by
  simp only [V, hostOps0]
  entry_read
  pointwise
  rfl

theorem host2 (i j : Fin 1024) : ((V m c main_v1 : FVec Ideal S1024x1024 .bf16) (ix2 i j) : EReal) = arg2 m c (ix2 i j) := by
  simp only [V, hostOps0]
  entry_read
  pointwise
  rfl

theorem host3 (d : Fin 128) : ((V m c main_v2 : FVec Ideal S1x128 .f32) (ix2 0 d) : EReal) = arg3 m c (ix1 d) := by
  simp only [V, hostOps0]
  entry_read
  pointwise
  rfl

theorem index0 : ∀ t : Fin cfg0.N, win0_0.index t = ![(grid0.coords t 0).val, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![(grid0.coords t 0).val, 0, 0] := (by decide +kernel : ∀ t : Fin grid0.N, _)
theorem index5 : ∀ t : Fin cfg0.N, win0_5.index t = ![(grid0.coords t 0).val, 0, 0] := (by decide +kernel : ∀ t : Fin grid0.N, _)

/-- A point's batch entry. -/
def batch (t : Fin cfg0.N) : Fin 4 := ⟨(grid0.coords t 0).val, (grid0.coords t 0).isLt⟩

theorem read0 (W : (b : Ref sig .tc) → Buf (Elt Ideal) ((c : Thread nD τ).loc b)) (t : Fin cfg0.N) (κ : Fin 256) (j : Fin 1024) :
    (((cfg0.win 0).blk t).view.read (Elt Ideal) (W (Pipeline.arrRef spec0 0)) : Vec Ideal S1x256x1024 .f32) (ix3 0 κ j) = (W main_arg0 : Vec Ideal S4x256x1024 .f32) (ix3 (batch t) κ j) := by
  blk_simp
  refine congrArg (W main_arg0) ?_
  blk_ext [index0, batch]

theorem read1 (W : (b : Ref sig .tc) → Buf (Elt Ideal) ((c : Thread nD τ).loc b)) (t : Fin cfg0.N) (i : Fin 1024) :
    (((cfg0.win 1).blk t).view.read (Elt Ideal) (W (Pipeline.arrRef spec0 1)) : Vec Ideal S1x1024 .f32) (ix2 0 i) = (W main_v0 : Vec Ideal S1x1024 .f32) (ix2 0 i) := by
  blk_simp
  refine congrArg (W main_v0) ?_
  blk_ext [index1]

theorem read2 (W : (b : Ref sig .tc) → Buf (Elt Ideal) ((c : Thread nD τ).loc b)) (t : Fin cfg0.N) (i j : Fin 1024) :
    (((cfg0.win 2).blk t).view.read (Elt Ideal) (W (Pipeline.arrRef spec0 2)) : Vec Ideal S1024x1024 .bf16) (ix2 i j) = (W main_v1 : Vec Ideal S1024x1024 .bf16) (ix2 i j) := by
  blk_simp
  refine congrArg (W main_v1) ?_
  blk_ext [index2]

theorem read3 (W : (b : Ref sig .tc) → Buf (Elt Ideal) ((c : Thread nD τ).loc b)) (t : Fin cfg0.N) (d : Fin 128) :
    (((cfg0.win 3).blk t).view.read (Elt Ideal) (W (Pipeline.arrRef spec0 3)) : Vec Ideal S1x128 .f32) (ix2 0 d) = (W main_v2 : Vec Ideal S1x128 .f32) (ix2 0 d) := by
  blk_simp
  refine congrArg (W main_v2) ?_
  blk_ext [index3]

theorem blk0 (t : Fin cfg0.N) (κ : Fin 256) (j : Fin 1024) : ((iblk m c 0 t : Vec Ideal S1x256x1024 .f32) (ix3 0 κ j) : EReal) = arg0 m c (ix3 (batch t) κ j) := by
  unfold iblk
  rw [read0 c (V m c) t κ j, V_main_arg0]
  rfl

theorem blk1 (t : Fin cfg0.N) (i : Fin 1024) : ((iblk m c 1 t : Vec Ideal S1x1024 .f32) (ix2 0 i) : EReal) = arg1 m c (ix1 i) := by
  unfold iblk
  exact (read1 c (V m c) t i).trans (host1 m c i)

theorem blk2 (t : Fin cfg0.N) (i j : Fin 1024) : ((iblk m c 2 t : Vec Ideal S1024x1024 .bf16) (ix2 i j) : EReal) = arg2 m c (ix2 i j) := by
  unfold iblk
  exact (read2 c (V m c) t i j).trans (host2 m c i j)

theorem blk3 (t : Fin cfg0.N) (d : Fin 128) : ((iblk m c 3 t : Vec Ideal S1x128 .f32) (ix2 0 d) : EReal) = arg3 m c (ix1 d) := by
  unfold iblk
  exact (read3 c (V m c) t d).trans (host3 m c d)

theorem emb4 (t : Fin cfg0.N) (κ : Fin 256) (l : Fin 512) :
    (win0_4.blk t).view.emb (ix3 0 κ l : S1x256x512.Idx) = (ix3 (batch t) κ l : S4x256x512.Idx) := by
  blk_ext [index4, batch]

theorem emb5 (t : Fin cfg0.N) (κ : Fin 256) (l : Fin 512) :
    (win0_5.blk t).view.emb (ix3 0 κ l : S1x256x512.Idx) = (ix3 (batch t) κ l : S4x256x512.Idx) := by
  blk_ext [index5, batch]

/-- One point's block of the keys. -/
theorem keys_block (t : Fin cfg0.N) (κ : Fin 256) (l : Fin 512) :
    (out0_4 (iblk m c 0 t) (iblk m c 1 t) (iblk m c 2 t) (iblk m c 3 t) (ix3 0 κ l) : EReal) = keys m c (ix3 (batch t) κ l) := by
  rw [keys_tile]
  simp only [blk0, blk1, blk2, blk3]
  rfl

/-- One point's block of the values. -/
theorem values_block (t : Fin cfg0.N) (κ : Fin 256) (l : Fin 512) :
    (out0_5 (iblk m c 0 t) (iblk m c 1 t) (iblk m c 2 t) (iblk m c 3 t) (ix3 0 κ l) : EReal) = values m c (ix3 (batch t) κ l) := by
  rw [values_tile]
  simp only [blk0, blk1, blk2]
  rfl

theorem row_index (y : S1x256x512.Idx) : y = (ix3 0 (y 1) (y 2) : S1x256x512.Idx) := by
  funext a
  match a with
  | ⟨0, _⟩ => exact Fin.ext (Nat.lt_one_iff.mp (y 0).isLt)
  | ⟨1, _⟩ => rfl
  | ⟨2, _⟩ => rfl

/-- The array of keys, from its blocks. -/
theorem final_keys : (dats m 0 c).arrAt 4 cfg0.N = keys m c := by
  refine (dats m 0 c).arrAt_eq_of_covers 4 _ (by decide +kernel) fun t hf y => ?_
  blk_simp
  rw [after0_4, row_index y]
  exact (keys_block m c t (y 1) (y 2)).trans (congrArg (keys m c) (emb4 t (y 1) (y 2)).symm)

/-- The array of values, from its blocks. -/
theorem final_values : (dats m 0 c).arrAt 5 cfg0.N = values m c := by
  refine (dats m 0 c).arrAt_eq_of_covers 5 _ (by decide +kernel) fun t hf y => ?_
  blk_simp
  rw [after0_5, row_index y]
  exact (values_block m c t (y 1) (y 2)).trans (congrArg (values m c) (emb5 t (y 1) (y 2)).symm)

end Cert.Mem

end
-- ==== Proof.MemClaim.lean ====
/- The memory's keys and values: the reference, element by element, and the claims. -/
module

public import proofs.«01_k».proof.Defs
public import proofs.«01_k».proof.Proof.Gen.Kernel3
public import proofs.«01_k».proof.Proof.Gen.Reference3Ideal.Run
public import proofs.«01_k».proof.Proof.MemKeys
public import proofs.«01_k».proof.Proof.PostRef

@[expose] public section

noncomputable section

namespace Cert.Mem

open Idealize.ShloMosaic Idealize.SL.Sem

namespace Ref

open Cert.Reference3Ideal Cert.Reference3Ideal.Gen
open Cert.Post.Ref (div1024 div128)

variable (x : FVec Ideal S4x256x1024 .f32) (g : FVec Ideal S1024 .f32) (W : FVec Ideal S1024x1024 .f32) (gk : FVec Ideal S128 .f32)

/-- The normalized memory times the weights. -/
def kv : FVec Ideal S4x256x1024 .f32 :=
  Host.dotGeneral dot_S4x256x1024_S1024x1024_S4x256x1024_2_0_01_1_n_n none (mulf (mulf x (broadcastInDim S4x256x1024 ![0, 1, 2] bcast_S4x256x1_S4x256x1024_0_1_2
    (Host.rsqrt (addf (Host.divf (broadcastInDim S4x256x1 ![0, 1] bcast_S4x256_S4x256x1_0_1 (Host.reduceAdd (mulf x x) (constant S_ .f32 0x00000000#32) reducesTo_S4x256x1024_S4x256_d2 h_S_))
      (broadcastInDim S4x256x1 ![] bcast_S_S4x256x1 (constant S_ .f32 0x44800000#32))) (broadcastInDim S4x256x1 ![] bcast_S_S4x256x1 (constant S_ .f32 0x358637BD#32))))))
    (broadcastInDim S4x256x1024 ![0, 1, 2] bcast_S1x1x1024_S4x256x1024_0_1_2 (broadcastInDim S1x1x1024 ![2] bcast_S1024_S1x1x1024_2 g))) W

theorem kv_apply (n : Fin 4) (κ : Fin 256) (l : Fin 1024) :
    (kv x g W (ix3 n κ l) : EReal) = projected (fun i => g (ix1 i)) (fun i j => W (ix2 i j)) (fun j => x (ix3 n κ j)) l := by
  pointwise [kv]
  simp only [div1024]
  rfl

/-- The keys before their norm, head by head. -/
def raw (y : FVec Ideal S4x256x1024 .f32) : FVec Ideal S4x256x4x128 .f32 :=
  shapeCast _ (extractStridedSlice S4x256x1x4x128 ![0, 0, 0, 0, 0] (shapeCast _ y shapeCasts_S4x256x1024_S4x256x2x4x128 : FVec Ideal S4x256x2x4x128 .f32)
    slices_S4x256x2x4x128_S4x256x1x4x128_0_0_0_0_0) shapeCasts_S4x256x1x4x128_S4x256x4x128

theorem raw_apply (y : FVec Ideal S4x256x1024 .f32) (n : Fin 4) (κ : Fin 256) (h : Fin 4) (d : Fin 128) :
    raw y (ix4 n κ h d) = y (ix3 n κ ⟨h.val * 128 + d.val, by omega⟩) := by
  pointwise [raw]

/-- The heads' keys normalized, side by side. -/
def normed (y : FVec Ideal S4x256x4x128 .f32) : FVec Ideal S4x256x512 .bf16 :=
  truncf .bf16 (shapeCast S4x256x512 (mulf (mulf y (broadcastInDim S4x256x4x128 ![0, 1, 2, 3] bcast_S4x256x4x1_S4x256x4x128_0_1_2_3
    (Host.rsqrt (addf (Host.divf (broadcastInDim S4x256x4x1 ![0, 1, 2] bcast_S4x256x4_S4x256x4x1_0_1_2 (Host.reduceAdd (mulf y y) (constant S_ .f32 0x00000000#32) reducesTo_S4x256x4x128_S4x256x4_d3 h_S_))
      (broadcastInDim S4x256x4x1 ![] bcast_S_S4x256x4x1 (constant S_ .f32 0x43000000#32))) (broadcastInDim S4x256x4x1 ![] bcast_S_S4x256x4x1 (constant S_ .f32 0x358637BD#32))))))
    (broadcastInDim S4x256x4x128 ![0, 1, 2, 3] bcast_S1x1x1x128_S4x256x4x128_0_1_2_3 (broadcastInDim S1x1x1x128 ![3] bcast_S128_S1x1x1x128_3 gk))) shapeCasts_S4x256x4x128_S4x256x512) bitsLt_bf16_f32

theorem normed_apply (y : FVec Ideal S4x256x4x128 .f32) (n : Fin 4) (κ : Fin 256) (l : Fin 512) :
    (normed gk y (ix3 n κ l) : EReal)
      = Post.rms Post.c128 (fun d => y (ix4 n κ ⟨l.val / 128, by omega⟩ d)) (fun d => gk (ix1 d)) ⟨l.val % 128, by omega⟩ := by
  pointwise [normed]
  simp only [div128]
  rfl

theorem keys_apply (n : Fin 4) (κ : Fin 256) (l : Fin 512) :
    (normed gk (raw (kv x g W)) (ix3 n κ l) : EReal)
      = key (fun i => g (ix1 i)) (fun i j => W (ix2 i j)) (fun d => gk (ix1 d)) (fun j => x (ix3 n κ j)) l := by
  rw [normed_apply]
  simp only [raw_apply, kv_apply]
  rfl

/-- The values, head by head, and side by side again. -/
def side (y : FVec Ideal S4x256x1024 .f32) : FVec Ideal S4x256x512 .bf16 :=
  truncf .bf16 (shapeCast S4x256x512 (shapeCast _ (extractStridedSlice S4x256x1x4x128 ![0, 0, 1, 0, 0] (shapeCast _ y shapeCasts_S4x256x1024_S4x256x2x4x128 : FVec Ideal S4x256x2x4x128 .f32)
    slices_S4x256x2x4x128_S4x256x1x4x128_0_0_1_0_0) shapeCasts_S4x256x1x4x128_S4x256x4x128 : FVec Ideal S4x256x4x128 .f32) shapeCasts_S4x256x4x128_S4x256x512) bitsLt_bf16_f32

theorem side_apply (y : FVec Ideal S4x256x1024 .f32) (n : Fin 4) (κ : Fin 256) (l : Fin 512) :
    (side y (ix3 n κ l) : EReal) = y (ix3 n κ ⟨l.val + 512, by omega⟩) := by
  pointwise [side]
  refine congrArg y (congrArg (ix3 n κ) (Fin.ext ?_))
  simp
  omega

theorem values_apply (n : Fin 4) (κ : Fin 256) (l : Fin 512) :
    (side (kv x g W) (ix3 n κ l) : EReal) = value (fun i => g (ix1 i)) (fun i j => W (ix2 i j)) (fun j => x (ix3 n κ j)) l := by
  rw [side_apply, kv_apply]
  rfl

end Ref

section
variable {F : FTy → Type} [FloatOps F]
open Cert.Kernel3.Gen Cert.Kernel3Ideal.Gen

set_option maxHeartbeats 4000000 in
/-- The kernel's bodies are its idealization's, whose text is its own. -/
theorem bodies_eq : Cert.Kernel3.defs₀ (F := F) = Cert.Kernel3Ideal.defs₀ (F := F) := by
  unfold Cert.Kernel3.defs₀ Cert.Kernel3Ideal.defs₀
  refine congrArg Defs.onTc (funext fun l => funext fun a => ?_)
  match l, a with
  | 0, (t, s) => rfl

theorem defs_eq : Cert.Kernel3.defs (F := F) = Cert.Kernel3Ideal.defs (F := F) := by
  unfold Cert.Kernel3.defs Cert.Kernel3Ideal.defs
  exact congrArg (Pipeline.defs Cert.Kernel3Ideal.pcfgs) bodies_eq
end

/-- The kernel's frame, from the run of its idealization. -/
theorem frame_kernel : Cert.quiescent_Kernel3 := fun m ρ _ => by
  rw [defs_eq]
  exact Cert.Kernel3Ideal.Gen.frame (F := Bits) m ρ

theorem frame_ideal : Cert.quiescent_Kernel3Ideal := fun m ρ _ => Cert.Kernel3Ideal.Gen.frame (F := Ideal) m ρ

theorem frame_reference : Cert.quiescent_Reference3Ideal := fun m ρ _ =>
  (θ_run _ _ _).mono (fun r h => ⟨fun c => (h c).2.2, sem_eq_zero_of_no_sems (by decide) r.2⟩) (Cert.Reference3Ideal.Value.run m ρ)

theorem array_index (y : Cert.Reference3Ideal.S4x256x512.Idx) : y = (ix3 (y 0) (y 1) (y 2) : Cert.Reference3Ideal.S4x256x512.Idx) := by
  funext a
  match a with
  | ⟨0, _⟩ => rfl
  | ⟨1, _⟩ => rfl
  | ⟨2, _⟩ => rfl

section
variable (m : (ℓ : Loc Cert.Kernel3Ideal.nD Cert.Kernel3Ideal.τ Cert.Kernel3Ideal.sig) → Buf (Elt Ideal) ℓ) (c : Dev Cert.Kernel3Ideal.nD)

/-- From the same arguments the reference's keys are the kernel's. -/
theorem keys_eq : Ref.normed (arg3 m c) (Ref.raw (Ref.kv (arg0 m c) (arg1 m c) (arg2 m c))) = keys m c := by
  funext y
  rw [array_index y]
  exact Ref.keys_apply (arg0 m c) (arg1 m c) (arg2 m c) (arg3 m c) (y 0) (y 1) (y 2)

/-- From the same arguments the reference's values are the kernel's. -/
theorem values_eq : Ref.side (Ref.kv (arg0 m c) (arg1 m c) (arg2 m c)) = values m c := by
  funext y
  rw [array_index y]
  exact Ref.values_apply (arg0 m c) (arg1 m c) (arg2 m c) (y 0) (y 1) (y 2)
end

theorem keys_and_values : Cert.algebraic_Kernel3Ideal_Reference3Ideal := fun m ρ m' ρ' _ heq => by
  refine ⟨fun c => keys m c, fun c => values m c,
    (θ_run _ _ _).mono (fun r h c => ⟨(h c).1.trans (final_keys m c), (h c).2.1.trans (final_values m c), (h c).2.2⟩) (Cert.Kernel3Ideal.Value.run_blocks m ρ),
    (θ_run _ _ _).mono (fun r h c => ⟨(h c).1.trans ?_, (h c).2.1.trans ?_, (h c).2.2⟩) (Cert.Reference3Ideal.Value.run m' ρ')⟩
  · obtain ⟨h0, h1, h2, h3⟩ := heq c
    rw [h0, h1, h2, h3]
    exact keys_eq m c
  · obtain ⟨h0, h1, h2, h3⟩ := heq c
    rw [h0, h1, h2]
    exact values_eq m c

end Cert.Mem

end
-- ==== Proof.ProjSpec.lean ====
/- The projections before the two attentions, one token's row at a time: the query and key heads of the dilated attention,
   normalized and rotated, and the values of both. -/
module

public import proofs.«01_k».proof.Proof.PostSpec

@[expose] public section

noncomputable section

namespace Cert.Proj

open Idealize.ShloMosaic
open Cert.Post (rms c1024 c128 eps)

def c64 : EReal := Ideal.ofBits .f32 0x3C800000#32

/-- A lane over the root of a mean square, times a gain. -/
def part (x s g : EReal) : EReal := x * Ideal.rsqrt (s * c64 + eps) * g

/-- The lanes of the two hundred and fifty-six that hold lane `L`. -/
def beside (L : Fin 512) (j : Fin 256) : Fin 512 := ⟨L.val / 256 * 256 + j.val, by omega⟩

/-- The lane half a chunk of 128 away. -/
def across (L : Fin 512) : Fin 512 := ⟨L.val / 128 * 128 + (L.val % 128 + 64) % 128, by omega⟩

/-- A row's lanes normalized: the sums of squares by a product with a matrix. -/
def normed (p : Fin 512 → EReal) (ones : Fin 256 → Fin 256 → EReal) (g : Fin 512 → EReal) (L : Fin 512) : EReal :=
  part (p L) (∑ j, p (beside L j) * p (beside L j) * ones j ⟨L.val % 256, by omega⟩) (g L)

/-- A row's lanes rotated against the lanes half a chunk away. -/
def turned (y : Fin 512 → EReal) (cos sin : Fin 128 → EReal) (L : Fin 512) : EReal :=
  y L * cos ⟨L.val % 128, by omega⟩ + y (across L) * sin ⟨L.val % 128, by omega⟩

end Cert.Proj

end
-- ==== Proof.ProjTile.lean ====
/- What a tile of the projections' kernel computes, lane by lane. -/
module

public import proofs.«01_k».proof.Proof.Gen.Kernel4Ideal.Value
public import proofs.«01_k».proof.Proof.ProjSpec
public import Idealize.ShloMosaic.Lib.Claim
public import Idealize.ShloMosaic.Lib.Pointwise
public import Idealize.ShloMosaic.Lib.Pipeline.ValueKit

@[expose] public section

noncomputable section

namespace Cert.Proj

open Cert.Post (rms c1024 c128 eps)
open Idealize.ShloMosaic Idealize.ShloMosaic.TcCoe
open Cert.Kernel4Ideal Cert.Kernel4Ideal.Gen Cert.Kernel4Ideal.Value

/-! ## A chunk of 128 lanes -/

section
variable (C S : FVec Ideal S1024x128 .f32) (X Q : FVec Ideal S1024x256 .f32) (G : Vec Ideal S1x128 .f32)

/-- The lane half a chunk away, within the chunk. -/
def half (l : Fin 128) : Fin 128 := ⟨(l.val + 64) % 128, by omega⟩

/-- The lane `l` of the first or the second chunk. -/
def side (i : Fin 2) (l : Fin 128) : Fin 256 := ⟨i.val * 128 + l.val, by omega⟩

/-- A chunk's lane, rotated against the lane half a chunk away. -/
def chunk (i : Fin 2) (κ : Fin 1024) (l : Fin 128) : EReal :=
  part (X (ix2 κ (side i l))) (Q (ix2 κ (side i l))) (G (ix2 0 l)) * C (ix2 κ l)
    + part (X (ix2 κ (side i (half l)))) (Q (ix2 κ (side i (half l)))) (G (ix2 0 (half l))) * S (ix2 κ l)

theorem first (i : Fin 2) (hi : i.val = 0) (l : Fin 128) : side i l = ⟨l.val, by omega⟩ := by
  refine Fin.ext ?_
  show i.val * 128 + l.val = l.val
  omega

theorem second (i : Fin 2) (hi : i.val = 1) (l : Fin 128) : side i l = ⟨128 + l.val, by omega⟩ := by
  refine Fin.ext ?_
  show i.val * 128 + l.val = 128 + l.val
  omega

theorem pay9_apply (κ : Fin 1024) (l : Fin 128) : (k0_pay9 C S X Q G (ix2 κ l) : EReal) = chunk C S X Q G 0 κ l := by
  unfold chunk
  rw [first 0 rfl, first 0 rfl]
  pointwise [k0_pay9]
  rfl

theorem pay10_apply (κ : Fin 1024) (l : Fin 128) : (k0_pay10 C S X Q G (ix2 κ l) : EReal) = chunk C S X Q G 1 κ l := by
  unfold chunk
  rw [second 1 rfl, second 1 rfl]
  pointwise [k0_pay10]
  rfl

theorem pay15_apply (κ : Fin 1024) (l : Fin 128) : (k0_pay15 C S X Q G (ix2 κ l) : EReal) = chunk C S X Q G 1 κ l := by
  unfold chunk
  rw [second 1 rfl, second 1 rfl]
  pointwise [k0_pay15]
  rfl

theorem pay20_apply (κ : Fin 1024) (l : Fin 128) : (k0_pay20 C S X Q G (ix2 κ l) : EReal) = chunk C S X Q G 1 κ l := by
  unfold chunk
  rw [second 1 rfl, second 1 rfl]
  pointwise [k0_pay20]
  rfl

theorem pay26_apply (κ : Fin 1024) (l : Fin 128) : (k0_pay26 C S X Q G (ix2 κ l) : EReal) = chunk C S X Q G 1 κ l := by
  unfold chunk
  rw [second 1 rfl, second 1 rfl]
  pointwise [k0_pay26]
  rfl

theorem pay14_apply (κ : Fin 1024) (l : Fin 128) : (k0_pay14 C S X (extractStridedSlice S1024x128 ![0, 0] Q slices_S1024x256_o0_0_S1024x128) G (ix2 κ l) : EReal) = chunk C S X Q G 0 κ l := by
  unfold chunk
  rw [first 0 rfl, first 0 rfl]
  pointwise [k0_pay14]
  rfl

theorem pay19_apply (κ : Fin 1024) (l : Fin 128) : (k0_pay19 C S X (extractStridedSlice S1024x128 ![0, 0] Q slices_S1024x256_o0_0_S1024x128) (Scalar.ofBits .f32 0x3C800000#32) G (ix2 κ l) : EReal) = chunk C S X Q G 0 κ l := by
  unfold chunk
  rw [first 0 rfl, first 0 rfl]
  pointwise [k0_pay19]
  rfl

theorem pay25_apply (κ : Fin 1024) (l : Fin 128) : (k0_pay25 C S X (extractStridedSlice S1024x128 ![0, 0] Q slices_S1024x256_o0_0_S1024x128) k0_pay24 G (ix2 κ l) : EReal) = chunk C S X Q G 0 κ l := by
  unfold chunk
  rw [first 0 rfl, first 0 rfl]
  pointwise [k0_pay25, k0_pay24]
  rfl

end

/-! ## The sums of squares -/

section
variable (P : FVec Ideal S1024x2048 .f32) (O : Vec Ideal S256x256 .bf16)

/-- The sums of squares of a chunk pair's lanes, from the lane `b` on, by a product with a matrix. -/
def squares (b : ℕ) (hb : b + 256 ≤ 2048) (κ : Fin 1024) (k : Fin 256) : EReal :=
  ∑ j : Fin 256, (P (ix2 κ ⟨b + j.val, by omega⟩) : EReal) * P (ix2 κ ⟨b + j.val, by omega⟩) * O (ix2 j k)

theorem pay12_apply (κ : Fin 1024) (k : Fin 256) : (k0_pay12 P O (ix2 κ k) : EReal) = squares P O 256 (by omega) κ k := by
  pointwise [k0_pay12, k0_pay11]
  rfl

theorem pay11_apply (κ : Fin 1024) (k : Fin 256) : (k0_pay11 P (ix2 κ k) : EReal) = P (ix2 κ ⟨256 + k.val, by omega⟩) := by
  pointwise [k0_pay11]

theorem pay17_apply (κ : Fin 1024) (k : Fin 256) : (k0_pay17 P O (ix2 κ k) : EReal) = squares P O 512 (by omega) κ k := by
  pointwise [k0_pay17, k0_pay16]
  rfl

theorem pay16_apply (κ : Fin 1024) (k : Fin 256) : (k0_pay16 P (ix2 κ k) : EReal) = P (ix2 κ ⟨512 + k.val, by omega⟩) := by
  pointwise [k0_pay16]

theorem pay22_apply (κ : Fin 1024) (k : Fin 256) : (k0_pay22 P O (ix2 κ k) : EReal) = squares P O 768 (by omega) κ k := by
  pointwise [k0_pay22, k0_pay21]
  rfl

theorem pay21_apply (κ : Fin 1024) (k : Fin 256) : (k0_pay21 P (ix2 κ k) : EReal) = P (ix2 κ ⟨768 + k.val, by omega⟩) := by
  pointwise [k0_pay21]

end

theorem pay8_apply (x0 : Vec Ideal S1024x1024 .f32) (x1 : Vec Ideal S1x1024 .f32) (x2 : Vec Ideal S1024x2048 .bf16) (O : Vec Ideal S256x256 .bf16)
    (κ : Fin 1024) (k : Fin 256) : (k0_pay8 x0 x1 x2 O (ix2 κ k) : EReal) = squares (k0_pay2 x0 x1 x2) O 0 (by omega) κ k := by
  unfold squares
  generalize hP : k0_pay2 x0 x1 x2 = P
  pointwise [k0_pay8, k0_pay7, hP]

theorem pay7_apply (x0 : Vec Ideal S1024x1024 .f32) (x1 : Vec Ideal S1x1024 .f32) (x2 : Vec Ideal S1024x2048 .bf16)
    (κ : Fin 1024) (k : Fin 256) : (k0_pay7 x0 x1 x2 (ix2 κ k) : EReal) = k0_pay2 x0 x1 x2 (ix2 κ ⟨0 + k.val, by omega⟩) := by
  generalize hP : k0_pay2 x0 x1 x2 = P
  pointwise [k0_pay7, hP]

/-! ## The heads' tiles -/

section
variable (C S : FVec Ideal S1024x128 .f32) (P : FVec Ideal S1024x2048 .f32) (O : Vec Ideal S256x256 .bf16) (G : Vec Ideal S1x512 .f32)

/-- Lane `l` of the chunk `i`. -/
def lane (i : Fin 4) (l : Fin 128) : Fin 512 := ⟨i.val * 128 + l.val, by omega⟩

/-- A tile of heads: the columns from `b` on normalized, then rotated. -/
def heads (b : ℕ) (hb : b + 512 ≤ 2048) : Vec Ideal S1024x512 .f32 := fun y =>
  turned (normed (fun l => P (ix2 (y 0) ⟨b + l.val, by omega⟩)) (fun j k => O (ix2 j k)) fun l => G (ix2 0 l))
    (fun d => C (ix2 (y 0) d)) (fun d => S (ix2 (y 0) d)) (y 1)

theorem heads_lane (b : ℕ) (hb : b + 512 ≤ 2048) (i : Fin 4) (κ : Fin 1024) (l : Fin 128) (X Q : FVec Ideal S1024x256 .f32) (G' : Vec Ideal S1x128 .f32)
    (hX : ∀ k, (X (ix2 κ k) : EReal) = P (ix2 κ ⟨b + i.val / 2 * 256 + k.val, by omega⟩))
    (hQ : ∀ k, (Q (ix2 κ k) : EReal) = squares P O (b + i.val / 2 * 256) (by omega) κ k)
    (hG : ∀ l, (G' (ix2 0 l) : EReal) = G (ix2 0 (lane i l))) :
    chunk C S X Q G' ⟨i.val % 2, by omega⟩ κ l = heads C S P O G b hb (ix2 κ (lane i l)) := by
  have h1 : ∀ l, part (X (ix2 κ (side ⟨i.val % 2, by omega⟩ l))) (Q (ix2 κ (side ⟨i.val % 2, by omega⟩ l))) (G' (ix2 0 l))
      = normed (fun l => P (ix2 κ ⟨b + l.val, by omega⟩)) (fun j k => O (ix2 j k)) (fun l => G (ix2 0 l)) (lane i l) := by
    intro l
    rw [hX, hQ, hG]
    unfold normed squares
    have e1 : (⟨b + i.val / 2 * 256 + (side ⟨i.val % 2, by omega⟩ l).val, by omega⟩ : Fin 2048) = ⟨b + (lane i l).val, by omega⟩ := by
      refine Fin.ext ?_
      show b + i.val / 2 * 256 + (i.val % 2 * 128 + l.val) = b + (i.val * 128 + l.val)
      omega
    have e2 : side ⟨i.val % 2, by omega⟩ l = ⟨(lane i l).val % 256, by omega⟩ := by
      refine Fin.ext ?_
      show i.val % 2 * 128 + l.val = (i.val * 128 + l.val) % 256
      omega
    have e3 : ∀ j : Fin 256, (⟨b + i.val / 2 * 256 + j.val, by omega⟩ : Fin 2048) = ⟨b + (beside (lane i l) j).val, by omega⟩ := by
      intro j
      refine Fin.ext ?_
      show b + i.val / 2 * 256 + j.val = b + ((i.val * 128 + l.val) / 256 * 256 + j.val)
      omega
    rw [e1, e2]
    simp only [e3]
  have h2 : across (lane i l) = lane i (half l) := by
    refine Fin.ext ?_
    show (i.val * 128 + l.val) / 128 * 128 + ((i.val * 128 + l.val) % 128 + 64) % 128 = i.val * 128 + (l.val + 64) % 128
    omega
  have h3 : (⟨(lane i l).val % 128, by omega⟩ : Fin 128) = l := by
    refine Fin.ext ?_
    show (i.val * 128 + l.val) % 128 = l.val
    omega
  show _ = turned _ _ _ (lane i l)
  unfold chunk turned
  rw [h1, h1, h2, h3]
  rfl

theorem tile_index (x : S1024x128.Idx) : x = (ix2 (x 0) (x 1) : S1024x128.Idx) := by
  funext a
  match a with
  | ⟨0, _⟩ => rfl
  | ⟨1, _⟩ => rfl

/-- A chunk's values, at the tile's lanes. -/
theorem of_lanes (i : Fin 4) {f : S1024x128.Idx → EReal} {E : S1024x512.Idx → EReal} {r : S1024x128.Idx → S1024x512.Idx}
    (e : ∀ κ l, r (ix2 κ l) = ix2 κ (lane i l)) (h : ∀ κ l, f (ix2 κ l) = E (ix2 κ (lane i l))) (x : S1024x128.Idx) : f x = E (r x) := by
  exact (congrArg f (tile_index x)).trans ((h _ _).trans (congrArg E ((e _ _).symm.trans (congrArg r (tile_index x).symm))))

theorem idx7 (κ : Fin 1024) (l : Fin 128) : r0_7.idx (ix2 κ l : S1024x128.Idx) = (ix2 κ (lane 0 l) : S1024x512.Idx) := by
  funext a
  match a with
  | ⟨0, _⟩ => exact Fin.ext (show 0 + 1 * κ.val = κ.val by omega)
  | ⟨1, _⟩ => exact Fin.ext (show 0 + 1 * l.val = 0 * 128 + l.val by omega)
theorem idx9 (κ : Fin 1024) (l : Fin 128) : r0_9.idx (ix2 κ l : S1024x128.Idx) = (ix2 κ (lane 1 l) : S1024x512.Idx) := by
  funext a
  match a with
  | ⟨0, _⟩ => exact Fin.ext (show 0 + 1 * κ.val = κ.val by omega)
  | ⟨1, _⟩ => exact Fin.ext (show 128 + 1 * l.val = 1 * 128 + l.val by omega)
theorem idx11 (κ : Fin 1024) (l : Fin 128) : r0_11.idx (ix2 κ l : S1024x128.Idx) = (ix2 κ (lane 2 l) : S1024x512.Idx) := by
  funext a
  match a with
  | ⟨0, _⟩ => exact Fin.ext (show 0 + 1 * κ.val = κ.val by omega)
  | ⟨1, _⟩ => exact Fin.ext (show 256 + 1 * l.val = 2 * 128 + l.val by omega)
theorem idx13 (κ : Fin 1024) (l : Fin 128) : r0_13.idx (ix2 κ l : S1024x128.Idx) = (ix2 κ (lane 3 l) : S1024x512.Idx) := by
  funext a
  match a with
  | ⟨0, _⟩ => exact Fin.ext (show 0 + 1 * κ.val = κ.val by omega)
  | ⟨1, _⟩ => exact Fin.ext (show 384 + 1 * l.val = 3 * 128 + l.val by omega)

theorem gain0 (l : Fin 128) : (View.ld G r0_6 (ix2 0 l : S1x128.Idx) : EReal) = G (ix2 0 (lane 0 l)) := by
  refine congrArg G (funext fun a => ?_)
  match a with
  | ⟨0, _⟩ => rfl
  | ⟨1, _⟩ => exact Fin.ext (show 0 + 1 * l.val = 0 * 128 + l.val by omega)
theorem gain1 (l : Fin 128) : (View.ld G r0_8 (ix2 0 l : S1x128.Idx) : EReal) = G (ix2 0 (lane 1 l)) := by
  refine congrArg G (funext fun a => ?_)
  match a with
  | ⟨0, _⟩ => rfl
  | ⟨1, _⟩ => exact Fin.ext (show 128 + 1 * l.val = 1 * 128 + l.val by omega)
theorem gain2 (l : Fin 128) : (View.ld G r0_10 (ix2 0 l : S1x128.Idx) : EReal) = G (ix2 0 (lane 2 l)) := by
  refine congrArg G (funext fun a => ?_)
  match a with
  | ⟨0, _⟩ => rfl
  | ⟨1, _⟩ => exact Fin.ext (show 256 + 1 * l.val = 2 * 128 + l.val by omega)
theorem gain3 (l : Fin 128) : (View.ld G r0_12 (ix2 0 l : S1x128.Idx) : EReal) = G (ix2 0 (lane 3 l)) := by
  refine congrArg G (funext fun a => ?_)
  match a with
  | ⟨0, _⟩ => rfl
  | ⟨1, _⟩ => exact Fin.ext (show 384 + 1 * l.val = 3 * 128 + l.val by omega)

end

section
variable (C S : FVec Ideal S1024x128 .f32) (x0 : Vec Ideal S1024x1024 .f32) (x1 : Vec Ideal S1x1024 .f32) (x2 : Vec Ideal S1024x2048 .bf16)
  (O : Vec Ideal S256x256 .bf16) (G : Vec Ideal S1x512 .f32)

theorem queries_canon (y : S1024x512.Idx) :
    View.canon [⟨r0_13, k0_pay15 C S (k0_pay11 (k0_pay2 x0 x1 x2)) (k0_pay12 (k0_pay2 x0 x1 x2) O) (View.ld G r0_12)⟩,
      ⟨r0_11, k0_pay14 C S (k0_pay11 (k0_pay2 x0 x1 x2)) (k0_pay13 (k0_pay2 x0 x1 x2) O) (View.ld G r0_10)⟩,
      ⟨r0_9, k0_pay10 C S (k0_pay7 x0 x1 x2) (k0_pay8 x0 x1 x2 O) (View.ld G r0_8)⟩,
      ⟨r0_7, k0_pay9 C S (k0_pay7 x0 x1 x2) (k0_pay8 x0 x1 x2 O) (View.ld G r0_6)⟩] y
      = heads C S (k0_pay2 x0 x1 x2) O G 0 (by omega) y := by
  refine View.canon_apply_of_pieces (heads C S (k0_pay2 x0 x1 x2) O G 0 (by omega)) _ ?_ y (cover0_16 _ _ _ _ y)
  intro pc hpc
  rcases List.mem_cons.mp hpc with rfl | hpc
  · exact of_lanes 3 idx13 fun κ l => (pay15_apply C S _ _ _ κ l).trans
      (heads_lane C S (k0_pay2 x0 x1 x2) O G 0 (by omega) 3 κ l _ _ _ (pay11_apply _ _) (pay12_apply _ O _) (gain3 G))
  rcases List.mem_cons.mp hpc with rfl | hpc
  · exact of_lanes 2 idx11 fun κ l => (pay14_apply C S _ _ _ κ l).trans
      (heads_lane C S (k0_pay2 x0 x1 x2) O G 0 (by omega) 2 κ l _ _ _ (pay11_apply _ _) (pay12_apply _ O _) (gain2 G))
  rcases List.mem_cons.mp hpc with rfl | hpc
  · exact of_lanes 1 idx9 fun κ l => (pay10_apply C S _ _ _ κ l).trans
      (heads_lane C S (k0_pay2 x0 x1 x2) O G 0 (by omega) 1 κ l _ _ _ (pay7_apply x0 x1 x2 _) (pay8_apply x0 x1 x2 O _) (gain1 G))
  rcases List.mem_cons.mp hpc with rfl | hpc
  · exact of_lanes 0 idx7 fun κ l => (pay9_apply C S _ _ _ κ l).trans
      (heads_lane C S (k0_pay2 x0 x1 x2) O G 0 (by omega) 0 κ l _ _ _ (pay7_apply x0 x1 x2 _) (pay8_apply x0 x1 x2 O _) (gain0 G))
  nomatch hpc

theorem keys_canon (P : FVec Ideal S1024x2048 .f32) (y : S1024x512.Idx) :
    View.canon [⟨r0_13, k0_pay26 C S (k0_pay21 P) (k0_pay22 P O) (View.ld G r0_12)⟩,
      ⟨r0_11, k0_pay25 C S (k0_pay21 P) (k0_pay23 P O) k0_pay24 (View.ld G r0_10)⟩,
      ⟨r0_9, k0_pay20 C S (k0_pay16 P) (k0_pay17 P O) (View.ld G r0_8)⟩,
      ⟨r0_7, k0_pay19 C S (k0_pay16 P) (k0_pay18 P O) (Scalar.ofBits .f32 0x3C800000#32) (View.ld G r0_6)⟩] y
      = heads C S P O G 512 (by omega) y := by
  refine View.canon_apply_of_pieces (heads C S P O G 512 (by omega)) _ ?_ y (cover0_17 _ _ _ _ y)
  intro pc hpc
  rcases List.mem_cons.mp hpc with rfl | hpc
  · exact of_lanes 3 idx13 fun κ l => (pay26_apply C S _ _ _ κ l).trans
      (heads_lane C S P O G 512 (by omega) 3 κ l _ _ _ (pay21_apply _ _) (pay22_apply _ O _) (gain3 G))
  rcases List.mem_cons.mp hpc with rfl | hpc
  · exact of_lanes 2 idx11 fun κ l => (pay25_apply C S _ _ _ κ l).trans
      (heads_lane C S P O G 512 (by omega) 2 κ l _ _ _ (pay21_apply _ _) (pay22_apply _ O _) (gain2 G))
  rcases List.mem_cons.mp hpc with rfl | hpc
  · exact of_lanes 1 idx9 fun κ l => (pay20_apply C S _ _ _ κ l).trans
      (heads_lane C S P O G 512 (by omega) 1 κ l _ _ _ (pay16_apply _ _) (pay17_apply _ O _) (gain1 G))
  rcases List.mem_cons.mp hpc with rfl | hpc
  · exact of_lanes 0 idx7 fun κ l => (pay19_apply C S _ _ _ κ l).trans
      (heads_lane C S P O G 512 (by omega) 0 κ l _ _ _ (pay16_apply _ _) (pay17_apply _ O _) (gain0 G))
  nomatch hpc

end

/-! ## The tiles -/

section
variable (x0 : Vec Ideal S1024x1024 .f32) (x1 : Vec Ideal S1x1024 .f32) (x2 : Vec Ideal S1024x2048 .bf16) (x3 x4 : Vec Ideal S1x512 .f32)
  (x5 : Vec Ideal S1x256 .f32) (x6 : Vec Ideal S1x128 .f32) (x7 : Vec Ideal S256x1024 .bf16) (x8 : Vec Ideal S128x1024 .bf16)
  (x9 : Vec Ideal S128x512 .bf16) (x10 x11 : Vec Ideal S1x1024 .f32) (x12 x13 : Vec Ideal S256x256 .bf16) (x14 x15 : Vec Ideal S2x1024x128 .f32)

theorem product (κ : Fin 1024) (l : Fin 2048) :
    (k0_pay2 x0 x1 x2 (ix2 κ l) : EReal) = ∑ i, rms c1024 (fun j => x0 (ix2 κ j)) (fun i => x1 (ix2 0 i)) i * x2 (ix2 i l) := by
  pointwise [k0_pay2]
  rfl

theorem zero2 : (![0, 0] : Fin 2 → Nat) = fun _ => 0 := funext fun a => by fin_cases a <;> rfl

theorem whole0 {e : EltTy} (x : Vec Ideal S1024x1024 e) : View.ld x r0_0 = x := View.ld_unit_zero zero2 _ x
theorem whole1 {e : EltTy} (x : Vec Ideal S1x1024 e) : View.ld x r0_1 = x := View.ld_unit_zero zero2 _ x
theorem whole2 {e : EltTy} (x : Vec Ideal S1024x2048 e) : View.ld x r0_2 = x := View.ld_unit_zero zero2 _ x
theorem whole5 {e : EltTy} (x : Vec Ideal S256x256 e) : View.ld x r0_5 = x := View.ld_unit_zero zero2 _ x
theorem whole16 {e : EltTy} (x : Vec Ideal S1x128 e) : View.ld x r0_16 = x := View.ld_unit_zero zero2 _ x
theorem whole19 {e : EltTy} (x : Vec Ideal S128x512 e) : View.ld x r0_19 = x := View.ld_unit_zero zero2 _ x

theorem cosines (κ : Fin 1024) (d : Fin 128) : (k0_pay3 (View.ld x14 r0_3) (ix2 κ d) : EReal) = x14 (ix3 0 κ d) := by
  pointwise [k0_pay3]

theorem sines (κ : Fin 1024) (d : Fin 128) : (k0_pay4 (View.ld x14 r0_4) (ix2 κ d) : EReal) = x14 (ix3 1 κ d) := by
  pointwise [k0_pay4]

/-- A tile of heads, from the operands' blocks. -/
def tile (b : ℕ) (hb : b + 512 ≤ 2048) (G : Vec Ideal S1x512 .f32) (κ : Fin 1024) : Fin 512 → EReal :=
  turned (normed (fun l => ∑ i, rms c1024 (fun j => x0 (ix2 κ j)) (fun i => x1 (ix2 0 i)) i * x2 (ix2 i ⟨b + l.val, by omega⟩))
    (fun j k => x12 (ix2 j k)) fun l => G (ix2 0 l)) (fun d => x14 (ix3 0 κ d)) fun d => x14 (ix3 1 κ d)

theorem heads_tile (b : ℕ) (hb : b + 512 ≤ 2048) (G : Vec Ideal S1x512 .f32) (κ : Fin 1024) (l : Fin 512) :
    heads (k0_pay3 (View.ld x14 r0_3)) (k0_pay4 (View.ld x14 r0_4)) (k0_pay2 x0 x1 x2) x12 G b hb (ix2 κ l)
      = tile x0 x1 x2 x12 x14 b hb G κ l := by
  show turned (normed (fun l => k0_pay2 x0 x1 x2 (ix2 κ ⟨b + l.val, _⟩)) (fun j k => x12 (ix2 j k)) fun l => G (ix2 0 l))
    (fun d => k0_pay3 (View.ld x14 r0_3) (ix2 κ d)) (fun d => k0_pay4 (View.ld x14 r0_4) (ix2 κ d)) l = _
  simp only [product, cosines, sines]
  rfl

theorem queries_tile (κ : Fin 1024) (l : Fin 512) :
    (out0_16 x0 x1 x2 x3 x4 x5 x6 x7 x8 x9 x10 x11 x12 x13 x14 x15 (ix2 κ l) : EReal) = tile x0 x1 x2 x12 x14 0 (by omega) x3 κ l := by
  unfold out0_16 k0_pay92 k0_pay91 k0_pay90 k0_pay87 k0_pay86 k0_pay85
  rw [whole0, whole1, whole2, whole5]
  exact (queries_canon _ _ x0 x1 x2 x12 x3 _).trans (heads_tile x0 x1 x2 x12 x14 0 (by omega) x3 κ l)

theorem keys_tile (κ : Fin 1024) (l : Fin 512) :
    (out0_17 x0 x1 x2 x3 x4 x5 x6 x7 x8 x9 x10 x11 x12 x13 x14 x15 (ix2 κ l) : EReal) = tile x0 x1 x2 x12 x14 512 (by omega) x4 κ l := by
  unfold out0_17 k0_pay94 k0_pay93 k0_pay87 k0_pay86 k0_pay85
  rw [whole0, whole1, whole2, whole5]
  exact (keys_canon _ _ x12 x4 _ _).trans (heads_tile x0 x1 x2 x12 x14 512 (by omega) x4 κ l)

theorem values_tile (κ : Fin 1024) (l : Fin 512) :
    (out0_18 x0 x1 x2 x3 x4 x5 x6 x7 x8 x9 x10 x11 x12 x13 x14 x15 (ix2 κ l) : EReal)
      = ∑ i, rms c1024 (fun j => x0 (ix2 κ j)) (fun i => x1 (ix2 0 i)) i * x2 (ix2 i ⟨l.val + 1024, by omega⟩) := by
  unfold out0_18 k0_pay85
  rw [whole0, whole1, whole2]
  refine (canon18_eq x0 x1 x2 (ix2 κ l)).trans ?_
  exact product x0 x1 x2 κ ⟨l.val + 1024, by omega⟩

theorem latent_product (P : FVec Ideal S1024x2048 .f32) (y : Fin 512) (κ : Fin 1024) :
    (k0_pay35 (k0_pay29 P) x6 x9 (ix2 y κ) : EReal)
      = ∑ i, rms c128 (fun j => P (ix2 κ ⟨1792 + j.val, by omega⟩)) (fun i => x6 (ix2 0 i)) i * x9 (ix2 i y) := by
  pointwise [k0_pay35, k0_pay32, k0_pay29]
  rfl

theorem latent_values_tile (y : Fin 512) (κ : Fin 1024) :
    (out0_21 x0 x1 x2 x3 x4 x5 x6 x7 x8 x9 x10 x11 x12 x13 x14 x15 (ix2 y κ) : EReal)
      = ∑ i, rms c128 (fun j => ∑ i, rms c1024 (fun j => x0 (ix2 κ j)) (fun i => x1 (ix2 0 i)) i * x2 (ix2 i ⟨1792 + j.val, by omega⟩))
          (fun i => x6 (ix2 0 i)) i * x9 (ix2 i y) := by
  unfold out0_21 k0_pay96 k0_pay85
  rw [whole0, whole1, whole2, whole16, whole19, View.canon_unit_zero zero2, latent_product]
  simp only [product]

end

end Cert.Proj

end
-- ==== Proof.ProjAlg.lean ====
/- The dilated attention's heads in lanes and in elements: lanes hold pairs of heads, their rotated halves across from one another. -/
module

public import proofs.«01_k».proof.Proof.ProjSpec

@[expose] public section

noncomputable section

namespace Cert.Proj

open Idealize.ShloMosaic
open Cert.Post (rms c1024 c128 eps)

/-- The element of a pair of heads that a lane holds. -/
def place (d : Fin 128) : Fin 128 :=
  ⟨if d.val < 8 then d.val else if d.val < 16 then d.val + 56 else if d.val < 40 then d.val else if d.val < 64 then d.val + 40
    else if d.val < 72 then d.val - 56 else if d.val < 80 then d.val else if d.val < 104 then d.val - 40 else d.val, by split_ifs <;> omega⟩

/-- The element of all eight heads that a lane holds. -/
def src (L : Fin 512) : Fin 512 := ⟨L.val / 128 * 128 + (place ⟨L.val % 128, by omega⟩).val, by omega⟩

/-- A lane's head and its element there. -/
def hd (L : Fin 512) : Fin 8 := ⟨(src L).val / 64, by omega⟩
def el (L : Fin 512) : Fin 64 := ⟨(src L).val % 64, by omega⟩

/-- A head's element after its norm. -/
def unit (p : Fin 512 → EReal) (g : Fin 64 → EReal) (h : Fin 8) (e : Fin 64) : EReal :=
  part (p ⟨h.val * 64 + e.val, by omega⟩) (∑ i : Fin 64, p ⟨h.val * 64 + i.val, by omega⟩ * p ⟨h.val * 64 + i.val, by omega⟩) (g e)

/-- A head's first sixteen elements rotated. -/
def rotated (n : Fin 64 → EReal) (cos sin : Fin 8 → EReal) (e : Fin 64) : EReal :=
  if h : e.val < 8 then n e * cos ⟨e.val, h⟩ - n ⟨e.val + 8, by omega⟩ * sin ⟨e.val, h⟩
  else if h' : e.val < 16 then n e * cos ⟨e.val - 8, by omega⟩ + n ⟨e.val - 8, by omega⟩ * sin ⟨e.val - 8, by omega⟩
  else n e

/-- The angle by which position `s` turns the pair `k`. -/
def angle (s k : ℕ) : EReal :=
  FloatOps.sitofp (F := Ideal) FTy.f32 (BitVec.ofNat 32 s) * Ideal.pow (Ideal.ofBits FTy.f32 1223959552#32)
    (Ideal.div (-(Ideal.ofBits FTy.f32 1073741824#32 * FloatOps.sitofp (F := Ideal) FTy.f32 (BitVec.ofNat 32 k))) (Ideal.ofBits FTy.f32 1098907648#32))

/-- A token's lane of a product with the weights, its row normalized. -/
def raw (x g : Fin 1024 → EReal) (W : Fin 1024 → Fin 1952 → EReal) (j : Fin 1952) : EReal := ∑ i, rms c1024 x g i * W i j

/-- A token's heads at position `s`, normalized and rotated, in lanes. -/
def headRow (p : Fin 512 → EReal) (g : Fin 64 → EReal) (s : ℕ) (L : Fin 512) : EReal :=
  rotated (unit p g (hd L)) (fun k => Ideal.cos (angle s k.val)) (fun k => Ideal.sin (angle s k.val)) (el L)

/-- The queries' scale: an eighth, over the natural logarithm of two. -/
def qscale : EReal := Ideal.ofBits .f32 1040187392#32 * Ideal.div 1 (Ideal.log (Ideal.ofBits .f32 1073741824#32))

/-- Two chunks' permutation. -/
def place2 (j : Fin 256) : Fin 256 := ⟨j.val / 128 * 128 + (place ⟨j.val % 128, by omega⟩).val, by omega⟩

theorem place2_bij : Function.Bijective place2 := by
  refine (Fintype.bijective_iff_injective_and_card place2).mpr ⟨?_, rfl⟩
  decide +kernel

theorem src_beside : ∀ (a : Fin 2) (j : Fin 256), (src ⟨a.val * 256 + j.val, by omega⟩).val = a.val * 256 + (place2 j).val := by
  decide +kernel

theorem sum_heads (G : Fin 256 → EReal) (h : Fin 4) :
    (∑ j, G (place2 j) * (if (place2 j).val / 64 = h.val then 1 else 0)) = ∑ i : Fin 64, G ⟨h.val * 64 + i.val, by omega⟩ := by
  rw [Function.Bijective.sum_comp place2_bij (fun i => G i * (if i.val / 64 = h.val then 1 else 0)),
    ← Equiv.sum_comp (finProdFinEquiv : Fin 4 × Fin 64 ≃ Fin 256), Fintype.sum_prod_type, Finset.sum_eq_single h]
  · refine Finset.sum_congr rfl fun e _ => ?_
    have e1 : (finProdFinEquiv (h, e) : Fin 256) = ⟨h.val * 64 + e.val, by omega⟩ :=
      Fin.ext (show e.val + 64 * h.val = h.val * 64 + e.val by omega)
    rw [e1, if_pos (show (h.val * 64 + e.val) / 64 = h.val by omega), mul_one]
  · intro a _ ha
    refine Finset.sum_eq_zero fun e _ => ?_
    have e1 : ((finProdFinEquiv (a, e) : Fin 256)).val = e.val + 64 * a.val := rfl
    rw [if_neg (fun hh => ha (Fin.ext (by rw [e1] at hh; omega))), mul_zero]
  · exact fun hn => absurd (Finset.mem_univ h) hn

/-- The lanes' sums of squares are the heads'. -/
theorem sums_sq (p : Fin 512 → EReal) (ones : Fin 256 → Fin 256 → EReal)
    (hones : ∀ j k, ones j k = if (place2 j).val / 64 = (place2 k).val / 64 then 1 else 0) (L : Fin 512) :
    (∑ j, p (src (beside L j)) * p (src (beside L j)) * ones j ⟨L.val % 256, by omega⟩)
      = ∑ i : Fin 64, p ⟨(hd L).val * 64 + i.val, by omega⟩ * p ⟨(hd L).val * 64 + i.val, by omega⟩ := by
  have ha : L.val / 256 < 2 := by omega
  have e1 : ∀ j, src (beside L j) = ⟨L.val / 256 * 256 + (place2 j).val, by omega⟩ := fun j => Fin.ext (src_beside ⟨L.val / 256, ha⟩ j)
  have e2 : (src L).val = L.val / 256 * 256 + (place2 ⟨L.val % 256, by omega⟩).val := by
    have := src_beside ⟨L.val / 256, ha⟩ ⟨L.val % 256, by omega⟩
    rw [← this]
    congr 2
    exact Fin.ext (show L.val = L.val / 256 * 256 + L.val % 256 by omega)
  have hb : (place2 ⟨L.val % 256, by omega⟩).val < 256 := (place2 ⟨L.val % 256, by omega⟩).isLt
  simp only [e1, hones]
  rw [sum_heads (fun i => p ⟨L.val / 256 * 256 + i.val, by omega⟩ * p ⟨L.val / 256 * 256 + i.val, by omega⟩)
    ⟨(place2 ⟨L.val % 256, by omega⟩).val / 64, by omega⟩]
  refine Finset.sum_congr rfl fun i _ => ?_
  have e3 : (⟨L.val / 256 * 256 + ((place2 ⟨L.val % 256, by omega⟩).val / 64 * 64 + i.val), by omega⟩ : Fin 512)
      = ⟨(hd L).val * 64 + i.val, by omega⟩ := Fin.ext (by
    show L.val / 256 * 256 + ((place2 ⟨L.val % 256, by omega⟩).val / 64 * 64 + i.val) = (src L).val / 64 * 64 + i.val
    omega)
  exact congrArg (fun z => p z * p z) e3

theorem normed_unit (p : Fin 512 → EReal) (g : Fin 64 → EReal) (s : EReal) (ones : Fin 256 → Fin 256 → EReal)
    (hones : ∀ j k, ones j k = if (place2 j).val / 64 = (place2 k).val / 64 then 1 else 0) (L : Fin 512) :
    normed (fun l => p (src l)) ones (fun l => g (el l) * s) L = unit p g (hd L) (el L) * s := by
  show part _ (∑ j, p (src (beside L j)) * p (src (beside L j)) * ones j ⟨L.val % 256, by omega⟩) _ = _
  rw [sums_sq p ones hones L]
  have e3 : (⟨(hd L).val * 64 + (el L).val, by omega⟩ : Fin 512) = src L := Fin.ext (by
    show (src L).val / 64 * 64 + (src L).val % 64 = _
    omega)
  simp only [unit, part, e3, mul_assoc]

theorem lo_across : ∀ L : Fin 512, (el L).val < 8 → hd (across L) = hd L ∧ (el (across L)).val = (el L).val + 8 ∧ L.val % 8 = (el L).val := by
  decide +kernel

theorem hi_across : ∀ L : Fin 512, ¬ (el L).val < 8 → (el L).val < 16 →
    hd (across L) = hd L ∧ (el (across L)).val = (el L).val - 8 ∧ L.val % 8 = (el L).val - 8 := by
  decide +kernel

theorem el_lane : ∀ L : Fin 512, (place ⟨L.val % 128, by omega⟩).val % 64 = (el L).val := by
  decide +kernel

/-- Normalizing and rotating in lanes is normalizing and rotating each head. -/
theorem turned_rotated (p : Fin 512 → EReal) (g : Fin 64 → EReal) (s : EReal) (hs : 0 ≤ s) (hs' : s ≠ ⊤)
    (ones : Fin 256 → Fin 256 → EReal)
    (hones : ∀ j k, ones j k = if (place2 j).val / 64 = (place2 k).val / 64 then 1 else 0)
    (cosT sinT : Fin 128 → EReal) (cos sin : Fin 8 → EReal)
    (hcos : ∀ d, cosT d = if (place d).val % 64 < 16 then cos ⟨d.val % 8, by omega⟩ else 1)
    (hsin : ∀ d, sinT d = if (place d).val % 64 < 8 then - sin ⟨d.val % 8, by omega⟩
      else if (place d).val % 64 < 16 then sin ⟨d.val % 8, by omega⟩ else 0) (L : Fin 512) :
    turned (normed (fun l => p (src l)) ones (fun l => g (el l) * s)) cosT sinT L
      = rotated (unit p g (hd L)) cos sin (el L) * s := by
  have e8 : L.val % 128 % 8 = L.val % 8 := by omega
  simp only [turned, normed_unit p g s ones hones, hcos, hsin, el_lane, rotated, e8]
  by_cases h : (el L).val < 8
  · obtain ⟨h1, h2, h3⟩ := lo_across L h
    have e4 : el (across L) = ⟨(el L).val + 8, by omega⟩ := Fin.ext h2
    have e5 : (⟨L.val % 8, by omega⟩ : Fin 8) = ⟨(el L).val, h⟩ := Fin.ext h3
    rw [if_pos (by omega), if_pos h, dif_pos h, h1, e4, e5, sub_eq_add_neg, mul_neg,
      EReal.right_distrib_of_nonneg_of_ne_top hs hs', EReal.neg_mul]
    congr 1
    · exact mul_right_comm _ _ _
    · exact congrArg Neg.neg (mul_right_comm _ _ _)
  · by_cases h' : (el L).val < 16
    · obtain ⟨h1, h2, h3⟩ := hi_across L h h'
      have e4 : el (across L) = ⟨(el L).val - 8, by omega⟩ := Fin.ext h2
      have e5 : (⟨L.val % 8, by omega⟩ : Fin 8) = ⟨(el L).val - 8, by omega⟩ := Fin.ext h3
      rw [if_pos h', if_neg h, if_pos h', dif_neg h, dif_pos h', h1, e4, e5,
        EReal.right_distrib_of_nonneg_of_ne_top hs hs']
      congr 1
      · exact mul_right_comm _ _ _
      · exact mul_right_comm _ _ _
    · rw [if_neg h', if_neg h, if_neg h', dif_neg h, dif_neg h', mul_one, mul_zero, add_zero]

end Cert.Proj

end
-- ==== Proof.ProjTab.lean ====
/- The table of cosines and sines that the projections' launch is handed. -/
module

public import proofs.«01_k».proof.Proof.ProjTile
public import proofs.«01_k».proof.Proof.ProjAlg

@[expose] public section

noncomputable section

namespace Cert.Proj

open Cert.Post (rms c1024 c128 eps)
open Idealize.ShloMosaic Idealize.ShloMosaic.TcCoe
open Cert.Kernel4Ideal Cert.Kernel4Ideal.Gen Cert.Kernel4Ideal.Value

/-- The angles' sizes: a position times a power of the rotation's base. -/
def angles : FVec Ideal S8192x8 .f32 :=
  mulf (broadcastInDim S8192x8 ![0, 1] bcast_S8192x1_S8192x8_0_1 (broadcastInDim S8192x1 ![0] bcast_S8192_S8192x1_0 (sitofp FTy.f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ FTy.f32 1223959552#32))
        (Host.divf (Host.negf (addf (broadcastInDim S8 ![] bcast_S_S8 (constant S_ FTy.f32 0#32))
          (mulf (broadcastInDim S8 ![] bcast_S_S8 (constant S_ FTy.f32 1073741824#32)) (sitofp FTy.f32 (iotaInDim S8 32 0)))))
          (broadcastInDim S8 ![] bcast_S_S8 (constant S_ FTy.f32 1098907648#32))))))

/-- The column of the angles that each lane takes. -/
def picks : IVec S128x1 32 :=
  broadcastInDim S128x1 ![0] bcast_S128_S128x1_0 (select (constantI S128 1 0#1)
    (addi (fun i => lit4 (S128.rowMajor i)) (broadcastInDim S128 ![] bcast_S_S128 (constantI S_ 32 8#32))) fun i => lit4 (S128.rowMajor i))

def cosT : FVec Ideal S8192x128 .f32 :=
  select (broadcastInDim S8192x128 ![1] bcast_S128_S8192x128_1 fun i => lit5 (S128.rowMajor i))
    (Host.gather gather_S8192x8_S128x1_S8192x128_0_1_n_n_1_1_81921 (Host.cos angles) picks)
    (broadcastInDim S8192x128 ![] bcast_S_S8192x128 (constant S_ FTy.f32 1065353216#32))

def sinT : FVec Ideal S8192x128 .f32 :=
  select (broadcastInDim S8192x128 ![1] bcast_S128_S8192x128_1 fun i => lit7 (S128.rowMajor i))
    (Host.negf (Host.gather gather_S8192x8_S128x1_S8192x128_0_1_n_n_1_1_81921 (Host.sin angles) picks))
    (select (broadcastInDim S8192x128 ![1] bcast_S128_S8192x128_1 fun i => lit6 (S128.rowMajor i))
      (Host.gather gather_S8192x8_S128x1_S8192x128_0_1_n_n_1_1_81921 (Host.sin angles) picks)
      (broadcastInDim S8192x128 ![] bcast_S_S8192x128 (constant S_ FTy.f32 0#32)))

theorem angles_apply (i : Fin 8192) (k : Fin 8) : (angles (ix2 i k) : EReal) = angle i.val k.val := by
  pointwise [angles]
  rfl

theorem gather_angles (x : FVec Ideal S8192x8 .f32) (idx : IVec S128x1 32) (i : Fin 8192) (d : Fin 128) :
    Host.gather gather_S8192x8_S128x1_S8192x128_0_1_n_n_1_1_81921 x idx (ix2 i d)
      = x (ix2 i ⟨min (idx (ix2 d 0)).toInt.toNat 7, by omega⟩) := by
  refine congrArg x (funext fun a => Fin.ext ?_)
  match a with
  | ⟨0, _⟩ => exact (Nat.zero_add _)
  | ⟨1, _⟩ =>
    show min (idx _).toInt.toNat 7 + 0 = min (idx (ix2 d 0)).toInt.toNat 7
    rw [Nat.add_zero]
    congr 4
    funext b
    match b with
    | ⟨0, _⟩ => rfl
    | ⟨1, _⟩ => rfl

theorem rowMajor_128 (d : Fin 128) : S128.rowMajor (ix1 d) = (d : Fin 128) :=
  Fin.ext ((by decide +kernel : ∀ d : Fin 128, (S128.rowMajor (ix1 d)).val = d.val) d)

theorem lit4_apply : ∀ d : Fin 128, min (lit4 d).toInt.toNat 7 = d.val % 8 := by decide +kernel
theorem lit5_apply : ∀ d : Fin 128, lit5 d = if (place d).val % 64 < 16 then 1#1 else 0#1 := by decide +kernel
theorem lit6_apply : ∀ d : Fin 128, lit6 d = if 8 ≤ (place d).val % 64 ∧ (place d).val % 64 < 16 then 1#1 else 0#1 := by decide +kernel
theorem lit7_apply : ∀ d : Fin 128, lit7 d = if (place d).val % 64 < 8 then 1#1 else 0#1 := by decide +kernel

theorem picked (x : FVec Ideal S8192x8 .f32) (i : Fin 8192) (d : Fin 128) :
    Host.gather gather_S8192x8_S128x1_S8192x128_0_1_n_n_1_1_81921 x picks (ix2 i d) = x (ix2 i ⟨d.val % 8, by omega⟩) := by
  refine (gather_angles x picks i d).trans (congrArg (fun z => x (ix2 i z)) (Fin.ext ?_))
  show min (lit4 (S128.rowMajor (ix1 d))).toInt.toNat 7 = _
  rw [rowMajor_128]
  exact lit4_apply d

theorem one_f32 : (Ideal.ofBits .f32 1065353216#32 : EReal) = 1 := by
  pointwise

theorem cosT_apply (i : Fin 8192) (d : Fin 128) : (cosT (ix2 i d) : EReal)
    = if (place d).val % 64 < 16 then Ideal.cos (angle i.val (d.val % 8)) else 1 := by
  show (if lit5 (S128.rowMajor (ix1 d)) = 1#1 then Host.gather gather_S8192x8_S128x1_S8192x128_0_1_n_n_1_1_81921 (Host.cos angles) picks (ix2 i d)
    else Ideal.ofBits .f32 1065353216#32 : EReal) = _
  rw [rowMajor_128, lit5_apply, picked, one_f32]
  show (if (if (place d).val % 64 < 16 then 1#1 else 0#1 : BitVec 1) = 1#1 then Ideal.cos (angles (ix2 i ⟨d.val % 8, by omega⟩)) else 1 : EReal) = _
  rw [angles_apply]
  split_ifs <;> first | rfl | contradiction

theorem sinT_apply (i : Fin 8192) (d : Fin 128) : (sinT (ix2 i d) : EReal)
    = if (place d).val % 64 < 8 then - Ideal.sin (angle i.val (d.val % 8))
      else if (place d).val % 64 < 16 then Ideal.sin (angle i.val (d.val % 8)) else 0 := by
  show (if lit7 (S128.rowMajor (ix1 d)) = 1#1 then - Host.gather gather_S8192x8_S128x1_S8192x128_0_1_n_n_1_1_81921 (Host.sin angles) picks (ix2 i d)
    else if lit6 (S128.rowMajor (ix1 d)) = 1#1 then Host.gather gather_S8192x8_S128x1_S8192x128_0_1_n_n_1_1_81921 (Host.sin angles) picks (ix2 i d)
    else Ideal.ofBits .f32 0#32 : EReal) = _
  rw [rowMajor_128, lit7_apply, lit6_apply, picked]
  by_cases h : (place d).val % 64 < 8
  · rw [if_pos h, if_pos h, if_pos rfl, ← angles_apply i ⟨d.val % 8, by omega⟩]
    rfl
  · rw [if_neg h, if_neg h, if_neg (show ¬ (0#1 : BitVec 1) = 1#1 by decide)]
    by_cases h' : (place d).val % 64 < 16
    · have e6 : (if 8 ≤ (place d).val % 64 ∧ (place d).val % 64 < 16 then 1#1 else 0#1 : BitVec 1) = 1#1 := if_pos ⟨by omega, h'⟩
      rw [e6, if_pos rfl, if_pos h', ← angles_apply i ⟨d.val % 8, by omega⟩]
      rfl
    · have e6 : (if 8 ≤ (place d).val % 64 ∧ (place d).val % 64 < 16 then 1#1 else 0#1 : BitVec 1) = 0#1 := if_neg (fun hh => h' hh.2)
      rw [e6, if_neg (show ¬ (0#1 : BitVec 1) = 1#1 by decide), if_neg h']
      pointwise

variable (m : (ℓ : Loc nD τ sig) → Buf (Elt Ideal) ℓ) (c : Dev nD)
def buf14 : FVec Ideal S2x8192x128 .f32 := V m c main_v143

set_option maxRecDepth 20000 in
set_option maxHeartbeats 4000000 in
theorem host14 (i : Fin 8192) (l : Fin 128) :
    buf14 m c (ix3 0 i l) = cosT (ix2 i l) := by
  simp only [buf14, V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  simp only [StableHlo.TRef.ofBuf_toBuf]
  pointwise
  rfl

set_option maxRecDepth 20000 in
set_option maxHeartbeats 4000000 in
theorem host14s (i : Fin 8192) (l : Fin 128) :
    buf14 m c (ix3 1 i l) = sinT (ix2 i l) := by
  simp only [buf14, V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  simp only [StableHlo.TRef.ofBuf_toBuf]
  pointwise
  rfl

end Cert.Proj

end
-- ==== Proof.ProjHost.lean ====
/- What the projections' launch is handed: its operands, read off the arguments. -/
module

public import proofs.«01_k».proof.Proof.ProjTile
public import proofs.«01_k».proof.Proof.ProjTab
public import Idealize.ShloMosaic.Lib.StableHlo.RunRead

@[expose] public section

noncomputable section

namespace Cert.Proj

open Cert.Post (rms c1024 c128 eps)
open Idealize.ShloMosaic Idealize.ShloMosaic.TcCoe
open Cert.Kernel4Ideal Cert.Kernel4Ideal.Gen Cert.Kernel4Ideal.Value

theorem gather_gain (x : FVec Ideal S512 .f32) (idx : IVec S512x1 32) (l : Fin 512) :
    Host.gather gather_S512_S512x1_S512_n_0_n_n_0_1_1 x idx (ix1 l) = x (ix1 ⟨min (idx (ix2 l 0)).toInt.toNat 511, by omega⟩) := by
  refine congrArg x (funext fun a => Fin.ext ?_)
  match a with
  | ⟨0, _⟩ =>
    show min (idx _).toInt.toNat 511 + 0 = min (idx (ix2 l 0)).toInt.toNat 511
    rw [Nat.add_zero]
    congr 4
    funext b
    match b with
    | ⟨0, _⟩ => rfl
    | ⟨1, _⟩ => rfl

theorem gather_cols (x : FVec Ideal S1024x512 .f32) (idx : IVec S512x1 32) (i : Fin 1024) (l : Fin 512) :
    Host.gather gather_S1024x512_S512x1_S1024x512_0_1_n_n_1_1_10241 x idx (ix2 i l)
      = x (ix2 i ⟨min (idx (ix2 l 0)).toInt.toNat 511, by omega⟩) := by
  refine congrArg x (funext fun a => Fin.ext ?_)
  match a with
  | ⟨0, _⟩ => exact (Nat.zero_add _)
  | ⟨1, _⟩ =>
    show min (idx _).toInt.toNat 511 + 0 = min (idx (ix2 l 0)).toInt.toNat 511
    rw [Nat.add_zero]
    congr 4
    funext b
    match b with
    | ⟨0, _⟩ => rfl
    | ⟨1, _⟩ => rfl

theorem rowMajor_512 (d : Fin 512) : S512.rowMajor (ix1 d) = (d : Fin 512) :=
  Fin.ext ((by decide +kernel : ∀ d : Fin 512, (S512.rowMajor (ix1 d)).val = d.val) d)

theorem rowMajor_256 (d : Fin 256) : S256.rowMajor (ix1 d) = (d : Fin 256) :=
  Fin.ext ((by decide +kernel : ∀ d : Fin 256, (S256.rowMajor (ix1 d)).val = d.val) d)

theorem lit0_apply : ∀ l : Fin 512, min (lit0 l).toInt.toNat 511 = (src l).val := by decide +kernel

theorem lit2_apply : ∀ j : Fin 256, lit2 j = BitVec.ofNat 32 ((place2 j).val / 64) := by decide +kernel

/-- The element each lane takes. -/
def lanes : IVec S512x1 32 :=
  broadcastInDim S512x1 ![0] bcast_S512_S512x1_0 (select (constantI S512 1 0#1)
    (addi (fun i => lit0 (S512.rowMajor i)) (broadcastInDim S512 ![] bcast_S_S512 (constantI S_ 32 512#32))) fun i => lit0 (S512.rowMajor i))

theorem lanes_src (l : Fin 512) : min (lanes (ix2 l 0)).toInt.toNat 511 = (src l).val := by
  show min (lit0 (S512.rowMajor (ix1 l))).toInt.toNat 511 = _
  rw [rowMajor_512]
  exact lit0_apply l

theorem gain_lanes (x : FVec Ideal S512 .f32) (l : Fin 512) :
    Host.gather gather_S512_S512x1_S512_n_0_n_n_0_1_1 x lanes (ix1 l) = x (ix1 (src l)) :=
  (gather_gain x lanes l).trans (congrArg (fun z => x (ix1 z)) (Fin.ext (lanes_src l)))

theorem cols_lanes (x : FVec Ideal S1024x512 .f32) (i : Fin 1024) (l : Fin 512) :
    Host.gather gather_S1024x512_S512x1_S1024x512_0_1_n_n_1_1_10241 x lanes (ix2 i l) = x (ix2 i (src l)) :=
  (gather_cols x lanes i l).trans (congrArg (fun z => x (ix2 i z)) (Fin.ext (lanes_src l)))

variable (m : (ℓ : Loc nD τ sig) → Buf (Elt Ideal) ℓ) (c : Dev nD)

def arg3 : FVec Ideal S64 .f32 := m ((c.tc : Thread nD τ).loc main_arg3)
def arg4 : FVec Ideal S64 .f32 := m ((c.tc : Thread nD τ).loc main_arg4)

def arg2 : FVec Ideal S1024x1952 .f32 := m ((c.tc : Thread nD τ).loc main_arg2)

/-- The columns of the weights, laid side by side. -/
def joined (x0 x1 : FVec Ideal S1024x512 .f32) (x2 : FVec Ideal S1024x896 .f32) (x3 : FVec Ideal S1024x16 .f32) (x4 : FVec Ideal S1024x48 .f32)
    (x5 : FVec Ideal S1024x16 .f32) (x6 : FVec Ideal S1024x48 .f32) : FVec Ideal S1024x2048 .f32 :=
  concatenate S1024x2048 1 [⟨S1024x512, x0⟩, ⟨S1024x512, x1⟩, ⟨S1024x896, x2⟩, ⟨S1024x16, x3⟩, ⟨S1024x48, x4⟩, ⟨S1024x16, x5⟩, ⟨S1024x48, x6⟩]
    concatenates_S1024x512_S1024x512_S1024x896_S1024x16_S1024x48_S1024x16_S1024x48_S1024x2048_d1

theorem joined_apply (x0 x1 : FVec Ideal S1024x512 .f32) (x2 : FVec Ideal S1024x896 .f32) (x3 : FVec Ideal S1024x16 .f32) (x4 : FVec Ideal S1024x48 .f32)
    (x5 : FVec Ideal S1024x16 .f32) (x6 : FVec Ideal S1024x48 .f32) (i : Fin 1024) (l : Fin 2048) (hl : l.val < 1920) :
    (joined x0 x1 x2 x3 x4 x5 x6 (ix2 i l) : EReal) = if h : l.val < 512 then x0 (ix2 i ⟨l.val, h⟩)
      else if h' : l.val - 512 < 512 then x1 (ix2 i ⟨l.val - 512, h'⟩) else x2 (ix2 i ⟨l.val - 512 - 512, by omega⟩) := by
  pointwise [joined]
  by_cases h : l.val < 512
  · rw [dif_pos h, dif_pos h]
  · by_cases h' : l.val - 512 < 512
    · rw [dif_neg h, dif_neg h, dif_pos h', dif_pos h']
    · rw [dif_neg h, dif_neg h, dif_neg h', dif_neg h', dif_pos (by omega)]

def buf2 : FVec Ideal S1024x2048 .bf16 := V m c main_v36

set_option maxRecDepth 20000 in
set_option maxHeartbeats 4000000 in
theorem host2 (i : Fin 1024) (l : Fin 2048) (hl : l.val < 1920) : (buf2 m c (ix2 i l) : EReal)
    = if h : l.val < 512 then arg2 m c (ix2 i ⟨(src ⟨l.val, h⟩).val, by omega⟩)
      else if h' : l.val - 512 < 512 then arg2 m c (ix2 i ⟨512 + (src ⟨l.val - 512, h'⟩).val, by omega⟩) else arg2 m c (ix2 i ⟨l.val, by omega⟩) := by
  simp only [buf2, V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  refine (joined_apply _ _ _ _ _ _ _ i l hl).trans ?_
  refine dite_congr rfl (fun h => ?_) fun h => dite_congr rfl (fun h' => ?_) fun h' => ?_
  · change StableHlo.upto _ _ _ (Proc.devRef .tc main_v8) _ = _
    after_reads_simp
    refine (cols_lanes (extractStridedSlice S1024x512 ![0, 0] (arg2 m c) slices_S1024x1952_S1024x512_0_0) i ⟨l.val, h⟩).trans ?_
    pointwise
  · change StableHlo.upto _ _ _ (Proc.devRef .tc main_v14) _ = _
    after_reads_simp
    refine (cols_lanes (extractStridedSlice S1024x512 ![0, 512] (arg2 m c) slices_S1024x1952_S1024x512_0_512) i ⟨l.val - 512, h'⟩).trans ?_
    pointwise
  · change StableHlo.upto _ _ _ (Proc.devRef .tc main_v15) _ = _
    after_reads_simp
    refine (show _ = extractStridedSlice S1024x896 ![0, 1024] (arg2 m c) slices_S1024x1952_S1024x896_0_1024 (ix2 i ⟨l.val - 512 - 512, by omega⟩) from rfl).trans ?_
    pointwise
    refine congrArg (arg2 m c) (congrArg (ix2 i) (Fin.ext ?_))
    simp
    omega

theorem one_bit : (FloatOps.uitofp (F := Ideal) FTy.bf16 1#1 : EReal) = 1 := by
  show (((1#1 : BitVec 1).toNat : ℝ) : EReal) = 1
  simp

theorem zero_bit : (FloatOps.uitofp (F := Ideal) FTy.bf16 0#1 : EReal) = 0 := by
  show (((0#1 : BitVec 1).toNat : ℝ) : EReal) = 0
  simp

def buf12 : FVec Ideal S256x256 .bf16 := V m c main_v34
def buf3 : FVec Ideal S1x512 .f32 := V m c main_v49
def buf4 : FVec Ideal S1x512 .f32 := V m c main_v58

set_option maxRecDepth 20000 in
set_option maxHeartbeats 4000000 in
theorem host12 (j k : Fin 256) : (buf12 m c (ix2 j k) : EReal) = if (place2 j).val / 64 = (place2 k).val / 64 then 1 else 0 := by
  simp only [buf12, V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise
  rw [rowMajor_256, rowMajor_256, lit2_apply, lit2_apply]
  have h1 : (place2 j).val < 256 := (place2 j).isLt
  have h2 : (place2 k).val < 256 := (place2 k).isLt
  have e : (BitVec.ofNat 32 ((place2 j).val / 64) = BitVec.ofNat 32 ((place2 k).val / 64)) ↔ (place2 j).val / 64 = (place2 k).val / 64 := by
    refine ⟨fun h => ?_, fun h => by rw [h]⟩
    have := congrArg BitVec.toNat h
    simp only [BitVec.toNat_ofNat] at this
    omega
  by_cases h : (place2 j).val / 64 = (place2 k).val / 64
  · rw [if_pos h, h]
    simp [IntOp.cmpi]
    exact one_bit
  · rw [if_neg h]
    have e' : IntOp.cmpi .eq (BitVec.ofNat 32 ((place2 j).val / 64)) (BitVec.ofNat 32 ((place2 k).val / 64)) = 0#1 := by
      show BitVec.ofBool (BitVec.ofNat 32 ((place2 j).val / 64) == BitVec.ofNat 32 ((place2 k).val / 64)) = 0#1
      rw [beq_eq_false_iff_ne.mpr (fun hh => h (e.mp hh))]
      rfl
    rw [e']
    exact zero_bit

set_option maxRecDepth 20000 in
set_option maxHeartbeats 4000000 in
theorem host3 (l : Fin 512) : (buf3 m c (ix2 0 l) : EReal) = arg3 m c (ix1 (el l)) * qscale := by
  simp only [buf3, V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise
  rw [mul_assoc]
  exact congrArg (· * qscale) (gain_lanes (fun i => arg3 m c (ix1 ⟨(i 0).val % 64, by omega⟩)) l)

set_option maxRecDepth 20000 in
set_option maxHeartbeats 4000000 in
theorem host4 (l : Fin 512) : (buf4 m c (ix2 0 l) : EReal) = arg4 m c (ix1 (el l)) := by
  simp only [buf4, V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise
  exact gain_lanes (fun i => arg4 m c (ix1 ⟨(i 0).val % 64, by omega⟩)) l

def arg0 : FVec Ideal S4x8192x1024 .f32 := m ((c.tc : Thread nD τ).loc main_arg0)
def arg1 : FVec Ideal S1024 .f32 := m ((c.tc : Thread nD τ).loc main_arg1)
def arg6 : FVec Ideal S128 .f32 := m ((c.tc : Thread nD τ).loc main_arg6)
def arg8 : FVec Ideal S128x1024 .f32 := m ((c.tc : Thread nD τ).loc main_arg8)

theorem host0 (r : Fin 32768) (j : Fin 1024) :
    ((V m c main_v184 : FVec Ideal S32768x1024 .f32) (ix2 r j) : EReal) = arg0 m c (ix3 ⟨r.val / 8192, by omega⟩ ⟨r.val % 8192, by omega⟩ j) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise
  rfl

theorem host1 (i : Fin 1024) : ((V m c main_v35 : FVec Ideal S1x1024 .f32) (ix2 0 i) : EReal) = arg1 m c (ix1 i) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise
  rfl

theorem host6 (i : Fin 128) : ((V m c main_v60 : FVec Ideal S1x128 .f32) (ix2 0 i) : EReal) = arg6 m c (ix1 i) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise
  rfl

theorem host9 (i : Fin 128) (y : Fin 512) :
    ((V m c main_v79 : FVec Ideal S128x512 .bf16) (ix2 i y) : EReal) = arg8 m c (ix2 i ⟨y.val / 64 * 128 + (64 + y.val % 64), by omega⟩) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise
  rfl

end Cert.Proj

end
-- ==== Proof.ProjFinal.lean ====
/- The projections' result arrays, from the launch's arguments. -/
module

public import proofs.«01_k».proof.Proof.ProjHost
public import proofs.«01_k».proof.Proof.MlaHost

@[expose] public section

noncomputable section

namespace Cert.Proj

open Cert.Post (rms c1024 c128 eps)
open Idealize.ShloMosaic Idealize.ShloMosaic.TcCoe
open Cert.Kernel4Ideal Cert.Kernel4Ideal.Gen Cert.Kernel4Ideal.Value

variable (m : (ℓ : Loc nD τ sig) → Buf (Elt Ideal) ℓ) (c : Dev nD)

/-- A row's input, and its projection on all the weights. -/
def input (r : Fin 32768) (j : Fin 1024) : EReal := arg0 m c (ix3 ⟨r.val / 8192, by omega⟩ ⟨r.val % 8192, by omega⟩ j)
def projected (r : Fin 32768) (j : Fin 1952) : EReal := raw (input m c r) (fun i => arg1 m c (ix1 i)) (fun i j => arg2 m c (ix2 i j)) j

/-- The results the kernel computes: the queries and keys of the dilated attention, its values, and the latent attention's values,
    transposed. -/
def queryArray : FVec Ideal S32768x512 .f32 := fun y =>
  headRow (fun l => projected m c (y 0) ⟨l.val, by omega⟩) (fun e => arg3 m c (ix1 e)) ((y 0).val % 8192) (y 1) * qscale
def keyArray : FVec Ideal S32768x512 .f32 := fun y =>
  headRow (fun l => projected m c (y 0) ⟨512 + l.val, by omega⟩) (fun e => arg4 m c (ix1 e)) ((y 0).val % 8192) (y 1)
def valueArray : FVec Ideal S32768x512 .f32 := fun y => projected m c (y 0) ⟨1024 + (show Fin 512 from y 1).val, by omega⟩
def latentArray : FVec Ideal S512x32768 .bf16 := fun y =>
  ∑ i, rms c128 (fun j => projected m c (y 1) ⟨1792 + j.val, by omega⟩) (fun i => arg6 m c (ix1 i)) i
    * arg8 m c (ix2 i ⟨(show Fin 512 from y 0).val / 64 * 128 + (64 + (show Fin 512 from y 0).val % 64), by omega⟩)

/-! ## The blocks -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index6 : ∀ t : Fin cfg0.N, win0_6.index t = ![0, 0] := (by decide +kernel : ∀ t : Fin grid0.N, _)
theorem index9 : ∀ t : Fin cfg0.N, win0_9.index t = ![0, 0] := (by decide +kernel : ∀ t : Fin grid0.N, _)
theorem index12 : ∀ t : Fin cfg0.N, win0_12.index t = ![0, 0] := (by decide +kernel : ∀ t : Fin grid0.N, _)
theorem index14 : ∀ t : Fin cfg0.N, win0_14.index t = ![0, t.val % 8, 0] := (by decide +kernel : ∀ t : Fin grid0.N, _)
theorem index16 : ∀ t : Fin cfg0.N, win0_16.index t = ![t.val, 0] := (by decide +kernel : ∀ t : Fin grid0.N, _)
theorem index17 : ∀ t : Fin cfg0.N, win0_17.index t = ![t.val, 0] := (by decide +kernel : ∀ t : Fin grid0.N, _)
theorem index18 : ∀ t : Fin cfg0.N, win0_18.index t = ![t.val, 0] := (by decide +kernel : ∀ t : Fin grid0.N, _)
theorem index21 : ∀ t : Fin cfg0.N, win0_21.index t = ![0, t.val] := (by decide +kernel : ∀ t : Fin grid0.N, _)

theorem point (t : Fin cfg0.N) : t.val < 32 := t.isLt

/-- The row a point's tile row is. -/
def row (t : Fin cfg0.N) (κ : Fin 1024) : Fin 32768 := ⟨t.val * 1024 + κ.val, by have := point t; omega⟩

/-- Its position. -/
def pos (t : Fin cfg0.N) (κ : Fin 1024) : Fin 8192 := ⟨t.val % 8 * 1024 + κ.val, by omega⟩

theorem pos_row (t : Fin cfg0.N) (κ : Fin 1024) : (pos t κ).val = (row t κ).val % 8192 := by
  show t.val % 8 * 1024 + κ.val = (t.val * 1024 + κ.val) % 8192
  omega

section
variable (W : (b : Ref sig .tc) → Buf (Elt Ideal) ((c : Thread nD τ).loc b)) (t : Fin cfg0.N)

theorem read0 (κ : Fin 1024) (j : Fin 1024) :
    (((cfg0.win 0).blk t).view.read (Elt Ideal) (W (Pipeline.arrRef spec0 0)) : Vec Ideal S1024x1024 .f32) (ix2 κ j) = (W main_v184 : Vec Ideal S32768x1024 .f32) (ix2 (row t κ) j) := by
  blk_simp
  refine congrArg (W main_v184) ?_
  blk_ext [index0, row]

theorem read1 (i : Fin 1024) :
    (((cfg0.win 1).blk t).view.read (Elt Ideal) (W (Pipeline.arrRef spec0 1)) : Vec Ideal S1x1024 .f32) (ix2 0 i) = (W main_v35 : Vec Ideal S1x1024 .f32) (ix2 0 i) := by
  blk_simp
  refine congrArg (W main_v35) ?_
  blk_ext [index1]

theorem read2 (i : Fin 1024) (l : Fin 2048) :
    (((cfg0.win 2).blk t).view.read (Elt Ideal) (W (Pipeline.arrRef spec0 2)) : Vec Ideal S1024x2048 .bf16) (ix2 i l) = (W main_v36 : Vec Ideal S1024x2048 .bf16) (ix2 i l) := by
  blk_simp
  refine congrArg (W main_v36) ?_
  blk_ext [index2]

theorem read3 (l : Fin 512) :
    (((cfg0.win 3).blk t).view.read (Elt Ideal) (W (Pipeline.arrRef spec0 3)) : Vec Ideal S1x512 .f32) (ix2 0 l) = (W main_v49 : Vec Ideal S1x512 .f32) (ix2 0 l) := by
  blk_simp
  refine congrArg (W main_v49) ?_
  blk_ext [index3]

theorem read4 (l : Fin 512) :
    (((cfg0.win 4).blk t).view.read (Elt Ideal) (W (Pipeline.arrRef spec0 4)) : Vec Ideal S1x512 .f32) (ix2 0 l) = (W main_v58 : Vec Ideal S1x512 .f32) (ix2 0 l) := by
  blk_simp
  refine congrArg (W main_v58) ?_
  blk_ext [index4]

theorem read6 (i : Fin 128) :
    (((cfg0.win 6).blk t).view.read (Elt Ideal) (W (Pipeline.arrRef spec0 6)) : Vec Ideal S1x128 .f32) (ix2 0 i) = (W main_v60 : Vec Ideal S1x128 .f32) (ix2 0 i) := by
  blk_simp
  refine congrArg (W main_v60) ?_
  blk_ext [index6]

theorem read9 (i : Fin 128) (y : Fin 512) :
    (((cfg0.win 9).blk t).view.read (Elt Ideal) (W (Pipeline.arrRef spec0 9)) : Vec Ideal S128x512 .bf16) (ix2 i y) = (W main_v79 : Vec Ideal S128x512 .bf16) (ix2 i y) := by
  blk_simp
  refine congrArg (W main_v79) ?_
  blk_ext [index9]

theorem read12 (j k : Fin 256) :
    (((cfg0.win 12).blk t).view.read (Elt Ideal) (W (Pipeline.arrRef spec0 12)) : Vec Ideal S256x256 .bf16) (ix2 j k) = (W main_v34 : Vec Ideal S256x256 .bf16) (ix2 j k) := by
  blk_simp
  refine congrArg (W main_v34) ?_
  blk_ext [index12]

theorem read14 (a : Fin 2) (κ : Fin 1024) (d : Fin 128) :
    (((cfg0.win 14).blk t).view.read (Elt Ideal) (W (Pipeline.arrRef spec0 14)) : Vec Ideal S2x1024x128 .f32) (ix3 a κ d) = (W main_v143 : Vec Ideal S2x8192x128 .f32) (ix3 a (pos t κ) d) := by
  blk_simp
  refine congrArg (W main_v143) ?_
  blk_ext [index14, pos]

end

section
variable (t : Fin cfg0.N)

theorem blk0 (κ : Fin 1024) (j : Fin 1024) : ((iblk m c 0 t : Vec Ideal S1024x1024 .f32) (ix2 κ j) : EReal) = input m c (row t κ) j := by
  unfold iblk
  exact (read0 c (V m c) t κ j).trans (host0 m c (row t κ) j)

theorem blk1 (i : Fin 1024) : ((iblk m c 1 t : Vec Ideal S1x1024 .f32) (ix2 0 i) : EReal) = arg1 m c (ix1 i) := by
  unfold iblk
  exact (read1 c (V m c) t i).trans (host1 m c i)

theorem blk2q (i : Fin 1024) (l : Fin 512) :
    ((iblk m c 2 t : Vec Ideal S1024x2048 .bf16) (ix2 i ⟨0 + l.val, by omega⟩) : EReal) = arg2 m c (ix2 i ⟨(src l).val, by omega⟩) := by
  unfold iblk
  refine ((read2 c (V m c) t i _).trans (host2 m c i ⟨0 + l.val, by omega⟩ (by show 0 + l.val < 1920; omega))).trans ?_
  rw [dif_pos (show 0 + l.val < 512 by omega)]
  exact congrArg (fun z : Fin 512 => arg2 m c (ix2 i ⟨(src z).val, by omega⟩)) (Fin.ext (Nat.zero_add _))

theorem blk2k (i : Fin 1024) (l : Fin 512) :
    ((iblk m c 2 t : Vec Ideal S1024x2048 .bf16) (ix2 i ⟨512 + l.val, by omega⟩) : EReal) = arg2 m c (ix2 i ⟨512 + (src l).val, by omega⟩) := by
  unfold iblk
  refine ((read2 c (V m c) t i _).trans (host2 m c i ⟨512 + l.val, by omega⟩ (by show 512 + l.val < 1920; omega))).trans ?_
  rw [dif_neg (show ¬ 512 + l.val < 512 by omega), dif_pos (show 512 + l.val - 512 < 512 by omega)]
  exact congrArg (fun z : Fin 512 => arg2 m c (ix2 i ⟨512 + (src z).val, by omega⟩)) (Fin.ext (show 512 + l.val - 512 = l.val by omega))

theorem blk2v (i : Fin 1024) (l : Fin 2048) (hl : l.val < 1920) (hl' : 1024 ≤ l.val) :
    ((iblk m c 2 t : Vec Ideal S1024x2048 .bf16) (ix2 i l) : EReal) = arg2 m c (ix2 i ⟨l.val, by omega⟩) := by
  unfold iblk
  refine ((read2 c (V m c) t i _).trans (host2 m c i l hl)).trans ?_
  rw [dif_neg (show ¬ l.val < 512 by omega), dif_neg (show ¬ l.val - 512 < 512 by omega)]

theorem blk3 (l : Fin 512) : ((iblk m c 3 t : Vec Ideal S1x512 .f32) (ix2 0 l) : EReal) = arg3 m c (ix1 (el l)) * qscale := by
  unfold iblk
  exact (read3 c (V m c) t l).trans (host3 m c l)

theorem blk4 (l : Fin 512) : ((iblk m c 4 t : Vec Ideal S1x512 .f32) (ix2 0 l) : EReal) = arg4 m c (ix1 (el l)) := by
  unfold iblk
  exact (read4 c (V m c) t l).trans (host4 m c l)

theorem blk6 (i : Fin 128) : ((iblk m c 6 t : Vec Ideal S1x128 .f32) (ix2 0 i) : EReal) = arg6 m c (ix1 i) := by
  unfold iblk
  exact (read6 c (V m c) t i).trans (host6 m c i)

theorem blk9 (i : Fin 128) (y : Fin 512) :
    ((iblk m c 9 t : Vec Ideal S128x512 .bf16) (ix2 i y) : EReal) = arg8 m c (ix2 i ⟨y.val / 64 * 128 + (64 + y.val % 64), by omega⟩) := by
  unfold iblk
  exact (read9 c (V m c) t i y).trans (host9 m c i y)

theorem blk12 (j k : Fin 256) :
    ((iblk m c 12 t : Vec Ideal S256x256 .bf16) (ix2 j k) : EReal) = if (place2 j).val / 64 = (place2 k).val / 64 then (1 : EReal) else 0 := by
  unfold iblk
  exact (read12 c (V m c) t j k).trans (host12 m c j k)

theorem blk14c (κ : Fin 1024) (d : Fin 128) : ((iblk m c 14 t : Vec Ideal S2x1024x128 .f32) (ix3 0 κ d) : EReal)
    = if (place d).val % 64 < 16 then Ideal.cos (angle ((row t κ).val % 8192) (d.val % 8)) else 1 := by
  unfold iblk
  rw [← pos_row]
  exact ((read14 c (V m c) t 0 κ d).trans (host14 m c (pos t κ) d)).trans (cosT_apply (pos t κ) d)

theorem blk14s (κ : Fin 1024) (d : Fin 128) : ((iblk m c 14 t : Vec Ideal S2x1024x128 .f32) (ix3 1 κ d) : EReal)
    = if (place d).val % 64 < 8 then - Ideal.sin (angle ((row t κ).val % 8192) (d.val % 8))
      else if (place d).val % 64 < 16 then Ideal.sin (angle ((row t κ).val % 8192) (d.val % 8)) else 0 := by
  unfold iblk
  rw [← pos_row]
  exact ((read14 c (V m c) t 1 κ d).trans (host14s m c (pos t κ) d)).trans (sinT_apply (pos t κ) d)

end

theorem emb16 (t : Fin cfg0.N) (κ : Fin 1024) (l : Fin 512) : (win0_16.blk t).view.emb (ix2 κ l : S1024x512.Idx) = (ix2 (row t κ) l : S32768x512.Idx) := by
  blk_ext [index16, row]
theorem emb17 (t : Fin cfg0.N) (κ : Fin 1024) (l : Fin 512) : (win0_17.blk t).view.emb (ix2 κ l : S1024x512.Idx) = (ix2 (row t κ) l : S32768x512.Idx) := by
  blk_ext [index17, row]
theorem emb18 (t : Fin cfg0.N) (κ : Fin 1024) (l : Fin 512) : (win0_18.blk t).view.emb (ix2 κ l : S1024x512.Idx) = (ix2 (row t κ) l : S32768x512.Idx) := by
  blk_ext [index18, row]
theorem emb21 (t : Fin cfg0.N) (y : Fin 512) (κ : Fin 1024) : (win0_21.blk t).view.emb (ix2 y κ : S512x1024.Idx) = (ix2 y (row t κ) : S512x32768.Idx) := by
  blk_ext [index21, row]

/-! ## The scales -/

theorem ofBits_eighth : Ideal.ofBits FTy.f32 1040187392#32 = ((1 / 8 : ℝ) : EReal) := by
  simp only [Ideal.ofBits, Ideal.ieee]
  rw [if_neg (by decide), if_neg (by decide), if_neg (by decide)]
  rw [show (BitVec.extractLsb' 23 8 1040187392#32).toNat = 124 from by decide,
    show (BitVec.extractLsb' 0 23 1040187392#32).toNat = 0 from by decide]
  norm_num

theorem qscale_eq : qscale = ((1 / 8 * (1 / Real.log 2) : ℝ) : EReal) := by
  rw [qscale, ofBits_eighth, Mla.log_scale, ← EReal.coe_mul]

theorem qscale_nonneg : 0 ≤ qscale := by
  rw [qscale_eq]
  exact EReal.coe_nonneg.mpr (mul_nonneg (by norm_num) (div_nonneg zero_le_one (Real.log_nonneg (by norm_num))))

theorem qscale_ne_top : qscale ≠ ⊤ := by
  rw [qscale_eq]
  exact EReal.coe_ne_top _

/-! ## The tiles -/

section
variable (t : Fin cfg0.N)

theorem queries_block (κ : Fin 1024) (l : Fin 512) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 κ l) : EReal)
      = queryArray m c (ix2 (row t κ) l) := by
  rw [queries_tile]
  unfold tile
  simp only [blk0, blk1, blk2q, blk3, blk12, blk14c, blk14s]
  exact turned_rotated (fun l => projected m c (row t κ) ⟨l.val, by omega⟩) (fun e => arg3 m c (ix1 e)) qscale qscale_nonneg qscale_ne_top
    _ (fun _ _ => rfl) _ _ (fun k => Ideal.cos (angle ((row t κ).val % 8192) k.val)) (fun k => Ideal.sin (angle ((row t κ).val % 8192) k.val))
    (fun _ => rfl) (fun _ => rfl) l

theorem keys_block (κ : Fin 1024) (l : Fin 512) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 κ l) : EReal)
      = keyArray m c (ix2 (row t κ) l) := by
  rw [keys_tile]
  unfold tile
  simp only [blk0, blk1, blk2k, blk4, blk12, blk14c, blk14s]
  have h := turned_rotated (fun l => projected m c (row t κ) ⟨512 + l.val, by omega⟩) (fun e => arg4 m c (ix1 e)) 1 zero_le_one (EReal.coe_ne_top 1)
    _ (fun _ _ => rfl) _ _ (fun k => Ideal.cos (angle ((row t κ).val % 8192) k.val)) (fun k => Ideal.sin (angle ((row t κ).val % 8192) k.val))
    (fun _ => rfl) (fun _ => rfl) l
  simp only [mul_one] at h
  exact h

/-- A tile row's product with the weights' later columns. -/
theorem product_block (κ : Fin 1024) (l : Fin 2048) (hl : l.val < 1920) (hl' : 1024 ≤ l.val) :
    (∑ i, rms c1024 (fun j => (iblk m c 0 t : Vec Ideal S1024x1024 .f32) (ix2 κ j)) (fun i => (iblk m c 1 t : Vec Ideal S1x1024 .f32) (ix2 0 i)) i
      * (iblk m c 2 t : Vec Ideal S1024x2048 .bf16) (ix2 i l) : EReal) = projected m c (row t κ) ⟨l.val, by omega⟩ := by
  simp only [blk0, blk1, fun i => blk2v m c t i l hl hl']
  rfl

theorem values_block (κ : Fin 1024) (l : Fin 512) :
    (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 κ l) : EReal)
      = valueArray m c (ix2 (row t κ) l) := by
  rw [values_tile]
  refine (product_block m c t κ ⟨l.val + 1024, by omega⟩ (by show l.val + 1024 < 1920; omega) (Nat.le_add_left _ _)).trans ?_
  exact congrArg (projected m c (row t κ)) (Fin.ext (Nat.add_comm _ _))

theorem latent_block (y : Fin 512) (κ : Fin 1024) :
    (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 y κ) : EReal)
      = latentArray m c (ix2 y (row t κ)) := by
  rw [latent_values_tile]
  have h : ∀ j : Fin 128, _ := fun j => product_block m c t κ ⟨1792 + j.val, by omega⟩ (by show 1792 + j.val < 1920; omega) (by show 1024 ≤ 1792 + j.val; omega)
  simp only [h, blk6, blk9]
  rfl

end

theorem row_index (y : S1024x512.Idx) : y = (ix2 (y 0) (y 1) : S1024x512.Idx) := by
  funext a
  match a with
  | ⟨0, _⟩ => rfl
  | ⟨1, _⟩ => rfl

theorem column_index (y : S512x1024.Idx) : y = (ix2 (y 0) (y 1) : S512x1024.Idx) := by
  funext a
  match a with
  | ⟨0, _⟩ => rfl
  | ⟨1, _⟩ => rfl

theorem final_queries : (dats m 0 c).arrAt 16 cfg0.N = queryArray m c := by
  refine (dats m 0 c).arrAt_eq_of_covers 16 _ (by decide +kernel) fun t hf y => ?_
  blk_simp
  rw [after0_16, row_index y]
  exact (queries_block m c t (y 0) (y 1)).trans (congrArg (queryArray m c) (emb16 t (y 0) (y 1)).symm)

theorem final_keys : (dats m 0 c).arrAt 17 cfg0.N = keyArray m c := by
  refine (dats m 0 c).arrAt_eq_of_covers 17 _ (by decide +kernel) fun t hf y => ?_
  blk_simp
  rw [after0_17, row_index y]
  exact (keys_block m c t (y 0) (y 1)).trans (congrArg (keyArray m c) (emb17 t (y 0) (y 1)).symm)

theorem final_values : (dats m 0 c).arrAt 18 cfg0.N = valueArray m c := by
  refine (dats m 0 c).arrAt_eq_of_covers 18 _ (by decide +kernel) fun t hf y => ?_
  blk_simp
  rw [after0_18, row_index y]
  exact (values_block m c t (y 0) (y 1)).trans (congrArg (valueArray m c) (emb18 t (y 0) (y 1)).symm)

theorem final_latent : (dats m 0 c).arrAt 21 cfg0.N = latentArray m c := by
  refine (dats m 0 c).arrAt_eq_of_covers 21 _ (by decide +kernel) fun t hf y => ?_
  blk_simp
  rw [after0_21, column_index y]
  exact (latent_block m c t (y 0) (y 1)).trans (congrArg (latentArray m c) (emb21 t (y 0) (y 1)).symm)

end Cert.Proj

end
-- ==== Proof.ProjRef.lean ====
/- The projections' reference, element by element. -/
module

public import proofs.«01_k».proof.Proof.Gen.Reference4Ideal.Run
public import proofs.«01_k».proof.Proof.ProjAlg
public import proofs.«01_k».proof.Proof.PostRef

@[expose] public section

noncomputable section

namespace Cert.Proj.Ref

open Cert.Post (rms c1024 c128 eps)
open Cert.Post.Ref (div1024 div128)
open Idealize.ShloMosaic Idealize.ShloMosaic.TcCoe
open Cert.Reference4Ideal Cert.Reference4Ideal.Gen Cert.Reference4Ideal.Value

theorem ofBits64 : Ideal.ofBits FTy.f32 0x42800000#32 = ((64 : ℝ) : EReal) := by
  simp only [Ideal.ofBits, Ideal.ieee]
  rw [if_neg (by decide), if_neg (by decide), if_neg (by decide)]
  rw [show (BitVec.extractLsb' 23 8 0x42800000#32).toNat = 133 from by decide,
    show (BitVec.extractLsb' 0 23 0x42800000#32).toNat = 0 from by decide]
  norm_num

theorem c64_eq : c64 = ((1 / 64 : ℝ) : EReal) := by
  simp only [c64, Ideal.ofBits, Ideal.ieee]
  rw [if_neg (by decide), if_neg (by decide), if_neg (by decide)]
  rw [show (BitVec.extractLsb' 23 8 0x3C800000#32).toNat = 121 from by decide,
    show (BitVec.extractLsb' 0 23 0x3C800000#32).toNat = 0 from by decide]
  norm_num

theorem div64 (x : EReal) : Ideal.div x (Ideal.ofBits FTy.f32 0x42800000#32) = x * c64 := by
  rw [ofBits64, Ideal.div_coe (by norm_num), c64_eq]

variable (L : Valuation τ sig (Elt Ideal))

def arg0 : FVec Ideal S4x8192x1024 .f32 := L (Proc.devRef .tc main_arg0)
def arg1 : FVec Ideal S1024 .f32 := L (Proc.devRef .tc main_arg1)
def arg2 : FVec Ideal S1024x1952 .f32 := L (Proc.devRef .tc main_arg2)
def arg3 : FVec Ideal S64 .f32 := L (Proc.devRef .tc main_arg3)
def arg4 : FVec Ideal S64 .f32 := L (Proc.devRef .tc main_arg4)
def arg6 : FVec Ideal S128 .f32 := L (Proc.devRef .tc main_arg6)
def arg8 : FVec Ideal S128x1024 .f32 := L (Proc.devRef .tc main_arg8)

def v14 : FVec Ideal S4x8192x1952 .f32 := res_main_v14 L
def v19 : FVec Ideal S4x8192x128 .f32 := res_main_v19 L
def v21 : FVec Ideal S4x8192x8x64 .f32 := res_main_v21 L
def v22 : FVec Ideal S4x8192x8x64 .f32 := res_main_v22 L
def v35 : FVec Ideal S4x8192x8x64 .f32 := res_main_v35 L
def v90 : FVec Ideal S4x8192x8x64 .f32 := res_main_v90 L
def v54 : FVec Ideal S8192x1x8 .f32 := res_main_v54 L
def v56 : FVec Ideal S8192x1x8 .f32 := res_main_v56 L
def v109 : FVec Ideal S8192x1x8 .f32 := res_main_v109 L
def v111 : FVec Ideal S8192x1x8 .f32 := res_main_v111 L

/-- A token's projection. -/
def proj (n : Fin 4) (s : Fin 8192) (j : Fin 1952) : EReal :=
  raw (fun j => arg0 L (ix3 n s j)) (fun i => arg1 L (ix1 i)) (fun i j => arg2 L (ix2 i j)) j

theorem head_lane : ∀ l : Fin 512, l.val / 128 * 2 + (place ⟨l.val % 128, by omega⟩).val / 64 = (hd l).val := by
  decide +kernel

theorem v14_apply (n : Fin 4) (s : Fin 8192) (j : Fin 1952) : (v14 L (ix3 n s j) : EReal) = proj L n s j := by
  unfold v14 res_main_v14
  pointwise
  simp only [div1024]
  rfl

theorem v21_apply (n : Fin 4) (s : Fin 8192) (h : Fin 8) (e : Fin 64) :
    (v21 L (ix4 n s h e) : EReal) = proj L n s ⟨h.val * 64 + e.val, by omega⟩ := by
  rw [← v14_apply]
  unfold v21 res_main_v21
  pointwise
  rfl

theorem v22_apply (n : Fin 4) (s : Fin 8192) (h : Fin 8) (e : Fin 64) :
    (v22 L (ix4 n s h e) : EReal) = proj L n s ⟨512 + (h.val * 64 + e.val), by omega⟩ := by
  rw [← v14_apply]
  unfold v22 res_main_v22
  pointwise
  rfl

/-- The heads' norm. -/
def norm (x : FVec Ideal S4x8192x8x64 .f32) (g : FVec Ideal S64 .f32) : FVec Ideal S4x8192x8x64 .f32 :=
  mulf (mulf x (broadcastInDim S4x8192x8x64 ![0, 1, 2, 3] bcast_S4x8192x8x1_S4x8192x8x64_0_1_2_3 (Host.rsqrt (addf (Host.divf
    (broadcastInDim S4x8192x8x1 ![0, 1, 2] bcast_S4x8192x8_S4x8192x8x1_0_1_2 (Host.reduceAdd (mulf x x) (constant S_ .f32 0x00000000#32) reducesTo_S4x8192x8x64_S4x8192x8_d3 h_S_))
    (broadcastInDim S4x8192x8x1 ![] bcast_S_S4x8192x8x1 (constant S_ .f32 0x42800000#32))) (broadcastInDim S4x8192x8x1 ![] bcast_S_S4x8192x8x1 (constant S_ .f32 0x358637BD#32))))))
    (broadcastInDim S4x8192x8x64 ![0, 1, 2, 3] bcast_S1x1x1x64_S4x8192x8x64_0_1_2_3 (broadcastInDim S1x1x1x64 ![3] bcast_S64_S1x1x1x64_3 g))

theorem norm_apply (x : FVec Ideal S4x8192x8x64 .f32) (g : FVec Ideal S64 .f32) (n : Fin 4) (s : Fin 8192) (h : Fin 8) (e : Fin 64) :
    (norm x g (ix4 n s h e) : EReal) = part (x (ix4 n s h e)) (∑ i : Fin 64, x (ix4 n s h i) * x (ix4 n s h i)) (g (ix1 e)) := by
  pointwise [norm]
  simp only [div64]
  rfl

theorem v35_apply (n : Fin 4) (s : Fin 8192) (h : Fin 8) (e : Fin 64) :
    (v35 L (ix4 n s h e) : EReal) = unit (fun l => proj L n s ⟨l.val, by omega⟩) (fun e => arg3 L (ix1 e)) h e := by
  refine (show _ = norm (v21 L) (arg3 L) (ix4 n s h e) from rfl).trans ?_
  rw [norm_apply]
  simp only [v21_apply]
  rfl

theorem v90_apply (n : Fin 4) (s : Fin 8192) (h : Fin 8) (e : Fin 64) :
    (v90 L (ix4 n s h e) : EReal) = unit (fun l => proj L n s ⟨512 + l.val, by omega⟩) (fun e => arg4 L (ix1 e)) h e := by
  refine (show _ = norm (v22 L) (arg4 L) (ix4 n s h e) from rfl).trans ?_
  rw [norm_apply]
  simp only [v22_apply]
  rfl

theorem v54_apply (s : Fin 8192) (k : Fin 8) : (v54 L (ix3 s 0 k) : EReal) = Ideal.cos (angle s.val k.val) := by
  unfold v54 res_main_v54 res_main_v52
  pointwise
  rfl

theorem v56_apply (s : Fin 8192) (k : Fin 8) : (v56 L (ix3 s 0 k) : EReal) = Ideal.sin (angle s.val k.val) := by
  unfold v56 res_main_v56 res_main_v52
  pointwise
  rfl

theorem v109_apply (s : Fin 8192) (k : Fin 8) : (v109 L (ix3 s 0 k) : EReal) = Ideal.cos (angle s.val k.val) := by
  unfold v109 res_main_v109 res_main_v107
  pointwise
  rfl

theorem v111_apply (s : Fin 8192) (k : Fin 8) : (v111 L (ix3 s 0 k) : EReal) = Ideal.sin (angle s.val k.val) := by
  unfold v111 res_main_v111 res_main_v107
  pointwise
  rfl

/-- The heads rotated. -/
def turn (x : FVec Ideal S4x8192x8x64 .f32) (cos sin : FVec Ideal S8192x1x8 .f32) : FVec Ideal S4x8192x8x64 .f32 :=
  let y : FVec Ideal S4x8192x8x16 .f32 := extractStridedSlice S4x8192x8x16 ![0, 0, 0, 0] x slices_S4x8192x8x64_S4x8192x8x16_0_0_0_0
  let a : FVec Ideal S4x8192x8x8 .f32 := extractStridedSlice S4x8192x8x8 ![0, 0, 0, 0] y slices_S4x8192x8x16_S4x8192x8x8_0_0_0_0
  let b : FVec Ideal S4x8192x8x8 .f32 := extractStridedSlice S4x8192x8x8 ![0, 0, 0, 8] y slices_S4x8192x8x16_S4x8192x8x8_0_0_0_8
  let C : FVec Ideal S4x8192x8x8 .f32 := broadcastInDim S4x8192x8x8 ![0, 1, 2, 3] bcast_S1x8192x1x8_S4x8192x8x8_0_1_2_3 (broadcastInDim S1x8192x1x8 ![1, 2, 3] bcast_S8192x1x8_S1x8192x1x8_1_2_3 cos)
  let S : FVec Ideal S4x8192x8x8 .f32 := broadcastInDim S4x8192x8x8 ![0, 1, 2, 3] bcast_S1x8192x1x8_S4x8192x8x8_0_1_2_3 (broadcastInDim S1x8192x1x8 ![1, 2, 3] bcast_S8192x1x8_S1x8192x1x8_1_2_3 sin)
  concatenate S4x8192x8x64 3 [⟨S4x8192x8x16, (concatenate S4x8192x8x16 3 [⟨S4x8192x8x8, subf (mulf a C) (mulf b S)⟩, ⟨S4x8192x8x8, addf (mulf b C) (mulf a S)⟩]
      concatenates_S4x8192x8x8_S4x8192x8x8_S4x8192x8x16_d3 : FVec Ideal S4x8192x8x16 .f32)⟩,
    ⟨S4x8192x8x48, (extractStridedSlice S4x8192x8x48 ![0, 0, 0, 16] x slices_S4x8192x8x64_S4x8192x8x48_0_0_0_16 : FVec Ideal S4x8192x8x48 .f32)⟩]
    concatenates_S4x8192x8x16_S4x8192x8x48_S4x8192x8x64_d3

theorem turn_apply (x : FVec Ideal S4x8192x8x64 .f32) (cos sin : FVec Ideal S8192x1x8 .f32) (n : Fin 4) (s : Fin 8192) (h : Fin 8) (e : Fin 64) :
    (turn x cos sin (ix4 n s h e) : EReal)
      = rotated (fun e => x (ix4 n s h e)) (fun k => cos (ix3 s 0 k)) (fun k => sin (ix3 s 0 k)) e := by
  unfold turn rotated
  dsimp only
  pointwise
  by_cases h8 : e.val < 8
  · rw [dif_pos (show e.val < 16 by omega), dif_pos h8, dif_pos h8]
    simp only [Nat.add_comm 8 e.val]
  · by_cases h16 : e.val < 16
    · rw [dif_pos h16, dif_neg h8, dif_neg h8, dif_pos h16]
      have e1 : (⟨8 + (e.val - 8), by omega⟩ : Fin 64) = e := Fin.ext (show 8 + (e.val - 8) = e.val by omega)
      rw [e1]
    · rw [dif_neg h16, dif_neg h8, dif_neg h16]
      have e1 : (⟨16 + (e.val - 16), by omega⟩ : Fin 64) = e := Fin.ext (show 16 + (e.val - 16) = e.val by omega)
      rw [e1]

/-- Heads in pairs: their rotated first halves, their other first elements, then the second halves. -/
def pairs (x : FVec Ideal S32768x4x2x64 .f32) : FVec Ideal S32768x512 .f32 :=
  shapeCast _ ((concatenate S32768x4x128 2 [
      ⟨S32768x4x16, (shapeCast _ (extractStridedSlice S32768x4x2x8 ![0, 0, 0, 0] x slices_S32768x4x2x64_S32768x4x2x8_0_0_0_0) shapeCasts_S32768x4x2x8_S32768x4x16 : FVec Ideal S32768x4x16 .f32)⟩,
      ⟨S32768x4x48, (shapeCast _ (extractStridedSlice S32768x4x2x24 ![0, 0, 0, 16] x slices_S32768x4x2x64_S32768x4x2x24_0_0_0_16) shapeCasts_S32768x4x2x24_S32768x4x48 : FVec Ideal S32768x4x48 .f32)⟩,
      ⟨S32768x4x16, (shapeCast _ (extractStridedSlice S32768x4x2x8 ![0, 0, 0, 8] x slices_S32768x4x2x64_S32768x4x2x8_0_0_0_8) shapeCasts_S32768x4x2x8_S32768x4x16 : FVec Ideal S32768x4x16 .f32)⟩,
      ⟨S32768x4x48, (shapeCast _ (extractStridedSlice S32768x4x2x24 ![0, 0, 0, 40] x slices_S32768x4x2x64_S32768x4x2x24_0_0_0_40) shapeCasts_S32768x4x2x24_S32768x4x48 : FVec Ideal S32768x4x48 .f32)⟩]
    concatenates_S32768x4x16_S32768x4x48_S32768x4x16_S32768x4x48_S32768x4x128_d2 : FVec Ideal S32768x4x128 .f32)) shapeCasts_S32768x4x128_S32768x512

theorem pairs_apply (x : FVec Ideal S32768x4x2x64 .f32) (r : Fin 32768) (l : Fin 512) :
    (pairs x (ix2 r l) : EReal) = x (ix4 r ⟨l.val / 128, by omega⟩ ⟨(place ⟨l.val % 128, by omega⟩).val / 64, by omega⟩
      ⟨(place ⟨l.val % 128, by omega⟩).val % 64, by omega⟩) := by
  pointwise [pairs]
  split_ifs
  all_goals
    refine congrArg₂ (fun a b => x (ix4 r ⟨l.val / 128, by omega⟩ a b)) (Fin.ext ?_) (Fin.ext ?_) <;>
      (simp only [place]; split_ifs <;> omega)

/-- The queries in pairs of heads, scaled. -/
def queryPairs (x : FVec Ideal S4x8192x8x64 .f32) : FVec Ideal S32768x4x2x64 .f32 :=
  shapeCast _ (mulf (mulf x (broadcastInDim S4x8192x8x64 ![] bcast_S_S4x8192x8x64 (constant S_ .f32 0x3E000000#32)))
    (broadcastInDim S4x8192x8x64 ![] bcast_S_S4x8192x8x64 (Host.divf (constant S_ .f32 0x3F800000#32) (Host.log (constant S_ .f32 0x40000000#32))))) shapeCasts_S4x8192x8x64_S32768x4x2x64

theorem queryPairs_apply (x : FVec Ideal S4x8192x8x64 .f32) (r : Fin 32768) (a : Fin 4) (b : Fin 2) (e : Fin 64) :
    (queryPairs x (ix4 r a b e) : EReal) = x (ix4 ⟨r.val / 8192, by omega⟩ ⟨r.val % 8192, by omega⟩ ⟨a.val * 2 + b.val, by omega⟩ e) * qscale := by
  pointwise [queryPairs]
  exact mul_assoc _ _ _

/-- The keys in pairs of heads. -/
def keyPairs (x : FVec Ideal S4x8192x8x64 .f32) : FVec Ideal S32768x4x2x64 .f32 := shapeCast _ x shapeCasts_S4x8192x8x64_S32768x4x2x64

theorem keyPairs_apply (x : FVec Ideal S4x8192x8x64 .f32) (r : Fin 32768) (a : Fin 4) (b : Fin 2) (e : Fin 64) :
    (keyPairs x (ix4 r a b e) : EReal) = x (ix4 ⟨r.val / 8192, by omega⟩ ⟨r.val % 8192, by omega⟩ ⟨a.val * 2 + b.val, by omega⟩ e) := by
  pointwise [keyPairs]

/-- A row's projection. -/
def rowProj (r : Fin 32768) (j : Fin 1952) : EReal := proj L ⟨r.val / 8192, by omega⟩ ⟨r.val % 8192, by omega⟩ j

theorem queries_apply (r : Fin 32768) (l : Fin 512) :
    (pairs (queryPairs (turn (v35 L) (v54 L) (v56 L))) (ix2 r l) : EReal)
      = headRow (fun l => rowProj L r ⟨l.val, by omega⟩) (fun e => arg3 L (ix1 e)) (r.val % 8192) l * qscale := by
  rw [pairs_apply, queryPairs_apply, turn_apply]
  simp only [v35_apply, v54_apply, v56_apply]
  refine congrArg (fun h => rotated (unit (fun l => rowProj L r ⟨l.val, by omega⟩) (fun e => arg3 L (ix1 e)) h) (fun k => Ideal.cos (angle (r.val % 8192) k.val))
    (fun k => Ideal.sin (angle (r.val % 8192) k.val)) _ * qscale) (Fin.ext ?_) |>.trans (congrArg (fun e => rotated (unit (fun l => rowProj L r ⟨l.val, by omega⟩) (fun e => arg3 L (ix1 e)) (hd l)) (fun k => Ideal.cos (angle (r.val % 8192) k.val))
    (fun k => Ideal.sin (angle (r.val % 8192) k.val)) e * qscale) (Fin.ext (el_lane l)))
  exact head_lane l

theorem keys_apply (r : Fin 32768) (l : Fin 512) :
    (pairs (keyPairs (turn (v90 L) (v109 L) (v111 L))) (ix2 r l) : EReal)
      = headRow (fun l => rowProj L r ⟨512 + l.val, by omega⟩) (fun e => arg4 L (ix1 e)) (r.val % 8192) l := by
  rw [pairs_apply, keyPairs_apply, turn_apply]
  simp only [v90_apply, v109_apply, v111_apply]
  refine congrArg (fun h => rotated (unit (fun l => rowProj L r ⟨512 + l.val, by omega⟩) (fun e => arg4 L (ix1 e)) h) (fun k => Ideal.cos (angle (r.val % 8192) k.val))
    (fun k => Ideal.sin (angle (r.val % 8192) k.val)) _) (Fin.ext ?_) |>.trans (congrArg (fun e => rotated (unit (fun l => rowProj L r ⟨512 + l.val, by omega⟩) (fun e => arg4 L (ix1 e)) (hd l)) (fun k => Ideal.cos (angle (r.val % 8192) k.val))
    (fun k => Ideal.sin (angle (r.val % 8192) k.val)) e) (Fin.ext (el_lane l)))
  exact head_lane l

/-- The dilated attention's values. -/
def vals (x : FVec Ideal S4x8192x1952 .f32) : FVec Ideal S32768x512 .f32 :=
  shapeCast _ (extractStridedSlice S4x8192x512 ![0, 0, 1024] x slices_S4x8192x1952_S4x8192x512_0_0_1024) shapeCasts_S4x8192x512_S32768x512

theorem values_apply (r : Fin 32768) (l : Fin 512) : (vals (v14 L) (ix2 r l) : EReal) = rowProj L r ⟨1024 + l.val, by omega⟩ := by
  rw [rowProj, ← v14_apply]
  pointwise [vals]

/-- The latent attention's values, transposed. -/
def latent (x : FVec Ideal S4x8192x128 .f32) (g : FVec Ideal S128 .f32) (W : FVec Ideal S128x1024 .f32) : FVec Ideal S512x32768 .bf16 :=
  truncf .bf16 (transpose S512x32768 [1, 0] (shapeCast _ (extractStridedSlice S4x8192x8x64 ![0, 0, 0, 64] (shapeCast _ (Host.dotGeneral dot_S4x8192x128_S128x1024_S4x8192x1024_2_0_01_1_n_n none
    (mulf (mulf x (broadcastInDim S4x8192x128 ![0, 1, 2] bcast_S4x8192x1_S4x8192x128_0_1_2 (Host.rsqrt (addf (Host.divf
      (broadcastInDim S4x8192x1 ![0, 1] bcast_S4x8192_S4x8192x1_0_1 (Host.reduceAdd (mulf x x) (constant S_ .f32 0x00000000#32) reducesTo_S4x8192x128_S4x8192_d2 h_S_))
      (broadcastInDim S4x8192x1 ![] bcast_S_S4x8192x1 (constant S_ .f32 0x43000000#32))) (broadcastInDim S4x8192x1 ![] bcast_S_S4x8192x1 (constant S_ .f32 0x358637BD#32))))))
      (broadcastInDim S4x8192x128 ![0, 1, 2] bcast_S1x1x128_S4x8192x128_0_1_2 (broadcastInDim S1x1x128 ![2] bcast_S128_S1x1x128_2 g))) W)
    shapeCasts_S4x8192x1024_S4x8192x8x128 : FVec Ideal S4x8192x8x128 .f32) slices_S4x8192x8x128_S4x8192x8x64_0_0_0_64) shapeCasts_S4x8192x8x64_S32768x512 : FVec Ideal S32768x512 .f32)
    transposes_S32768x512_S512x32768_1_0) bitsLt_bf16_f32

theorem v19_apply (n : Fin 4) (s : Fin 8192) (j : Fin 128) : (v19 L (ix3 n s j) : EReal) = proj L n s ⟨1792 + j.val, by omega⟩ := by
  rw [← v14_apply]
  unfold v19 res_main_v19
  pointwise
  rfl

theorem latent_of (x : FVec Ideal S4x8192x128 .f32) (g : FVec Ideal S128 .f32) (W : FVec Ideal S128x1024 .f32) (y : Fin 512) (r : Fin 32768) :
    (latent x g W (ix2 y r) : EReal) = ∑ i, rms c128 (fun j => x (ix3 ⟨r.val / 8192, by omega⟩ ⟨r.val % 8192, by omega⟩ j)) (fun i => g (ix1 i)) i
      * W (ix2 i ⟨y.val / 64 * 128 + (64 + y.val % 64), by omega⟩) := by
  pointwise [latent]
  simp only [div128]
  rfl

theorem latent_apply (y : Fin 512) (r : Fin 32768) :
    (latent (v19 L) (arg6 L) (arg8 L) (ix2 y r) : EReal)
      = ∑ i, rms c128 (fun j => rowProj L r ⟨1792 + j.val, by omega⟩) (fun i => arg6 L (ix1 i)) i
        * arg8 L (ix2 i ⟨y.val / 64 * 128 + (64 + y.val % 64), by omega⟩) := by
  rw [latent_of]
  simp only [v19_apply]
  rfl

end Cert.Proj.Ref

end
-- ==== Proof.ProjClaim.lean ====
/- The projections' claims. -/
module

public import proofs.«01_k».proof.Defs
public import proofs.«01_k».proof.Proof.Gen.Kernel4
public import proofs.«01_k».proof.Proof.ProjFinal
public import proofs.«01_k».proof.Proof.ProjRef

@[expose] public section

noncomputable section

namespace Cert.Proj

open Idealize.ShloMosaic Idealize.SL.Sem

section
variable {F : FTy → Type} [FloatOps F]
open Cert.Kernel4.Gen Cert.Kernel4Ideal.Gen

set_option maxHeartbeats 4000000 in
/-- The kernel's bodies are its idealization's, whose text is its own. -/
theorem bodies_eq : Cert.Kernel4.defs₀ (F := F) = Cert.Kernel4Ideal.defs₀ (F := F) := by
  unfold Cert.Kernel4.defs₀ Cert.Kernel4Ideal.defs₀
  refine congrArg Defs.onTc (funext fun l => funext fun a => ?_)
  match l, a with
  | 0, (t, s) => rfl

set_option maxHeartbeats 4000000 in
theorem defs_eq : Cert.Kernel4.defs (F := F) = Cert.Kernel4Ideal.defs (F := F) := by
  unfold Cert.Kernel4.defs Cert.Kernel4Ideal.defs
  exact congrArg (Pipeline.defs Cert.Kernel4Ideal.pcfgs) bodies_eq
end

set_option maxHeartbeats 4000000 in
/-- The kernel's frame, from the run of its idealization. -/
theorem frame_kernel : Cert.quiescent_Kernel4 := fun m ρ _ => by
  rw [defs_eq]
  exact Cert.Kernel4Ideal.Gen.frame (F := Bits) m ρ

theorem frame_ideal : Cert.quiescent_Kernel4Ideal := fun m ρ _ => Cert.Kernel4Ideal.Gen.frame (F := Ideal) m ρ

theorem frame_reference : Cert.quiescent_Reference4Ideal := fun m ρ _ =>
  (θ_run _ _ _).mono (fun r h => ⟨fun c => (h c).2.2.2.2, sem_eq_zero_of_no_sems (by decide) r.2⟩) (Cert.Reference4Ideal.Value.run m ρ)

theorem index_rows (y : Cert.Reference4Ideal.S32768x512.Idx) : y = (ix2 (y 0) (y 1) : Cert.Reference4Ideal.S32768x512.Idx) := by
  funext a
  match a with
  | ⟨0, _⟩ => rfl
  | ⟨1, _⟩ => rfl

theorem index_columns (y : Cert.Reference4Ideal.S512x32768.Idx) : y = (ix2 (y 0) (y 1) : Cert.Reference4Ideal.S512x32768.Idx) := by
  funext a
  match a with
  | ⟨0, _⟩ => rfl
  | ⟨1, _⟩ => rfl

section
variable (m : (ℓ : Loc Cert.Kernel4Ideal.nD Cert.Kernel4Ideal.τ Cert.Kernel4Ideal.sig) → Buf (Elt Ideal) ℓ) (c : Dev Cert.Kernel4Ideal.nD)
variable (L : Valuation Cert.Reference4Ideal.τ Cert.Reference4Ideal.sig (Elt Ideal))

/-- The reference starts from the kernel's arguments. -/
structure Agrees : Prop where
  h0 : Ref.arg0 L = arg0 m c
  h1 : Ref.arg1 L = arg1 m c
  h2 : Ref.arg2 L = arg2 m c
  h3 : Ref.arg3 L = arg3 m c
  h4 : Ref.arg4 L = arg4 m c
  h6 : Ref.arg6 L = arg6 m c
  h8 : Ref.arg8 L = arg8 m c

variable {m c L} (h : Agrees m c L)
include h

theorem rowProj_eq : Ref.rowProj L = projected m c := by
  funext r j
  unfold Ref.rowProj Ref.proj
  rw [h.h0, h.h1, h.h2]
  rfl

theorem queries_eq : Ref.pairs (Ref.queryPairs (Ref.turn (Ref.v35 L) (Ref.v54 L) (Ref.v56 L))) = queryArray m c := by
  funext y
  rw [index_rows y]
  refine (Ref.queries_apply L (y 0) (y 1)).trans ?_
  rw [rowProj_eq h, h.h3]
  rfl

theorem keys_eq : Ref.pairs (Ref.keyPairs (Ref.turn (Ref.v90 L) (Ref.v109 L) (Ref.v111 L))) = keyArray m c := by
  funext y
  rw [index_rows y]
  refine (Ref.keys_apply L (y 0) (y 1)).trans ?_
  rw [rowProj_eq h, h.h4]
  rfl

theorem values_eq : Ref.vals (Ref.v14 L) = valueArray m c := by
  funext y
  rw [index_rows y]
  refine (Ref.values_apply L (y 0) (y 1)).trans ?_
  rw [rowProj_eq h]
  rfl

theorem latent_eq : Ref.latent (Ref.v19 L) (Ref.arg6 L) (Ref.arg8 L) = latentArray m c := by
  funext y
  rw [index_columns y]
  refine (Ref.latent_apply L (y 0) (y 1)).trans ?_
  rw [rowProj_eq h, h.h6, h.h8]
  rfl
end

section
open Cert.Reference4Ideal Cert.Reference4Ideal.Gen Cert.Reference4Ideal.Value
variable (L : Valuation τ sig (Elt Ideal))

theorem res151 : res_main_v151 L = Ref.queryPairs (Ref.turn (Ref.v35 L) (Ref.v54 L) (Ref.v56 L)) := rfl
theorem res162 : res_main_v162 L = Ref.keyPairs (Ref.turn (Ref.v90 L) (Ref.v109 L) (Ref.v111 L)) := rfl
end

theorem projections : Cert.algebraic_Kernel4Ideal_Reference4Ideal := fun m ρ m' ρ' _ heq => by
  have ha : ∀ c, Agrees m c (StableHlo.launchContents m' c) := fun c => by
    obtain ⟨h0, h1, h2, h3, h4, h5, h6, h7, h8, h9, h10⟩ := heq c
    exact ⟨h0, h1, h2, h3, h4, h6, h8⟩
  refine ⟨fun c => queryArray m c, fun c => keyArray m c, fun c => valueArray m c, fun c => latentArray m c,
    (θ_run _ _ _).mono (fun r h c => ⟨(h c).1.trans (final_queries m c), (h c).2.1.trans (final_keys m c), (h c).2.2.1.trans (final_values m c),
      (h c).2.2.2.2.2.1.trans (final_latent m c), (h c).2.2.2.2.2.2⟩) (Cert.Kernel4Ideal.Value.run_blocks m ρ),
    (θ_run _ _ _).mono (fun r h c => ⟨(h c).1.trans ?_, (h c).2.1.trans ?_, (h c).2.2.1.trans ?_, (h c).2.2.2.1.trans ?_, (h c).2.2.2.2⟩)
      (Cert.Reference4Ideal.Value.run m' ρ')⟩
  · rw [res151]
    exact queries_eq (ha c)
  · rw [res162]
    exact keys_eq (ha c)
  · exact values_eq (ha c)
  · exact latent_eq (ha c)

end Cert.Proj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_qk
public import proofs.«01_k».proof.Proof.MlaClaim
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.PostClaim
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.MemClaim
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.ProjClaim

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_qk.Gen.facts,
  Mla.frame_kernel, fun m ρ _ => Mla.run_frame (F := Ideal) m ρ, fun m ρ _ => Mla.run_frame (F := Ideal) m ρ,
  fun m ρ _ => Mla.frame_reference m ρ, fun m ρ _ => Mla.frame_reference m ρ,
  Post.frame_kernel, Post.frame_ideal, Post.frame_reference,
  Mem.frame_kernel, Mem.frame_ideal, Mem.frame_reference,
  Proj.frame_kernel, Proj.frame_ideal, Proj.frame_reference, trivial, Mla.attention, trivial, Post.second_half, trivial,
  Mem.keys_and_values, trivial, Proj.projections⟩

end Cert.Proof

end
